-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.BufferStatement Cert.KernelIdeal.S2x8x2x6016 Cert.KernelIdeal.S2x8x1x6016
  ∧ IdealRules.bf16_pair.BufferStatement Cert.KernelIdeal.S2x192x2x256 Cert.KernelIdeal.S2x192x1x256
  ∧ IdealRules.bf16_pair.Statement Cert.KernelIdeal.S16x128 Cert.KernelIdeal.S8x128
  ∧ IdealRules.bf16_pair.Statement Cert.KernelIdeal.S1x8x2x128 Cert.KernelIdeal.S1x8x1x128
  ∧ IdealRules.bf16_pair.Statement Cert.KernelIdeal.S512x256 Cert.KernelIdeal.S256x256
  ∧ IdealRules.bf16_pair.PackStatement Cert.KernelIdeal.S8x128
  ∧ IdealRules.bf16_pair.Statement Cert.KernelIdeal.S1x1x2x128 Cert.KernelIdeal.S1x1x1x128
  ∧ IdealRules.bf16_pair.Statement Cert.KernelIdeal.S1x8x2x256 Cert.KernelIdeal.S1x8x1x256
  ∧ IdealRules.bf16_pair.Statement Cert.KernelIdeal.S16x256 Cert.KernelIdeal.S8x256

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x1x12032 : Shape := ⟨3, ![16, 1, 12032]⟩
abbrev S30720x6016 : Shape := ⟨2, ![30720, 6016]⟩
abbrev S30720x188 : Shape := ⟨2, ![30720, 188]⟩
abbrev S22560 : Shape := ⟨1, ![22560]⟩
abbrev S_ : Shape := ⟨0, ![]⟩
abbrev S2x32x128 : Shape := ⟨3, ![2, 32, 128]⟩
abbrev S8x128 : Shape := ⟨2, ![8, 128]⟩
abbrev S2x256 : Shape := ⟨2, ![2, 256]⟩
abbrev S480x47 : Shape := ⟨2, ![480, 47]⟩
abbrev S480x128 : Shape := ⟨2, ![480, 128]⟩
abbrev S480x1x128 : Shape := ⟨3, ![480, 1, 128]⟩
abbrev S16x12032 : Shape := ⟨2, ![16, 12032]⟩
abbrev S30720x256 : Shape := ⟨2, ![30720, 256]⟩
abbrev S1 : Shape := ⟨1, ![1]⟩
abbrev S16x30720 : Shape := ⟨2, ![16, 30720]⟩
abbrev S512x6016 : Shape := ⟨2, ![512, 6016]⟩
abbrev S512x256 : Shape := ⟨2, ![512, 256]⟩
abbrev S8x1x128 : Shape := ⟨3, ![8, 1, 128]⟩
abbrev S16x512 : Shape := ⟨2, ![16, 512]⟩
abbrev S2x8x6016 : Shape := ⟨3, ![2, 8, 6016]⟩
abbrev S2x192x256 : Shape := ⟨3, ![2, 192, 256]⟩
abbrev S16x128 : Shape := ⟨2, ![16, 128]⟩
abbrev S16x128x1 : Shape := ⟨3, ![16, 128, 1]⟩
abbrev S1x8x128 : Shape := ⟨3, ![1, 8, 128]⟩
abbrev S1x1x128 : Shape := ⟨3, ![1, 1, 128]⟩
abbrev S1x128 : Shape := ⟨2, ![1, 128]⟩
abbrev S8x128x1 : Shape := ⟨3, ![8, 128, 1]⟩
abbrev S128x256 : Shape := ⟨2, ![128, 256]⟩
abbrev S256x256 : Shape := ⟨2, ![256, 256]⟩
abbrev S1x32x128 : Shape := ⟨3, ![1, 32, 128]⟩
abbrev S32x128 : Shape := ⟨2, ![32, 128]⟩
abbrev S16x256 : Shape := ⟨2, ![16, 256]⟩
abbrev S512x128 : Shape := ⟨2, ![512, 128]⟩
abbrev S128x128 : Shape := ⟨2, ![128, 128]⟩
abbrev S256x128 : Shape := ⟨2, ![256, 128]⟩
abbrev S32x128x1 : Shape := ⟨3, ![32, 128, 1]⟩
abbrev S1x8x256 : Shape := ⟨3, ![1, 8, 256]⟩
abbrev S8x256 : Shape := ⟨2, ![8, 256]⟩

abbrev nBuf : Space → Nat
  | .hbm => 19
  | .vmem => 14
  | .smem => 1
  | _ => 0

abbrev bufTy : (tb : Table) → Fin (tcTables nBuf tb) → BufTy
  | .hbm, ⟨0, _⟩ => ⟨S16x1x12032, .bf16⟩
  | .hbm, ⟨1, _⟩ => ⟨S30720x6016, .i8⟩
  | .hbm, ⟨2, _⟩ => ⟨S30720x188, .i8⟩
  | .hbm, ⟨3, _⟩ => ⟨S22560, .f32⟩
  | .hbm, ⟨4, _⟩ => ⟨S_, .f32⟩
  | .hbm, ⟨5, _⟩ => ⟨S2x32x128, .i8⟩
  | .hbm, ⟨6, _⟩ => ⟨S8x128, .i32⟩
  | .hbm, ⟨7, _⟩ => ⟨S2x256, .i32⟩
  | .hbm, ⟨8, _⟩ => ⟨S480x47, .f32⟩
  | .hbm, ⟨9, _⟩ => ⟨S_, .i32⟩
  | .hbm, ⟨10, _⟩ => ⟨S_, .f32⟩
  | .hbm, ⟨11, _⟩ => ⟨S480x128, .f32⟩
  | .hbm, ⟨12, _⟩ => ⟨S480x1x128, .f32⟩
  | .hbm, ⟨13, _⟩ => ⟨S16x12032, .bf16⟩
  | .hbm, ⟨14, _⟩ => ⟨S_, .i32⟩
  | .hbm, ⟨15, _⟩ => ⟨S_, .i8⟩
  | .hbm, ⟨16, _⟩ => ⟨S30720x256, .i8⟩
  | .hbm, ⟨17, _⟩ => ⟨S1, .f32⟩
  | .hbm, ⟨18, _⟩ => ⟨S16x30720, .bf16⟩
  | .local _ .vmem, ⟨0, _⟩ => ⟨S16x12032, .bf16⟩
  | .local _ .vmem, ⟨1, _⟩ => ⟨S512x6016, .i8⟩
  | .local _ .vmem, ⟨2, _⟩ => ⟨S512x6016, .i8⟩
  | .local _ .vmem, ⟨3, _⟩ => ⟨S512x256, .i8⟩
  | .local _ .vmem, ⟨4, _⟩ => ⟨S512x256, .i8⟩
  | .local _ .vmem, ⟨5, _⟩ => ⟨S8x1x128, .f32⟩
  | .local _ .vmem, ⟨6, _⟩ => ⟨S8x1x128, .f32⟩
  | .local _ .vmem, ⟨7, _⟩ => ⟨S2x32x128, .i8⟩
  | .local _ .vmem, ⟨8, _⟩ => ⟨S8x128, .i32⟩
  | .local _ .vmem, ⟨9, _⟩ => ⟨S2x256, .i32⟩
  | .local _ .vmem, ⟨10, _⟩ => ⟨S16x512, .bf16⟩
  | .local _ .vmem, ⟨11, _⟩ => ⟨S16x512, .bf16⟩
  | .local _ .vmem, ⟨12, _⟩ => ⟨S2x8x6016, .i32⟩
  | .local _ .vmem, ⟨13, _⟩ => ⟨S2x192x256, .i32⟩
  | .local _ .smem, ⟨0, _⟩ => ⟨S1, .f32⟩
  | _, _ => ⟨S16x1x12032, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_v0 : Ref sig .tc := ⟨.hbm, 8, rfl⟩
abbrev main_c_2 : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c_3 : Ref sig .tc := ⟨.hbm, 14, rfl⟩
abbrev main_call1_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_stg4_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [BitOps F]

abbrev grid0 : Pipeline.Grid := ⟨1, ![60], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_769 : BitVec 32 := 0#32
  let c47_i32 : BitVec 32 := 47#32
  let v2902 : BitVec 32 := Scalar.addi c0_i32_769 c47_i32
  let c1_i32_770 : BitVec 32 := 1#32
  ⟨c0_i32_769, v2902, c1_i32_770⟩
def k0_mult1 (k0_t1 : Fin k0_t1_loop.trips) : BitVec 32 :=
  let c2_i32_772 : BitVec 32 := 2#32
  let c0_i32_769 : BitVec 32 := 0#32
  let c1_i32_770 : BitVec 32 := 1#32
  let arg12 : BitVec 32 := Scf.iv c0_i32_769 c1_i32_770 k0_t1
  let v2903 : BitVec 32 := Scalar.muli c2_i32_772 arg12
  let c0_i32_773 : BitVec 32 := 0#32
  let v2904 : BitVec 32 := Scalar.addi v2903 c0_i32_773
  let c128_i32_774 : BitVec 32 := 128#32
  let v2905 : BitVec 32 := Scalar.muli v2904 c128_i32_774
  v2905
def k0_off1 (k0_t1 : Fin k0_t1_loop.trips) (c0_i32_773 : BitVec 32) : Fin 2 → Nat :=
  let c0_775 : Index := 0#32
  let c2_i32_772 : BitVec 32 := 2#32
  let c0_i32_769 : BitVec 32 := 0#32
  let c1_i32_770 : BitVec 32 := 1#32
  let arg12 : BitVec 32 := Scf.iv c0_i32_769 c1_i32_770 k0_t1
  let v2903 : BitVec 32 := Scalar.muli c2_i32_772 arg12
  let v2904 : BitVec 32 := Scalar.addi v2903 c0_i32_773
  let c128_i32_774 : BitVec 32 := 128#32
  let v2905 : BitVec 32 := Scalar.muli v2904 c128_i32_774
  let v2906 : BitVec 32 := v2905
  let v2907 : Index := Scalar.indexCast v2906
  ![0, v2907.toNat]
def k0_mult2 (k0_t1 : Fin k0_t1_loop.trips) : BitVec 32 :=
  let c2_i32_776 : BitVec 32 := 2#32
  let c0_i32_769 : BitVec 32 := 0#32
  let c1_i32_770 : BitVec 32 := 1#32
  let arg12 : BitVec 32 := Scf.iv c0_i32_769 c1_i32_770 k0_t1
  let v2911 : BitVec 32 := Scalar.muli c2_i32_776 arg12
  let c1_i32_777 : BitVec 32 := 1#32
  let v2912 : BitVec 32 := Scalar.addi v2911 c1_i32_777
  let c128_i32_778 : BitVec 32 := 128#32
  let v2913 : BitVec 32 := Scalar.muli v2912 c128_i32_778
  v2913
def k0_mult3 (k0_t1 : Fin k0_t1_loop.trips) : BitVec 32 :=
  let c0_i32_769 : BitVec 32 := 0#32
  let c1_i32_770 : BitVec 32 := 1#32
  let arg12 : BitVec 32 := Scf.iv c0_i32_769 c1_i32_770 k0_t1
  let c128_i32_794 : BitVec 32 := 128#32
  let v2962 : BitVec 32 := Scalar.muli arg12 c128_i32_794
  v2962
def k0_off2 (k0_t1 : Fin k0_t1_loop.trips) : Fin 3 → Nat :=
  let c0_795 : Index := 0#32
  let c0_796 : Index := 0#32
  let c0_i32_769 : BitVec 32 := 0#32
  let c1_i32_770 : BitVec 32 := 1#32
  let arg12 : BitVec 32 := Scf.iv c0_i32_769 c1_i32_770 k0_t1
  let c128_i32_794 : BitVec 32 := 128#32
  let v2962 : BitVec 32 := Scalar.muli arg12 c128_i32_794
  let v2963 : BitVec 32 := v2962
  let v2964 : Index := Scalar.indexCast v2963
  ![0, 0, v2964.toNat]
def k0_mult4 (k0_t1 : Fin k0_t1_loop.trips) : BitVec 32 :=
  let c0_i32_769 : BitVec 32 := 0#32
  let c1_i32_770 : BitVec 32 := 1#32
  let arg12 : BitVec 32 := Scf.iv c0_i32_769 c1_i32_770 k0_t1
  let c128_i32_811 : BitVec 32 := 128#32
  let v3011 : BitVec 32 := Scalar.muli arg12 c128_i32_811
  v3011
def k0_off3 (k0_t1 : Fin k0_t1_loop.trips) : Fin 3 → Nat :=
  let c1_812 : Index := 1#32
  let c0_813 : Index := 0#32
  let c0_i32_769 : BitVec 32 := 0#32
  let c1_i32_770 : BitVec 32 := 1#32
  let arg12 : BitVec 32 := Scf.iv c0_i32_769 c1_i32_770 k0_t1
  let c128_i32_811 : BitVec 32 := 128#32
  let v3011 : BitVec 32 := Scalar.muli arg12 c128_i32_811
  let v3012 : BitVec 32 := v3011
  let v3013 : Index := Scalar.indexCast v3012
  ![1, 0, v3013.toNat]
@[reducible] def k0_t2_loop : Scf.Loop 32 :=
  let c0_i32_448 : BitVec 32 := 0#32
  let c23_i32 : BitVec 32 := 23#32
  let v1488 : BitVec 32 := Scalar.addi c0_i32_448 c23_i32
  let c1_i32_449 : BitVec 32 := 1#32
  ⟨c0_i32_448, v1488, c1_i32_449⟩
def k0_mult5 (k0_t2 : Fin k0_t2_loop.trips) : BitVec 32 :=
  let c0_i32_448 : BitVec 32 := 0#32
  let c1_i32_449 : BitVec 32 := 1#32
  let arg12 : BitVec 32 := Scf.iv c0_i32_448 c1_i32_449 k0_t2
  let c256_i32 : BitVec 32 := 256#32
  let v2901 : BitVec 32 := Scalar.muli arg12 c256_i32
  v2901
def k0_off4 (k0_t2 : Fin k0_t2_loop.trips) (c0_i32_769 : BitVec 32) : Fin 2 → Nat :=
  let c0_770 : Index := 0#32
  let c0_i32_448 : BitVec 32 := 0#32
  let c1_i32_449 : BitVec 32 := 1#32
  let arg12 : BitVec 32 := Scf.iv c0_i32_448 c1_i32_449 k0_t2
  let c256_i32 : BitVec 32 := 256#32
  let v2901 : BitVec 32 := Scalar.muli arg12 c256_i32
  let v2902 : BitVec 32 := v2901
  let v2903 : BitVec 32 := Scalar.addi v2902 c0_i32_769
  let v2904 : Index := Scalar.indexCast v2903
  ![0, v2904.toNat]
def k0_off5 (k0_t2 : Fin k0_t2_loop.trips) (c0_i32_771 : BitVec 32) (c0_i32_772 : BitVec 32) : Fin 3 → Nat :=
  let c0_780 : Index := 0#32
  let c0_i32_448 : BitVec 32 := 0#32
  let c1_i32_449 : BitVec 32 := 1#32
  let arg12 : BitVec 32 := Scf.iv c0_i32_448 c1_i32_449 k0_t2
  let c256_i32 : BitVec 32 := 256#32
  let v2901 : BitVec 32 := Scalar.muli arg12 c256_i32
  let v2902 : BitVec 32 := v2901
  let v2909 : BitVec 32 := Scalar.addi v2902 c0_i32_771
  let v2910 : BitVec 32 := Scalar.addi v2909 c0_i32_772
  let c0_i32_774 : BitVec 32 := 0#32
  let v2912 : BitVec 1 := Scalar.cmpi .sgt v2910 c0_i32_774
  let v2913 : BitVec 32 := Scalar.extui v2912
  let c0_i32_775 : BitVec 32 := 0#32
  let v2914 : BitVec 1 := Scalar.cmpi .slt v2910 c0_i32_775
  let v2915 : BitVec 32 := Scalar.extui v2914
  let v2916 : BitVec 32 := Scalar.subi v2913 v2915
  let c32_i32_773 : BitVec 32 := 32#32
  let c0_i32_776 : BitVec 32 := 0#32
  let v2917 : BitVec 1 := Scalar.cmpi .sgt c32_i32_773 c0_i32_776
  let v2918 : BitVec 32 := Scalar.extui v2917
  let c0_i32_777 : BitVec 32 := 0#32
  let v2919 : BitVec 1 := Scalar.cmpi .slt c32_i32_773 c0_i32_777
  let v2920 : BitVec 32 := Scalar.extui v2919
  let v2921 : BitVec 32 := Scalar.subi v2918 v2920
  let v2922 : BitVec 1 := Scalar.cmpi .ne v2916 v2921
  let v2923 : BitVec 32 := Scalar.remsi v2910 c32_i32_773
  let c0_i32_778 : BitVec 32 := 0#32
  let v2924 : BitVec 1 := Scalar.cmpi .ne v2923 c0_i32_778
  let v2925 : BitVec 1 := Scalar.andi v2922 v2924
  let v2911 : BitVec 32 := Scalar.divsi v2910 c32_i32_773
  let c1_i32_779 : BitVec 32 := 1#32
  let v2926 : BitVec 32 := Scalar.subi v2911 c1_i32_779
  let v2927 : BitVec 32 := Scalar.select v2925 v2926 v2911
  let v2928 : Index := Scalar.indexCast v2927
  let c0_781 : Index := 0#32
  ![0, v2928.toNat, 0]
def k0_off6 (k0_t2 : Fin k0_t2_loop.trips) (c0_i32_771 : BitVec 32) (c0_i32_772 : BitVec 32) : Fin 3 → Nat :=
  let c1_782 : Index := 1#32
  let c0_i32_448 : BitVec 32 := 0#32
  let c1_i32_449 : BitVec 32 := 1#32
  let arg12 : BitVec 32 := Scf.iv c0_i32_448 c1_i32_449 k0_t2
  let c256_i32 : BitVec 32 := 256#32
  let v2901 : BitVec 32 := Scalar.muli arg12 c256_i32
  let v2902 : BitVec 32 := v2901
  let v2909 : BitVec 32 := Scalar.addi v2902 c0_i32_771
  let v2910 : BitVec 32 := Scalar.addi v2909 c0_i32_772
  let c0_i32_774 : BitVec 32 := 0#32
  let v2912 : BitVec 1 := Scalar.cmpi .sgt v2910 c0_i32_774
  let v2913 : BitVec 32 := Scalar.extui v2912
  let c0_i32_775 : BitVec 32 := 0#32
  let v2914 : BitVec 1 := Scalar.cmpi .slt v2910 c0_i32_775
  let v2915 : BitVec 32 := Scalar.extui v2914
  let v2916 : BitVec 32 := Scalar.subi v2913 v2915
  let c32_i32_773 : BitVec 32 := 32#32
  let c0_i32_776 : BitVec 32 := 0#32
  let v2917 : BitVec 1 := Scalar.cmpi .sgt c32_i32_773 c0_i32_776
  let v2918 : BitVec 32 := Scalar.extui v2917
  let c0_i32_777 : BitVec 32 := 0#32
  let v2919 : BitVec 1 := Scalar.cmpi .slt c32_i32_773 c0_i32_777
  let v2920 : BitVec 32 := Scalar.extui v2919
  let v2921 : BitVec 32 := Scalar.subi v2918 v2920
  let v2922 : BitVec 1 := Scalar.cmpi .ne v2916 v2921
  let v2923 : BitVec 32 := Scalar.remsi v2910 c32_i32_773
  let c0_i32_778 : BitVec 32 := 0#32
  let v2924 : BitVec 1 := Scalar.cmpi .ne v2923 c0_i32_778
  let v2925 : BitVec 1 := Scalar.andi v2922 v2924
  let v2911 : BitVec 32 := Scalar.divsi v2910 c32_i32_773
  let c1_i32_779 : BitVec 32 := 1#32
  let v2926 : BitVec 32 := Scalar.subi v2911 c1_i32_779
  let v2927 : BitVec 32 := Scalar.select v2925 v2926 v2911
  let v2933 : Index := Scalar.indexCast v2927
  let c0_783 : Index := 0#32
  ![1, v2933.toNat, 0]
def k0_off7 (k0_t2 : Fin k0_t2_loop.trips) (c0_i32_771 : BitVec 32) (c0_i32_772 : BitVec 32) : Fin 3 → Nat :=
  let c0_794 : Index := 0#32
  let c0_i32_448 : BitVec 32 := 0#32
  let c1_i32_449 : BitVec 32 := 1#32
  let arg12 : BitVec 32 := Scf.iv c0_i32_448 c1_i32_449 k0_t2
  let c256_i32 : BitVec 32 := 256#32
  let v2901 : BitVec 32 := Scalar.muli arg12 c256_i32
  let v2902 : BitVec 32 := v2901
  let v2909 : BitVec 32 := Scalar.addi v2902 c0_i32_771
  let v2910 : BitVec 32 := Scalar.addi v2909 c0_i32_772
  let c0_i32_774 : BitVec 32 := 0#32
  let v2912 : BitVec 1 := Scalar.cmpi .sgt v2910 c0_i32_774
  let v2913 : BitVec 32 := Scalar.extui v2912
  let c0_i32_775 : BitVec 32 := 0#32
  let v2914 : BitVec 1 := Scalar.cmpi .slt v2910 c0_i32_775
  let v2915 : BitVec 32 := Scalar.extui v2914
  let v2916 : BitVec 32 := Scalar.subi v2913 v2915
  let c32_i32_773 : BitVec 32 := 32#32
  let c0_i32_776 : BitVec 32 := 0#32
  let v2917 : BitVec 1 := Scalar.cmpi .sgt c32_i32_773 c0_i32_776
  let v2918 : BitVec 32 := Scalar.extui v2917
  let c0_i32_777 : BitVec 32 := 0#32
  let v2919 : BitVec 1 := Scalar.cmpi .slt c32_i32_773 c0_i32_777
  let v2920 : BitVec 32 := Scalar.extui v2919
  let v2921 : BitVec 32 := Scalar.subi v2918 v2920
  let v2922 : BitVec 1 := Scalar.cmpi .ne v2916 v2921
  let v2923 : BitVec 32 := Scalar.remsi v2910 c32_i32_773
  let c0_i32_778 : BitVec 32 := 0#32
  let v2924 : BitVec 1 := Scalar.cmpi .ne v2923 c0_i32_778
  let v2925 : BitVec 1 := Scalar.andi v2922 v2924
  let v2911 : BitVec 32 := Scalar.divsi v2910 c32_i32_773
  let c1_i32_779 : BitVec 32 := 1#32
  let v2926 : BitVec 32 := Scalar.subi v2911 c1_i32_779
  let v2927 : BitVec 32 := Scalar.select v2925 v2926 v2911
  let v3004 : Index := Scalar.indexCast v2927
  let c128_795 : Index := 128#32
  ![0, v3004.toNat, 128]
def k0_off8 (k0_t2 : Fin k0_t2_loop.trips) (c0_i32_771 : BitVec 32) (c0_i32_772 : BitVec 32) : Fin 3 → Nat :=
  let c1_796 : Index := 1#32
  let c0_i32_448 : BitVec 32 := 0#32
  let c1_i32_449 : BitVec 32 := 1#32
  let arg12 : BitVec 32 := Scf.iv c0_i32_448 c1_i32_449 k0_t2
  let c256_i32 : BitVec 32 := 256#32
  let v2901 : BitVec 32 := Scalar.muli arg12 c256_i32
  let v2902 : BitVec 32 := v2901
  let v2909 : BitVec 32 := Scalar.addi v2902 c0_i32_771
  let v2910 : BitVec 32 := Scalar.addi v2909 c0_i32_772
  let c0_i32_774 : BitVec 32 := 0#32
  let v2912 : BitVec 1 := Scalar.cmpi .sgt v2910 c0_i32_774
  let v2913 : BitVec 32 := Scalar.extui v2912
  let c0_i32_775 : BitVec 32 := 0#32
  let v2914 : BitVec 1 := Scalar.cmpi .slt v2910 c0_i32_775
  let v2915 : BitVec 32 := Scalar.extui v2914
  let v2916 : BitVec 32 := Scalar.subi v2913 v2915
  let c32_i32_773 : BitVec 32 := 32#32
  let c0_i32_776 : BitVec 32 := 0#32
  let v2917 : BitVec 1 := Scalar.cmpi .sgt c32_i32_773 c0_i32_776
  let v2918 : BitVec 32 := Scalar.extui v2917
  let c0_i32_777 : BitVec 32 := 0#32
  let v2919 : BitVec 1 := Scalar.cmpi .slt c32_i32_773 c0_i32_777
  let v2920 : BitVec 32 := Scalar.extui v2919
  let v2921 : BitVec 32 := Scalar.subi v2918 v2920
  let v2922 : BitVec 1 := Scalar.cmpi .ne v2916 v2921
  let v2923 : BitVec 32 := Scalar.remsi v2910 c32_i32_773
  let c0_i32_778 : BitVec 32 := 0#32
  let v2924 : BitVec 1 := Scalar.cmpi .ne v2923 c0_i32_778
  let v2925 : BitVec 1 := Scalar.andi v2922 v2924
  let v2911 : BitVec 32 := Scalar.divsi v2910 c32_i32_773
  let c1_i32_779 : BitVec 32 := 1#32
  let v2926 : BitVec 32 := Scalar.subi v2911 c1_i32_779
  let v2927 : BitVec 32 := Scalar.select v2925 v2926 v2911
  let v3009 : Index := Scalar.indexCast v2927
  let c128_797 : Index := 128#32
  ![1, v3009.toNat, 128]
def k0_off9 (k0_t2 : Fin k0_t2_loop.trips) : Fin 3 → Nat :=
  let c0_1365 : Index := 0#32
  let c0_1366 : Index := 0#32
  let c0_i32_448 : BitVec 32 := 0#32
  let c1_i32_449 : BitVec 32 := 1#32
  let arg12 : BitVec 32 := Scf.iv c0_i32_448 c1_i32_449 k0_t2
  let c256_i32 : BitVec 32 := 256#32
  let v2901 : BitVec 32 := Scalar.muli arg12 c256_i32
  let v2902 : BitVec 32 := v2901
  let v5719 : Index := Scalar.indexCast v2902
  ![0, 0, v5719.toNat]
def k0_off10 (k0_t2 : Fin k0_t2_loop.trips) : Fin 3 → Nat :=
  let c1_1369 : Index := 1#32
  let c0_1370 : Index := 0#32
  let c0_i32_448 : BitVec 32 := 0#32
  let c1_i32_449 : BitVec 32 := 1#32
  let arg12 : BitVec 32 := Scf.iv c0_i32_448 c1_i32_449 k0_t2
  let c256_i32 : BitVec 32 := 256#32
  let v2901 : BitVec 32 := Scalar.muli arg12 c256_i32
  let v2902 : BitVec 32 := v2901
  let v5727 : Index := Scalar.indexCast v2902
  ![1, 0, v5727.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x12032 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x6016 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x32x128 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x256 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S16x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
abbrev S16x1x12032 : Shape := ⟨3, ![16, 1, 12032]⟩
abbrev S30720x6016 : Shape := ⟨2, ![30720, 6016]⟩
abbrev S30720x188 : Shape := ⟨2, ![30720, 188]⟩
abbrev S22560 : Shape := ⟨1, ![22560]⟩
abbrev S_ : Shape := ⟨0, ![]⟩
abbrev S2x32x128 : Shape := ⟨3, ![2, 32, 128]⟩
abbrev S8x128 : Shape := ⟨2, ![8, 128]⟩
abbrev S2x256 : Shape := ⟨2, ![2, 256]⟩
abbrev S480x47 : Shape := ⟨2, ![480, 47]⟩
abbrev S480x128 : Shape := ⟨2, ![480, 128]⟩
abbrev S480x1x128 : Shape := ⟨3, ![480, 1, 128]⟩
abbrev S16x12032 : Shape := ⟨2, ![16, 12032]⟩
abbrev S30720x256 : Shape := ⟨2, ![30720, 256]⟩
abbrev S1 : Shape := ⟨1, ![1]⟩
abbrev S16x30720 : Shape := ⟨2, ![16, 30720]⟩
abbrev S512x6016 : Shape := ⟨2, ![512, 6016]⟩
abbrev S512x256 : Shape := ⟨2, ![512, 256]⟩
abbrev S8x1x128 : Shape := ⟨3, ![8, 1, 128]⟩
abbrev S16x512 : Shape := ⟨2, ![16, 512]⟩
abbrev S2x8x6016 : Shape := ⟨3, ![2, 8, 6016]⟩
abbrev S2x8x2x6016 : Shape := ⟨4, ![2, 8, 2, 6016]⟩
abbrev S2x8x1x6016 : Shape := ⟨4, ![2, 8, 1, 6016]⟩
abbrev S2x192x256 : Shape := ⟨3, ![2, 192, 256]⟩
abbrev S2x192x2x256 : Shape := ⟨4, ![2, 192, 2, 256]⟩
abbrev S2x192x1x256 : Shape := ⟨4, ![2, 192, 1, 256]⟩
abbrev S16x128 : Shape := ⟨2, ![16, 128]⟩
abbrev S16x128x1 : Shape := ⟨3, ![16, 128, 1]⟩
abbrev S1x8x128 : Shape := ⟨3, ![1, 8, 128]⟩
abbrev S1x8x2x128 : Shape := ⟨4, ![1, 8, 2, 128]⟩
abbrev S1x8x1x128 : Shape := ⟨4, ![1, 8, 1, 128]⟩
abbrev S1x1x128 : Shape := ⟨3, ![1, 1, 128]⟩
abbrev S1x128 : Shape := ⟨2, ![1, 128]⟩
abbrev S8x128x1 : Shape := ⟨3, ![8, 128, 1]⟩
abbrev S128x256 : Shape := ⟨2, ![128, 256]⟩
abbrev S256x256 : Shape := ⟨2, ![256, 256]⟩
abbrev S1x32x128 : Shape := ⟨3, ![1, 32, 128]⟩
abbrev S32x128 : Shape := ⟨2, ![32, 128]⟩
abbrev S16x256 : Shape := ⟨2, ![16, 256]⟩
abbrev S512x128 : Shape := ⟨2, ![512, 128]⟩
abbrev S128x128 : Shape := ⟨2, ![128, 128]⟩
abbrev S256x128 : Shape := ⟨2, ![256, 128]⟩
abbrev S1x1x2x128 : Shape := ⟨4, ![1, 1, 2, 128]⟩
abbrev S1x1x1x128 : Shape := ⟨4, ![1, 1, 1, 128]⟩
abbrev S32x128x1 : Shape := ⟨3, ![32, 128, 1]⟩
abbrev S1x8x256 : Shape := ⟨3, ![1, 8, 256]⟩
abbrev S1x8x2x256 : Shape := ⟨4, ![1, 8, 2, 256]⟩
abbrev S1x8x1x256 : Shape := ⟨4, ![1, 8, 1, 256]⟩
abbrev S8x256 : Shape := ⟨2, ![8, 256]⟩

abbrev nBuf : Space → Nat
  | .hbm => 19
  | .vmem => 14
  | .smem => 1
  | _ => 0

abbrev bufTy : (tb : Table) → Fin (tcTables nBuf tb) → BufTy
  | .hbm, ⟨0, _⟩ => ⟨S16x1x12032, .bf16⟩
  | .hbm, ⟨1, _⟩ => ⟨S30720x6016, .i8⟩
  | .hbm, ⟨2, _⟩ => ⟨S30720x188, .i8⟩
  | .hbm, ⟨3, _⟩ => ⟨S22560, .f32⟩
  | .hbm, ⟨4, _⟩ => ⟨S_, .f32⟩
  | .hbm, ⟨5, _⟩ => ⟨S2x32x128, .i8⟩
  | .hbm, ⟨6, _⟩ => ⟨S8x128, .i32⟩
  | .hbm, ⟨7, _⟩ => ⟨S2x256, .i32⟩
  | .hbm, ⟨8, _⟩ => ⟨S480x47, .f32⟩
  | .hbm, ⟨9, _⟩ => ⟨S_, .i32⟩
  | .hbm, ⟨10, _⟩ => ⟨S_, .f32⟩
  | .hbm, ⟨11, _⟩ => ⟨S480x128, .f32⟩
  | .hbm, ⟨12, _⟩ => ⟨S480x1x128, .f32⟩
  | .hbm, ⟨13, _⟩ => ⟨S16x12032, .bf16⟩
  | .hbm, ⟨14, _⟩ => ⟨S_, .i32⟩
  | .hbm, ⟨15, _⟩ => ⟨S_, .i8⟩
  | .hbm, ⟨16, _⟩ => ⟨S30720x256, .i8⟩
  | .hbm, ⟨17, _⟩ => ⟨S1, .f32⟩
  | .hbm, ⟨18, _⟩ => ⟨S16x30720, .bf16⟩
  | .local _ .vmem, ⟨0, _⟩ => ⟨S16x12032, .bf16⟩
  | .local _ .vmem, ⟨1, _⟩ => ⟨S512x6016, .i8⟩
  | .local _ .vmem, ⟨2, _⟩ => ⟨S512x6016, .i8⟩
  | .local _ .vmem, ⟨3, _⟩ => ⟨S512x256, .i8⟩
  | .local _ .vmem, ⟨4, _⟩ => ⟨S512x256, .i8⟩
  | .local _ .vmem, ⟨5, _⟩ => ⟨S8x1x128, .f32⟩
  | .local _ .vmem, ⟨6, _⟩ => ⟨S8x1x128, .f32⟩
  | .local _ .vmem, ⟨7, _⟩ => ⟨S2x32x128, .i8⟩
  | .local _ .vmem, ⟨8, _⟩ => ⟨S8x128, .i32⟩
  | .local _ .vmem, ⟨9, _⟩ => ⟨S2x256, .i32⟩
  | .local _ .vmem, ⟨10, _⟩ => ⟨S16x512, .bf16⟩
  | .local _ .vmem, ⟨11, _⟩ => ⟨S16x512, .bf16⟩
  | .local _ .vmem, ⟨12, _⟩ => ⟨S2x8x2x6016, .bf16⟩
  | .local _ .vmem, ⟨13, _⟩ => ⟨S2x192x2x256, .bf16⟩
  | .local _ .smem, ⟨0, _⟩ => ⟨S1, .f32⟩
  | _, _ => ⟨S16x1x12032, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_v0 : Ref sig .tc := ⟨.hbm, 8, rfl⟩
abbrev main_c_2 : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c_3 : Ref sig .tc := ⟨.hbm, 14, rfl⟩
abbrev main_call1_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_stg4_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![60], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_769 : BitVec 32 := 0#32
  let c47_i32 : BitVec 32 := 47#32
  let v2902 : BitVec 32 := Scalar.addi c0_i32_769 c47_i32
  let c1_i32_770 : BitVec 32 := 1#32
  ⟨c0_i32_769, v2902, c1_i32_770⟩
def k0_mult1 (k0_t1 : Fin k0_t1_loop.trips) : BitVec 32 :=
  let c2_i32_772 : BitVec 32 := 2#32
  let c0_i32_769 : BitVec 32 := 0#32
  let c1_i32_770 : BitVec 32 := 1#32
  let arg12 : BitVec 32 := Scf.iv c0_i32_769 c1_i32_770 k0_t1
  let v2903 : BitVec 32 := Scalar.muli c2_i32_772 arg12
  let c0_i32_773 : BitVec 32 := 0#32
  let v2904 : BitVec 32 := Scalar.addi v2903 c0_i32_773
  let c128_i32_774 : BitVec 32 := 128#32
  let v2905 : BitVec 32 := Scalar.muli v2904 c128_i32_774
  v2905
def k0_off1 (k0_t1 : Fin k0_t1_loop.trips) (c0_i32_773 : BitVec 32) : Fin 2 → Nat :=
  let c0_775 : Index := 0#32
  let c2_i32_772 : BitVec 32 := 2#32
  let c0_i32_769 : BitVec 32 := 0#32
  let c1_i32_770 : BitVec 32 := 1#32
  let arg12 : BitVec 32 := Scf.iv c0_i32_769 c1_i32_770 k0_t1
  let v2903 : BitVec 32 := Scalar.muli c2_i32_772 arg12
  let v2904 : BitVec 32 := Scalar.addi v2903 c0_i32_773
  let c128_i32_774 : BitVec 32 := 128#32
  let v2905 : BitVec 32 := Scalar.muli v2904 c128_i32_774
  let v2906 : BitVec 32 := v2905
  let v2907 : Index := Scalar.indexCast v2906
  ![0, v2907.toNat]
def k0_mult2 (k0_t1 : Fin k0_t1_loop.trips) : BitVec 32 :=
  let c2_i32_776 : BitVec 32 := 2#32
  let c0_i32_769 : BitVec 32 := 0#32
  let c1_i32_770 : BitVec 32 := 1#32
  let arg12 : BitVec 32 := Scf.iv c0_i32_769 c1_i32_770 k0_t1
  let v2911 : BitVec 32 := Scalar.muli c2_i32_776 arg12
  let c1_i32_777 : BitVec 32 := 1#32
  let v2912 : BitVec 32 := Scalar.addi v2911 c1_i32_777
  let c128_i32_778 : BitVec 32 := 128#32
  let v2913 : BitVec 32 := Scalar.muli v2912 c128_i32_778
  v2913
def k0_mult3 (k0_t1 : Fin k0_t1_loop.trips) : BitVec 32 :=
  let c0_i32_769 : BitVec 32 := 0#32
  let c1_i32_770 : BitVec 32 := 1#32
  let arg12 : BitVec 32 := Scf.iv c0_i32_769 c1_i32_770 k0_t1
  let c128_i32_794 : BitVec 32 := 128#32
  let v2962 : BitVec 32 := Scalar.muli arg12 c128_i32_794
  v2962
def k0_off2 (k0_t1 : Fin k0_t1_loop.trips) : Fin 4 → Nat :=
  let c0_795 : Index := 0#32
  let c0_796 : Index := 0#32
  let c0_i32_769 : BitVec 32 := 0#32
  let c1_i32_770 : BitVec 32 := 1#32
  let arg12 : BitVec 32 := Scf.iv c0_i32_769 c1_i32_770 k0_t1
  let c128_i32_794 : BitVec 32 := 128#32
  let v2962 : BitVec 32 := Scalar.muli arg12 c128_i32_794
  let v2963 : BitVec 32 := v2962
  let v2964 : Index := Scalar.indexCast v2963
  ![0, 0, 0, v2964.toNat]
def k0_mult4 (k0_t1 : Fin k0_t1_loop.trips) : BitVec 32 :=
  let c0_i32_769 : BitVec 32 := 0#32
  let c1_i32_770 : BitVec 32 := 1#32
  let arg12 : BitVec 32 := Scf.iv c0_i32_769 c1_i32_770 k0_t1
  let c128_i32_811 : BitVec 32 := 128#32
  let v3011 : BitVec 32 := Scalar.muli arg12 c128_i32_811
  v3011
def k0_off3 (k0_t1 : Fin k0_t1_loop.trips) : Fin 4 → Nat :=
  let c1_812 : Index := 1#32
  let c0_813 : Index := 0#32
  let c0_i32_769 : BitVec 32 := 0#32
  let c1_i32_770 : BitVec 32 := 1#32
  let arg12 : BitVec 32 := Scf.iv c0_i32_769 c1_i32_770 k0_t1
  let c128_i32_811 : BitVec 32 := 128#32
  let v3011 : BitVec 32 := Scalar.muli arg12 c128_i32_811
  let v3012 : BitVec 32 := v3011
  let v3013 : Index := Scalar.indexCast v3012
  ![1, 0, 0, v3013.toNat]
@[reducible] def k0_t2_loop : Scf.Loop 32 :=
  let c0_i32_448 : BitVec 32 := 0#32
  let c23_i32 : BitVec 32 := 23#32
  let v1488 : BitVec 32 := Scalar.addi c0_i32_448 c23_i32
  let c1_i32_449 : BitVec 32 := 1#32
  ⟨c0_i32_448, v1488, c1_i32_449⟩
def k0_mult5 (k0_t2 : Fin k0_t2_loop.trips) : BitVec 32 :=
  let c0_i32_448 : BitVec 32 := 0#32
  let c1_i32_449 : BitVec 32 := 1#32
  let arg12 : BitVec 32 := Scf.iv c0_i32_448 c1_i32_449 k0_t2
  let c256_i32 : BitVec 32 := 256#32
  let v2901 : BitVec 32 := Scalar.muli arg12 c256_i32
  v2901
def k0_off4 (k0_t2 : Fin k0_t2_loop.trips) (c0_i32_769 : BitVec 32) : Fin 2 → Nat :=
  let c0_770 : Index := 0#32
  let c0_i32_448 : BitVec 32 := 0#32
  let c1_i32_449 : BitVec 32 := 1#32
  let arg12 : BitVec 32 := Scf.iv c0_i32_448 c1_i32_449 k0_t2
  let c256_i32 : BitVec 32 := 256#32
  let v2901 : BitVec 32 := Scalar.muli arg12 c256_i32
  let v2902 : BitVec 32 := v2901
  let v2903 : BitVec 32 := Scalar.addi v2902 c0_i32_769
  let v2904 : Index := Scalar.indexCast v2903
  ![0, v2904.toNat]
def k0_off5 (k0_t2 : Fin k0_t2_loop.trips) (c0_i32_771 : BitVec 32) (c0_i32_772 : BitVec 32) : Fin 4 → Nat :=
  let c0_780 : Index := 0#32
  let c0_i32_448 : BitVec 32 := 0#32
  let c1_i32_449 : BitVec 32 := 1#32
  let arg12 : BitVec 32 := Scf.iv c0_i32_448 c1_i32_449 k0_t2
  let c256_i32 : BitVec 32 := 256#32
  let v2901 : BitVec 32 := Scalar.muli arg12 c256_i32
  let v2902 : BitVec 32 := v2901
  let v2909 : BitVec 32 := Scalar.addi v2902 c0_i32_771
  let v2910 : BitVec 32 := Scalar.addi v2909 c0_i32_772
  let c0_i32_774 : BitVec 32 := 0#32
  let v2912 : BitVec 1 := Scalar.cmpi .sgt v2910 c0_i32_774
  let v2913 : BitVec 32 := Scalar.extui v2912
  let c0_i32_775 : BitVec 32 := 0#32
  let v2914 : BitVec 1 := Scalar.cmpi .slt v2910 c0_i32_775
  let v2915 : BitVec 32 := Scalar.extui v2914
  let v2916 : BitVec 32 := Scalar.subi v2913 v2915
  let c32_i32_773 : BitVec 32 := 32#32
  let c0_i32_776 : BitVec 32 := 0#32
  let v2917 : BitVec 1 := Scalar.cmpi .sgt c32_i32_773 c0_i32_776
  let v2918 : BitVec 32 := Scalar.extui v2917
  let c0_i32_777 : BitVec 32 := 0#32
  let v2919 : BitVec 1 := Scalar.cmpi .slt c32_i32_773 c0_i32_777
  let v2920 : BitVec 32 := Scalar.extui v2919
  let v2921 : BitVec 32 := Scalar.subi v2918 v2920
  let v2922 : BitVec 1 := Scalar.cmpi .ne v2916 v2921
  let v2923 : BitVec 32 := Scalar.remsi v2910 c32_i32_773
  let c0_i32_778 : BitVec 32 := 0#32
  let v2924 : BitVec 1 := Scalar.cmpi .ne v2923 c0_i32_778
  let v2925 : BitVec 1 := Scalar.andi v2922 v2924
  let v2911 : BitVec 32 := Scalar.divsi v2910 c32_i32_773
  let c1_i32_779 : BitVec 32 := 1#32
  let v2926 : BitVec 32 := Scalar.subi v2911 c1_i32_779
  let v2927 : BitVec 32 := Scalar.select v2925 v2926 v2911
  let v2928 : Index := Scalar.indexCast v2927
  let c0_781 : Index := 0#32
  ![0, v2928.toNat, 0, 0]
def k0_off6 (k0_t2 : Fin k0_t2_loop.trips) (c0_i32_771 : BitVec 32) (c0_i32_772 : BitVec 32) : Fin 4 → Nat :=
  let c1_782 : Index := 1#32
  let c0_i32_448 : BitVec 32 := 0#32
  let c1_i32_449 : BitVec 32 := 1#32
  let arg12 : BitVec 32 := Scf.iv c0_i32_448 c1_i32_449 k0_t2
  let c256_i32 : BitVec 32 := 256#32
  let v2901 : BitVec 32 := Scalar.muli arg12 c256_i32
  let v2902 : BitVec 32 := v2901
  let v2909 : BitVec 32 := Scalar.addi v2902 c0_i32_771
  let v2910 : BitVec 32 := Scalar.addi v2909 c0_i32_772
  let c0_i32_774 : BitVec 32 := 0#32
  let v2912 : BitVec 1 := Scalar.cmpi .sgt v2910 c0_i32_774
  let v2913 : BitVec 32 := Scalar.extui v2912
  let c0_i32_775 : BitVec 32 := 0#32
  let v2914 : BitVec 1 := Scalar.cmpi .slt v2910 c0_i32_775
  let v2915 : BitVec 32 := Scalar.extui v2914
  let v2916 : BitVec 32 := Scalar.subi v2913 v2915
  let c32_i32_773 : BitVec 32 := 32#32
  let c0_i32_776 : BitVec 32 := 0#32
  let v2917 : BitVec 1 := Scalar.cmpi .sgt c32_i32_773 c0_i32_776
  let v2918 : BitVec 32 := Scalar.extui v2917
  let c0_i32_777 : BitVec 32 := 0#32
  let v2919 : BitVec 1 := Scalar.cmpi .slt c32_i32_773 c0_i32_777
  let v2920 : BitVec 32 := Scalar.extui v2919
  let v2921 : BitVec 32 := Scalar.subi v2918 v2920
  let v2922 : BitVec 1 := Scalar.cmpi .ne v2916 v2921
  let v2923 : BitVec 32 := Scalar.remsi v2910 c32_i32_773
  let c0_i32_778 : BitVec 32 := 0#32
  let v2924 : BitVec 1 := Scalar.cmpi .ne v2923 c0_i32_778
  let v2925 : BitVec 1 := Scalar.andi v2922 v2924
  let v2911 : BitVec 32 := Scalar.divsi v2910 c32_i32_773
  let c1_i32_779 : BitVec 32 := 1#32
  let v2926 : BitVec 32 := Scalar.subi v2911 c1_i32_779
  let v2927 : BitVec 32 := Scalar.select v2925 v2926 v2911
  let v2933 : Index := Scalar.indexCast v2927
  let c0_783 : Index := 0#32
  ![1, v2933.toNat, 0, 0]
def k0_off7 (k0_t2 : Fin k0_t2_loop.trips) (c0_i32_771 : BitVec 32) (c0_i32_772 : BitVec 32) : Fin 4 → Nat :=
  let c0_794 : Index := 0#32
  let c0_i32_448 : BitVec 32 := 0#32
  let c1_i32_449 : BitVec 32 := 1#32
  let arg12 : BitVec 32 := Scf.iv c0_i32_448 c1_i32_449 k0_t2
  let c256_i32 : BitVec 32 := 256#32
  let v2901 : BitVec 32 := Scalar.muli arg12 c256_i32
  let v2902 : BitVec 32 := v2901
  let v2909 : BitVec 32 := Scalar.addi v2902 c0_i32_771
  let v2910 : BitVec 32 := Scalar.addi v2909 c0_i32_772
  let c0_i32_774 : BitVec 32 := 0#32
  let v2912 : BitVec 1 := Scalar.cmpi .sgt v2910 c0_i32_774
  let v2913 : BitVec 32 := Scalar.extui v2912
  let c0_i32_775 : BitVec 32 := 0#32
  let v2914 : BitVec 1 := Scalar.cmpi .slt v2910 c0_i32_775
  let v2915 : BitVec 32 := Scalar.extui v2914
  let v2916 : BitVec 32 := Scalar.subi v2913 v2915
  let c32_i32_773 : BitVec 32 := 32#32
  let c0_i32_776 : BitVec 32 := 0#32
  let v2917 : BitVec 1 := Scalar.cmpi .sgt c32_i32_773 c0_i32_776
  let v2918 : BitVec 32 := Scalar.extui v2917
  let c0_i32_777 : BitVec 32 := 0#32
  let v2919 : BitVec 1 := Scalar.cmpi .slt c32_i32_773 c0_i32_777
  let v2920 : BitVec 32 := Scalar.extui v2919
  let v2921 : BitVec 32 := Scalar.subi v2918 v2920
  let v2922 : BitVec 1 := Scalar.cmpi .ne v2916 v2921
  let v2923 : BitVec 32 := Scalar.remsi v2910 c32_i32_773
  let c0_i32_778 : BitVec 32 := 0#32
  let v2924 : BitVec 1 := Scalar.cmpi .ne v2923 c0_i32_778
  let v2925 : BitVec 1 := Scalar.andi v2922 v2924
  let v2911 : BitVec 32 := Scalar.divsi v2910 c32_i32_773
  let c1_i32_779 : BitVec 32 := 1#32
  let v2926 : BitVec 32 := Scalar.subi v2911 c1_i32_779
  let v2927 : BitVec 32 := Scalar.select v2925 v2926 v2911
  let v3004 : Index := Scalar.indexCast v2927
  let c128_795 : Index := 128#32
  ![0, v3004.toNat, 0, 128]
def k0_off8 (k0_t2 : Fin k0_t2_loop.trips) (c0_i32_771 : BitVec 32) (c0_i32_772 : BitVec 32) : Fin 4 → Nat :=
  let c1_796 : Index := 1#32
  let c0_i32_448 : BitVec 32 := 0#32
  let c1_i32_449 : BitVec 32 := 1#32
  let arg12 : BitVec 32 := Scf.iv c0_i32_448 c1_i32_449 k0_t2
  let c256_i32 : BitVec 32 := 256#32
  let v2901 : BitVec 32 := Scalar.muli arg12 c256_i32
  let v2902 : BitVec 32 := v2901
  let v2909 : BitVec 32 := Scalar.addi v2902 c0_i32_771
  let v2910 : BitVec 32 := Scalar.addi v2909 c0_i32_772
  let c0_i32_774 : BitVec 32 := 0#32
  let v2912 : BitVec 1 := Scalar.cmpi .sgt v2910 c0_i32_774
  let v2913 : BitVec 32 := Scalar.extui v2912
  let c0_i32_775 : BitVec 32 := 0#32
  let v2914 : BitVec 1 := Scalar.cmpi .slt v2910 c0_i32_775
  let v2915 : BitVec 32 := Scalar.extui v2914
  let v2916 : BitVec 32 := Scalar.subi v2913 v2915
  let c32_i32_773 : BitVec 32 := 32#32
  let c0_i32_776 : BitVec 32 := 0#32
  let v2917 : BitVec 1 := Scalar.cmpi .sgt c32_i32_773 c0_i32_776
  let v2918 : BitVec 32 := Scalar.extui v2917
  let c0_i32_777 : BitVec 32 := 0#32
  let v2919 : BitVec 1 := Scalar.cmpi .slt c32_i32_773 c0_i32_777
  let v2920 : BitVec 32 := Scalar.extui v2919
  let v2921 : BitVec 32 := Scalar.subi v2918 v2920
  let v2922 : BitVec 1 := Scalar.cmpi .ne v2916 v2921
  let v2923 : BitVec 32 := Scalar.remsi v2910 c32_i32_773
  let c0_i32_778 : BitVec 32 := 0#32
  let v2924 : BitVec 1 := Scalar.cmpi .ne v2923 c0_i32_778
  let v2925 : BitVec 1 := Scalar.andi v2922 v2924
  let v2911 : BitVec 32 := Scalar.divsi v2910 c32_i32_773
  let c1_i32_779 : BitVec 32 := 1#32
  let v2926 : BitVec 32 := Scalar.subi v2911 c1_i32_779
  let v2927 : BitVec 32 := Scalar.select v2925 v2926 v2911
  let v3009 : Index := Scalar.indexCast v2927
  let c128_797 : Index := 128#32
  ![1, v3009.toNat, 0, 128]
def k0_off9 (k0_t2 : Fin k0_t2_loop.trips) : Fin 4 → Nat :=
  let c0_1365 : Index := 0#32
  let c0_1366 : Index := 0#32
  let c0_i32_448 : BitVec 32 := 0#32
  let c1_i32_449 : BitVec 32 := 1#32
  let arg12 : BitVec 32 := Scf.iv c0_i32_448 c1_i32_449 k0_t2
  let c256_i32 : BitVec 32 := 256#32
  let v2901 : BitVec 32 := Scalar.muli arg12 c256_i32
  let v2902 : BitVec 32 := v2901
  let v5719 : Index := Scalar.indexCast v2902
  ![0, 0, 0, v5719.toNat]
def k0_off10 (k0_t2 : Fin k0_t2_loop.trips) : Fin 4 → Nat :=
  let c1_1369 : Index := 1#32
  let c0_1370 : Index := 0#32
  let c0_i32_448 : BitVec 32 := 0#32
  let c1_i32_449 : BitVec 32 := 1#32
  let arg12 : BitVec 32 := Scf.iv c0_i32_448 c1_i32_449 k0_t2
  let c256_i32 : BitVec 32 := 256#32
  let v2901 : BitVec 32 := Scalar.muli arg12 c256_i32
  let v2902 : BitVec 32 := v2901
  let v5727 : Index := Scalar.indexCast v2902
  ![1, 0, 0, v5727.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x12032 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x6016 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x32x128 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x256 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S16x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S16x1x12032 : Shape := ⟨3, ![16, 1, 12032]⟩
abbrev S30720x6016 : Shape := ⟨2, ![30720, 6016]⟩
abbrev S30720x188 : Shape := ⟨2, ![30720, 188]⟩
abbrev S22560 : Shape := ⟨1, ![22560]⟩
abbrev S_ : Shape := ⟨0, ![]⟩
abbrev S22560x256 : Shape := ⟨2, ![22560, 256]⟩
abbrev S22560x1 : Shape := ⟨2, ![22560, 1]⟩
abbrev S30720x188x1 : Shape := ⟨3, ![30720, 188, 1]⟩
abbrev S30720x188x32 : Shape := ⟨3, ![30720, 188, 32]⟩
abbrev S16x6016x2 : Shape := ⟨3, ![16, 6016, 2]⟩
abbrev S16x6016x1 : Shape := ⟨3, ![16, 6016, 1]⟩
abbrev S16x6016 : Shape := ⟨2, ![16, 6016]⟩
abbrev S16x30720 : Shape := ⟨2, ![16, 30720]⟩

abbrev nBuf : Space → Nat
  | .hbm => 220
  | .vmem => 0
  | .smem => 0
  | _ => 0

abbrev hbmTy0_0 (i : Nat) : BufTy := match i % 128 with
  | 0 => ⟨S16x1x12032, .bf16⟩
  | 1 => ⟨S30720x6016, .i8⟩
  | 2 => ⟨S30720x188, .i8⟩
  | 3 => ⟨S22560, .f32⟩
  | 4 => ⟨S_, .f32⟩
  | 5 => ⟨S30720x188, .i32⟩
  | 6 => ⟨S30720x188, .f32⟩
  | 7 => ⟨S22560x256, .f32⟩
  | 8 => ⟨S22560x1, .f32⟩
  | 9 => ⟨S22560x256, .f32⟩
  | 10 => ⟨S22560x256, .f32⟩
  | 11 => ⟨S22560x256, .f32⟩
  | 12 => ⟨S22560x256, .f32⟩
  | 13 => ⟨S30720x188, .f32⟩
  | 14 => ⟨S30720x188, .bf16⟩
  | 15 => ⟨S30720x188x1, .bf16⟩
  | 16 => ⟨S30720x188x32, .bf16⟩
  | 17 => ⟨S30720x6016, .bf16⟩
  | 18 => ⟨S30720x6016, .i32⟩
  | 19 => ⟨S_, .i32⟩
  | 20 => ⟨S30720x6016, .i32⟩
  | 21 => ⟨S30720x6016, .i32⟩
  | 22 => ⟨S_, .bf16⟩
  | 23 => ⟨S30720x6016, .bf16⟩
  | 24 => ⟨S_, .i32⟩
  | 25 => ⟨S30720x6016, .i32⟩
  | 26 => ⟨S30720x6016, .i1⟩
  | 27 => ⟨S_, .bf16⟩
  | 28 => ⟨S30720x6016, .bf16⟩
  | 29 => ⟨S30720x6016, .bf16⟩
  | 30 => ⟨S_, .i32⟩
  | 31 => ⟨S30720x6016, .i32⟩
  | 32 => ⟨S30720x6016, .i1⟩
  | 33 => ⟨S_, .bf16⟩
  | 34 => ⟨S30720x6016, .bf16⟩
  | 35 => ⟨S30720x6016, .bf16⟩
  | 36 => ⟨S_, .i32⟩
  | 37 => ⟨S30720x6016, .i32⟩
  | 38 => ⟨S30720x6016, .i1⟩
  | 39 => ⟨S_, .bf16⟩
  | 40 => ⟨S30720x6016, .bf16⟩
  | 41 => ⟨S30720x6016, .bf16⟩
  | 42 => ⟨S_, .i32⟩
  | 43 => ⟨S30720x6016, .i32⟩
  | 44 => ⟨S30720x6016, .i1⟩
  | 45 => ⟨S_, .bf16⟩
  | 46 => ⟨S30720x6016, .bf16⟩
  | 47 => ⟨S30720x6016, .bf16⟩
  | 48 => ⟨S_, .i32⟩
  | 49 => ⟨S30720x6016, .i32⟩
  | 50 => ⟨S30720x6016, .i1⟩
  | 51 => ⟨S_, .bf16⟩
  | 52 => ⟨S30720x6016, .bf16⟩
  | 53 => ⟨S30720x6016, .bf16⟩
  | 54 => ⟨S_, .i32⟩
  | 55 => ⟨S30720x6016, .i32⟩
  | 56 => ⟨S30720x6016, .i1⟩
  | 57 => ⟨S_, .bf16⟩
  | 58 => ⟨S30720x6016, .bf16⟩
  | 59 => ⟨S30720x6016, .bf16⟩
  | 60 => ⟨S_, .i32⟩
  | 61 => ⟨S30720x6016, .i32⟩
  | 62 => ⟨S30720x6016, .i1⟩
  | 63 => ⟨S_, .bf16⟩
  | 64 => ⟨S30720x6016, .bf16⟩
  | 65 => ⟨S30720x6016, .bf16⟩
  | 66 => ⟨S_, .i32⟩
  | 67 => ⟨S30720x6016, .i32⟩
  | 68 => ⟨S30720x6016, .i1⟩
  | 69 => ⟨S_, .bf16⟩
  | 70 => ⟨S30720x6016, .bf16⟩
  | 71 => ⟨S30720x6016, .bf16⟩
  | 72 => ⟨S_, .i32⟩
  | 73 => ⟨S30720x6016, .i32⟩
  | 74 => ⟨S30720x6016, .i1⟩
  | 75 => ⟨S_, .bf16⟩
  | 76 => ⟨S30720x6016, .bf16⟩
  | 77 => ⟨S30720x6016, .bf16⟩
  | 78 => ⟨S_, .i32⟩
  | 79 => ⟨S30720x6016, .i32⟩
  | 80 => ⟨S30720x6016, .i1⟩
  | 81 => ⟨S_, .bf16⟩
  | 82 => ⟨S30720x6016, .bf16⟩
  | 83 => ⟨S30720x6016, .bf16⟩
  | 84 => ⟨S_, .i32⟩
  | 85 => ⟨S30720x6016, .i32⟩
  | 86 => ⟨S30720x6016, .i1⟩
  | 87 => ⟨S_, .bf16⟩
  | 88 => ⟨S30720x6016, .bf16⟩
  | 89 => ⟨S30720x6016, .bf16⟩
  | 90 => ⟨S_, .i32⟩
  | 91 => ⟨S30720x6016, .i32⟩
  | 92 => ⟨S30720x6016, .i1⟩
  | 93 => ⟨S_, .bf16⟩
  | 94 => ⟨S30720x6016, .bf16⟩
  | 95 => ⟨S30720x6016, .bf16⟩
  | 96 => ⟨S_, .i32⟩
  | 97 => ⟨S30720x6016, .i32⟩
  | 98 => ⟨S30720x6016, .i1⟩
  | 99 => ⟨S_, .bf16⟩
  | 100 => ⟨S30720x6016, .bf16⟩
  | 101 => ⟨S30720x6016, .bf16⟩
  | 102 => ⟨S_, .i32⟩
  | 103 => ⟨S30720x6016, .i32⟩
  | 104 => ⟨S30720x6016, .i1⟩
  | 105 => ⟨S_, .bf16⟩
  | 106 => ⟨S30720x6016, .bf16⟩
  | 107 => ⟨S30720x6016, .bf16⟩
  | 108 => ⟨S_, .i32⟩
  | 109 => ⟨S30720x6016, .i32⟩
  | 110 => ⟨S30720x6016, .i1⟩
  | 111 => ⟨S_, .bf16⟩
  | 112 => ⟨S30720x6016, .bf16⟩
  | 113 => ⟨S30720x6016, .bf16⟩
  | 114 => ⟨S30720x6016, .bf16⟩
  | 115 => ⟨S_, .i32⟩
  | 116 => ⟨S30720x6016, .i32⟩
  | 117 => ⟨S30720x6016, .i32⟩
  | 118 => ⟨S_, .bf16⟩
  | 119 => ⟨S30720x6016, .bf16⟩
  | 120 => ⟨S_, .i32⟩
  | 121 => ⟨S30720x6016, .i32⟩
  | 122 => ⟨S30720x6016, .i1⟩
  | 123 => ⟨S_, .bf16⟩
  | 124 => ⟨S30720x6016, .bf16⟩
  | 125 => ⟨S30720x6016, .bf16⟩
  | 126 => ⟨S_, .i32⟩
  | 127 => ⟨S30720x6016, .i32⟩
  | _ => ⟨S16x1x12032, .bf16⟩

abbrev hbmTy0_1 (i : Nat) : BufTy := match i % 128 with
  | 0 => ⟨S30720x6016, .i1⟩
  | 1 => ⟨S_, .bf16⟩
  | 2 => ⟨S30720x6016, .bf16⟩
  | 3 => ⟨S30720x6016, .bf16⟩
  | 4 => ⟨S_, .i32⟩
  | 5 => ⟨S30720x6016, .i32⟩
  | 6 => ⟨S30720x6016, .i1⟩
  | 7 => ⟨S_, .bf16⟩
  | 8 => ⟨S30720x6016, .bf16⟩
  | 9 => ⟨S30720x6016, .bf16⟩
  | 10 => ⟨S_, .i32⟩
  | 11 => ⟨S30720x6016, .i32⟩
  | 12 => ⟨S30720x6016, .i1⟩
  | 13 => ⟨S_, .bf16⟩
  | 14 => ⟨S30720x6016, .bf16⟩
  | 15 => ⟨S30720x6016, .bf16⟩
  | 16 => ⟨S_, .i32⟩
  | 17 => ⟨S30720x6016, .i32⟩
  | 18 => ⟨S30720x6016, .i1⟩
  | 19 => ⟨S_, .bf16⟩
  | 20 => ⟨S30720x6016, .bf16⟩
  | 21 => ⟨S30720x6016, .bf16⟩
  | 22 => ⟨S_, .i32⟩
  | 23 => ⟨S30720x6016, .i32⟩
  | 24 => ⟨S30720x6016, .i1⟩
  | 25 => ⟨S_, .bf16⟩
  | 26 => ⟨S30720x6016, .bf16⟩
  | 27 => ⟨S30720x6016, .bf16⟩
  | 28 => ⟨S_, .i32⟩
  | 29 => ⟨S30720x6016, .i32⟩
  | 30 => ⟨S30720x6016, .i1⟩
  | 31 => ⟨S_, .bf16⟩
  | 32 => ⟨S30720x6016, .bf16⟩
  | 33 => ⟨S30720x6016, .bf16⟩
  | 34 => ⟨S_, .i32⟩
  | 35 => ⟨S30720x6016, .i32⟩
  | 36 => ⟨S30720x6016, .i1⟩
  | 37 => ⟨S_, .bf16⟩
  | 38 => ⟨S30720x6016, .bf16⟩
  | 39 => ⟨S30720x6016, .bf16⟩
  | 40 => ⟨S_, .i32⟩
  | 41 => ⟨S30720x6016, .i32⟩
  | 42 => ⟨S30720x6016, .i1⟩
  | 43 => ⟨S_, .bf16⟩
  | 44 => ⟨S30720x6016, .bf16⟩
  | 45 => ⟨S30720x6016, .bf16⟩
  | 46 => ⟨S_, .i32⟩
  | 47 => ⟨S30720x6016, .i32⟩
  | 48 => ⟨S30720x6016, .i1⟩
  | 49 => ⟨S_, .bf16⟩
  | 50 => ⟨S30720x6016, .bf16⟩
  | 51 => ⟨S30720x6016, .bf16⟩
  | 52 => ⟨S_, .i32⟩
  | 53 => ⟨S30720x6016, .i32⟩
  | 54 => ⟨S30720x6016, .i1⟩
  | 55 => ⟨S_, .bf16⟩
  | 56 => ⟨S30720x6016, .bf16⟩
  | 57 => ⟨S30720x6016, .bf16⟩
  | 58 => ⟨S_, .i32⟩
  | 59 => ⟨S30720x6016, .i32⟩
  | 60 => ⟨S30720x6016, .i1⟩
  | 61 => ⟨S_, .bf16⟩
  | 62 => ⟨S30720x6016, .bf16⟩
  | 63 => ⟨S30720x6016, .bf16⟩
  | 64 => ⟨S_, .i32⟩
  | 65 => ⟨S30720x6016, .i32⟩
  | 66 => ⟨S30720x6016, .i1⟩
  | 67 => ⟨S_, .bf16⟩
  | 68 => ⟨S30720x6016, .bf16⟩
  | 69 => ⟨S30720x6016, .bf16⟩
  | 70 => ⟨S_, .i32⟩
  | 71 => ⟨S30720x6016, .i32⟩
  | 72 => ⟨S30720x6016, .i1⟩
  | 73 => ⟨S_, .bf16⟩
  | 74 => ⟨S30720x6016, .bf16⟩
  | 75 => ⟨S30720x6016, .bf16⟩
  | 76 => ⟨S_, .i32⟩
  | 77 => ⟨S30720x6016, .i32⟩
  | 78 => ⟨S30720x6016, .i1⟩
  | 79 => ⟨S_, .bf16⟩
  | 80 => ⟨S30720x6016, .bf16⟩
  | 81 => ⟨S30720x6016, .bf16⟩
  | 82 => ⟨S30720x6016, .bf16⟩
  | 83 => ⟨S16x6016x2, .bf16⟩
  | 84 => ⟨S16x6016x1, .bf16⟩
  | 85 => ⟨S16x6016, .bf16⟩
  | 86 => ⟨S16x30720, .f32⟩
  | 87 => ⟨S16x6016x1, .bf16⟩
  | 88 => ⟨S16x6016, .bf16⟩
  | 89 => ⟨S16x30720, .f32⟩
  | 90 => ⟨S16x30720, .f32⟩
  | 91 => ⟨S16x30720, .bf16⟩
  | _ => ⟨S16x1x12032, .bf16⟩

abbrev hbmTy (i : Nat) : BufTy := match i / 128 with
  | 0 => hbmTy0_0 i
  | 1 => hbmTy0_1 i
  | _ => ⟨S16x1x12032, .bf16⟩

abbrev bufTy : (tb : Table) → Fin (tcTables nBuf tb) → BufTy
  | .hbm, ⟨i, _⟩ => hbmTy i
  | _, _ => ⟨S16x1x12032, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_c_0 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_call0_v0 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_call1_v0 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_call2_v0 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_cst_7 : Ref sig .tc := ⟨.hbm, 45, rfl⟩
abbrev main_call3_v0 : Ref sig .tc := ⟨.hbm, 46, rfl⟩
abbrev main_v28 : Ref sig .tc := ⟨.hbm, 47, rfl⟩
abbrev main_c_8 : Ref sig .tc := ⟨.hbm, 48, rfl⟩
abbrev main_v29 : Ref sig .tc := ⟨.hbm, 49, rfl⟩
abbrev main_v30 : Ref sig .tc := ⟨.hbm, 50, rfl⟩
abbrev main_cst_9 : Ref sig .tc := ⟨.hbm, 51, rfl⟩
abbrev main_call4_v0 : Ref sig .tc := ⟨.hbm, 52, rfl⟩
abbrev main_v31 : Ref sig .tc := ⟨.hbm, 53, rfl⟩
abbrev main_c_10 : Ref sig .tc := ⟨.hbm, 54, rfl⟩
abbrev main_v32 : Ref sig .tc := ⟨.hbm, 55, rfl⟩
abbrev main_v33 : Ref sig .tc := ⟨.hbm, 56, rfl⟩
abbrev main_cst_11 : Ref sig .tc := ⟨.hbm, 57, rfl⟩
abbrev main_call5_v0 : Ref sig .tc := ⟨.hbm, 58, rfl⟩
abbrev main_v34 : Ref sig .tc := ⟨.hbm, 59, rfl⟩
abbrev main_c_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_call6_v0 : Ref sig .tc := ⟨.hbm, 64, rfl⟩
abbrev main_v37 : Ref sig .tc := ⟨.hbm, 65, rfl⟩
abbrev main_c_14 : Ref sig .tc := ⟨.hbm, 66, rfl⟩
abbrev main_v38 : Ref sig .tc := ⟨.hbm, 67, rfl⟩
abbrev main_v39 : Ref sig .tc := ⟨.hbm, 68, rfl⟩
abbrev main_cst_15 : Ref sig .tc := ⟨.hbm, 69, rfl⟩
abbrev main_call7_v0 : Ref sig .tc := ⟨.hbm, 70, rfl⟩
abbrev main_v40 : Ref sig .tc := ⟨.hbm, 71, rfl⟩
abbrev main_c_16 : Ref sig .tc := ⟨.hbm, 72, rfl⟩
abbrev main_v41 : Ref sig .tc := ⟨.hbm, 73, rfl⟩
abbrev main_v42 : Ref sig .tc := ⟨.hbm, 74, rfl⟩
abbrev main_cst_17 : Ref sig .tc := ⟨.hbm, 75, rfl⟩
abbrev main_call8_v0 : Ref sig .tc := ⟨.hbm, 76, rfl⟩
abbrev main_v43 : Ref sig .tc := ⟨.hbm, 77, rfl⟩
abbrev main_c_18 : Ref sig .tc := ⟨.hbm, 78, rfl⟩
abbrev main_v44 : Ref sig .tc := ⟨.hbm, 79, rfl⟩
abbrev main_v45 : Ref sig .tc := ⟨.hbm, 80, rfl⟩
abbrev main_cst_19 : Ref sig .tc := ⟨.hbm, 81, rfl⟩
abbrev main_call9_v0 : Ref sig .tc := ⟨.hbm, 82, rfl⟩
abbrev main_v46 : Ref sig .tc := ⟨.hbm, 83, rfl⟩
abbrev main_c_20 : Ref sig .tc := ⟨.hbm, 84, rfl⟩
abbrev main_v47 : Ref sig .tc := ⟨.hbm, 85, rfl⟩
abbrev main_v48 : Ref sig .tc := ⟨.hbm, 86, rfl⟩
abbrev main_cst_21 : Ref sig .tc := ⟨.hbm, 87, rfl⟩
abbrev main_call10_v0 : Ref sig .tc := ⟨.hbm, 88, rfl⟩
abbrev main_v49 : Ref sig .tc := ⟨.hbm, 89, rfl⟩
abbrev main_c_22 : Ref sig .tc := ⟨.hbm, 90, rfl⟩
abbrev main_v50 : Ref sig .tc := ⟨.hbm, 91, rfl⟩
abbrev main_v51 : Ref sig .tc := ⟨.hbm, 92, rfl⟩
abbrev main_cst_23 : Ref sig .tc := ⟨.hbm, 93, rfl⟩
abbrev main_call11_v0 : Ref sig .tc := ⟨.hbm, 94, rfl⟩
abbrev main_v52 : Ref sig .tc := ⟨.hbm, 95, rfl⟩
abbrev main_c_24 : Ref sig .tc := ⟨.hbm, 96, rfl⟩
abbrev main_v53 : Ref sig .tc := ⟨.hbm, 97, rfl⟩
abbrev main_v54 : Ref sig .tc := ⟨.hbm, 98, rfl⟩
abbrev main_cst_25 : Ref sig .tc := ⟨.hbm, 99, rfl⟩
abbrev main_call12_v0 : Ref sig .tc := ⟨.hbm, 100, rfl⟩
abbrev main_v55 : Ref sig .tc := ⟨.hbm, 101, rfl⟩
abbrev main_c_26 : Ref sig .tc := ⟨.hbm, 102, rfl⟩
abbrev main_v56 : Ref sig .tc := ⟨.hbm, 103, rfl⟩
abbrev main_v57 : Ref sig .tc := ⟨.hbm, 104, rfl⟩
abbrev main_cst_27 : Ref sig .tc := ⟨.hbm, 105, rfl⟩
abbrev main_call13_v0 : Ref sig .tc := ⟨.hbm, 106, rfl⟩
abbrev main_v58 : Ref sig .tc := ⟨.hbm, 107, rfl⟩
abbrev main_c_28 : Ref sig .tc := ⟨.hbm, 108, rfl⟩
abbrev main_v59 : Ref sig .tc := ⟨.hbm, 109, rfl⟩
abbrev main_v60 : Ref sig .tc := ⟨.hbm, 110, rfl⟩
abbrev main_cst_29 : Ref sig .tc := ⟨.hbm, 111, rfl⟩
abbrev main_call14_v0 : Ref sig .tc := ⟨.hbm, 112, rfl⟩
abbrev main_v61 : Ref sig .tc := ⟨.hbm, 113, rfl⟩
abbrev main_v62 : Ref sig .tc := ⟨.hbm, 114, rfl⟩
abbrev main_c_30 : Ref sig .tc := ⟨.hbm, 115, rfl⟩
abbrev main_v63 : Ref sig .tc := ⟨.hbm, 116, rfl⟩
abbrev main_v64 : Ref sig .tc := ⟨.hbm, 117, rfl⟩
abbrev main_cst_31 : Ref sig .tc := ⟨.hbm, 118, rfl⟩
abbrev main_v65 : Ref sig .tc := ⟨.hbm, 119, rfl⟩
abbrev main_c_32 : Ref sig .tc := ⟨.hbm, 120, rfl⟩
abbrev main_v66 : Ref sig .tc := ⟨.hbm, 121, rfl⟩
abbrev main_v67 : Ref sig .tc := ⟨.hbm, 122, rfl⟩
abbrev main_cst_33 : Ref sig .tc := ⟨.hbm, 123, rfl⟩
abbrev main_call15_v0 : Ref sig .tc := ⟨.hbm, 124, rfl⟩
abbrev main_v68 : Ref sig .tc := ⟨.hbm, 125, rfl⟩
abbrev main_c_34 : Ref sig .tc := ⟨.hbm, 126, rfl⟩
abbrev main_v69 : Ref sig .tc := ⟨.hbm, 127, rfl⟩
abbrev main_v70 : Ref sig .tc := ⟨.hbm, 128, rfl⟩
abbrev main_cst_35 : Ref sig .tc := ⟨.hbm, 129, rfl⟩
abbrev main_call16_v0 : Ref sig .tc := ⟨.hbm, 130, rfl⟩
abbrev main_v71 : Ref sig .tc := ⟨.hbm, 131, rfl⟩
abbrev main_c_36 : Ref sig .tc := ⟨.hbm, 132, rfl⟩
abbrev main_v72 : Ref sig .tc := ⟨.hbm, 133, rfl⟩
abbrev main_v73 : Ref sig .tc := ⟨.hbm, 134, rfl⟩
abbrev main_cst_37 : Ref sig .tc := ⟨.hbm, 135, rfl⟩
abbrev main_call17_v0 : Ref sig .tc := ⟨.hbm, 136, rfl⟩
abbrev main_v74 : Ref sig .tc := ⟨.hbm, 137, rfl⟩
abbrev main_c_38 : Ref sig .tc := ⟨.hbm, 138, rfl⟩
abbrev main_v75 : Ref sig .tc := ⟨.hbm, 139, rfl⟩
abbrev main_v76 : Ref sig .tc := ⟨.hbm, 140, rfl⟩
abbrev main_cst_39 : Ref sig .tc := ⟨.hbm, 141, rfl⟩
abbrev main_call18_v0 : Ref sig .tc := ⟨.hbm, 142, rfl⟩
abbrev main_v77 : Ref sig .tc := ⟨.hbm, 143, rfl⟩
abbrev main_c_40 : Ref sig .tc := ⟨.hbm, 144, rfl⟩
abbrev main_v78 : Ref sig .tc := ⟨.hbm, 145, rfl⟩
abbrev main_v79 : Ref sig .tc := ⟨.hbm, 146, rfl⟩
abbrev main_cst_41 : Ref sig .tc := ⟨.hbm, 147, rfl⟩
abbrev main_call19_v0 : Ref sig .tc := ⟨.hbm, 148, rfl⟩
abbrev main_v80 : Ref sig .tc := ⟨.hbm, 149, rfl⟩
abbrev main_c_42 : Ref sig .tc := ⟨.hbm, 150, rfl⟩
abbrev main_v81 : Ref sig .tc := ⟨.hbm, 151, rfl⟩
abbrev main_v82 : Ref sig .tc := ⟨.hbm, 152, rfl⟩
abbrev main_cst_43 : Ref sig .tc := ⟨.hbm, 153, rfl⟩
abbrev main_call20_v0 : Ref sig .tc := ⟨.hbm, 154, rfl⟩
abbrev main_v83 : Ref sig .tc := ⟨.hbm, 155, rfl⟩
abbrev main_c_44 : Ref sig .tc := ⟨.hbm, 156, rfl⟩
abbrev main_v84 : Ref sig .tc := ⟨.hbm, 157, rfl⟩
abbrev main_v85 : Ref sig .tc := ⟨.hbm, 158, rfl⟩
abbrev main_cst_45 : Ref sig .tc := ⟨.hbm, 159, rfl⟩
abbrev main_call21_v0 : Ref sig .tc := ⟨.hbm, 160, rfl⟩
abbrev main_v86 : Ref sig .tc := ⟨.hbm, 161, rfl⟩
abbrev main_c_46 : Ref sig .tc := ⟨.hbm, 162, rfl⟩
abbrev main_v87 : Ref sig .tc := ⟨.hbm, 163, rfl⟩
abbrev main_v88 : Ref sig .tc := ⟨.hbm, 164, rfl⟩
abbrev main_cst_47 : Ref sig .tc := ⟨.hbm, 165, rfl⟩
abbrev main_call22_v0 : Ref sig .tc := ⟨.hbm, 166, rfl⟩
abbrev main_v89 : Ref sig .tc := ⟨.hbm, 167, rfl⟩
abbrev main_c_48 : Ref sig .tc := ⟨.hbm, 168, rfl⟩
abbrev main_v90 : Ref sig .tc := ⟨.hbm, 169, rfl⟩
abbrev main_v91 : Ref sig .tc := ⟨.hbm, 170, rfl⟩
abbrev main_cst_49 : Ref sig .tc := ⟨.hbm, 171, rfl⟩
abbrev main_call23_v0 : Ref sig .tc := ⟨.hbm, 172, rfl⟩
abbrev main_v92 : Ref sig .tc := ⟨.hbm, 173, rfl⟩
abbrev main_c_50 : Ref sig .tc := ⟨.hbm, 174, rfl⟩
abbrev main_v93 : Ref sig .tc := ⟨.hbm, 175, rfl⟩
abbrev main_v94 : Ref sig .tc := ⟨.hbm, 176, rfl⟩
abbrev main_cst_51 : Ref sig .tc := ⟨.hbm, 177, rfl⟩
abbrev main_call24_v0 : Ref sig .tc := ⟨.hbm, 178, rfl⟩
abbrev main_v95 : Ref sig .tc := ⟨.hbm, 179, rfl⟩
abbrev main_c_52 : Ref sig .tc := ⟨.hbm, 180, rfl⟩
abbrev main_v96 : Ref sig .tc := ⟨.hbm, 181, rfl⟩
abbrev main_v97 : Ref sig .tc := ⟨.hbm, 182, rfl⟩
abbrev main_cst_53 : Ref sig .tc := ⟨.hbm, 183, rfl⟩
abbrev main_call25_v0 : Ref sig .tc := ⟨.hbm, 184, rfl⟩
abbrev main_v98 : Ref sig .tc := ⟨.hbm, 185, rfl⟩
abbrev main_c_54 : Ref sig .tc := ⟨.hbm, 186, rfl⟩
abbrev main_v99 : Ref sig .tc := ⟨.hbm, 187, rfl⟩
abbrev main_v100 : Ref sig .tc := ⟨.hbm, 188, rfl⟩
abbrev main_cst_55 : Ref sig .tc := ⟨.hbm, 189, rfl⟩
abbrev main_call26_v0 : Ref sig .tc := ⟨.hbm, 190, rfl⟩
abbrev main_v101 : Ref sig .tc := ⟨.hbm, 191, rfl⟩
abbrev main_c_56 : Ref sig .tc := ⟨.hbm, 192, rfl⟩
abbrev main_v102 : Ref sig .tc := ⟨.hbm, 193, rfl⟩
abbrev main_v103 : Ref sig .tc := ⟨.hbm, 194, rfl⟩
abbrev main_cst_57 : Ref sig .tc := ⟨.hbm, 195, rfl⟩
abbrev main_call27_v0 : Ref sig .tc := ⟨.hbm, 196, rfl⟩
abbrev main_v104 : Ref sig .tc := ⟨.hbm, 197, rfl⟩
abbrev main_c_58 : Ref sig .tc := ⟨.hbm, 198, rfl⟩
abbrev main_v105 : Ref sig .tc := ⟨.hbm, 199, rfl⟩
abbrev main_v106 : Ref sig .tc := ⟨.hbm, 200, rfl⟩
abbrev main_cst_59 : Ref sig .tc := ⟨.hbm, 201, rfl⟩
abbrev main_call28_v0 : Ref sig .tc := ⟨.hbm, 202, rfl⟩
abbrev main_v107 : Ref sig .tc := ⟨.hbm, 203, rfl⟩
abbrev main_c_60 : Ref sig .tc := ⟨.hbm, 204, rfl⟩
abbrev main_v108 : Ref sig .tc := ⟨.hbm, 205, rfl⟩
abbrev main_v109 : Ref sig .tc := ⟨.hbm, 206, rfl⟩
abbrev main_cst_61 : Ref sig .tc := ⟨.hbm, 207, rfl⟩
abbrev main_call29_v0 : Ref sig .tc := ⟨.hbm, 208, rfl⟩
abbrev main_v110 : Ref sig .tc := ⟨.hbm, 209, rfl⟩
abbrev main_v111 : Ref sig .tc := ⟨.hbm, 210, rfl⟩
abbrev main_v112 : Ref sig .tc := ⟨.hbm, 211, rfl⟩
abbrev main_v113 : Ref sig .tc := ⟨.hbm, 212, rfl⟩
abbrev main_v114 : Ref sig .tc := ⟨.hbm, 213, rfl⟩
abbrev main_v115 : Ref sig .tc := ⟨.hbm, 214, rfl⟩
abbrev main_v116 : Ref sig .tc := ⟨.hbm, 215, rfl⟩
abbrev main_v117 : Ref sig .tc := ⟨.hbm, 216, rfl⟩
abbrev main_v118 : Ref sig .tc := ⟨.hbm, 217, rfl⟩
abbrev main_v119 : Ref sig .tc := ⟨.hbm, 218, rfl⟩
abbrev main_v120 : Ref sig .tc := ⟨.hbm, 219, rfl⟩

abbrev nD : Nat := 1
abbrev τ : Topo := Topo.v7x

variable {F : FTy → Type} [FloatOps F]
-- ==== Proof.KernelRunA.lean ====
/- The run of the kernel body at the first grid point, on words: the activations are laid out in the carried scratch, whose
   earlier contents do not matter. -/
module

public import proofs.«01_k».proof.Proof.Gen.Kernel.Frame.Runs

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option backward.proofsInPublic true in
set_option maxHeartbeats 20000000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S16x12032 .bf16) (harg1 : arg1.IsWhole) (arg2 : Memref sig .tc .vmem S512x6016 .i8) (harg2 : arg2.IsWhole) (arg3 : Memref sig .tc .vmem S512x256 .i8) (harg3 : arg3.IsWhole) (arg4 : Memref sig .tc .vmem S8x1x128 .f32) (harg4 : arg4.IsWhole) (arg5 : Memref sig .tc .smem S1 .f32) (harg5 : arg5.IsWhole) (arg6 : Memref sig .tc .vmem S2x32x128 .i8) (harg6 : arg6.IsWhole) (arg7 : Memref sig .tc .vmem S8x128 .i32) (harg7 : arg7.IsWhole) (arg8 : Memref sig .tc .vmem S2x256 .i32) (harg8 : arg8.IsWhole) (arg9 : Memref sig .tc .vmem S16x512 .bf16) (harg9 : arg9.IsWhole) (arg10 : Memref sig .tc .vmem S2x8x6016 .i32) (harg10 : arg10.IsWhole) (arg11 : Memref sig .tc .vmem S2x192x256 .i32) (harg11 : arg11.IsWhole) (hc0 : cond0_0 i)
    (x0 : Vec F S16x12032 .bf16) (x1 : Vec F S512x6016 .i8) (x2 : Vec F S512x256 .i8) (x3 : Vec F S8x1x128 .f32) (x4 : Vec F S1 .f32) (x5 : Vec F S2x32x128 .i8) (x6 : Vec F S8x128 .i32) (x7 : Vec F S2x256 .i32) :
    Σ' (L8 : List (View.Piece (Elt F) S16x512 .bf16)), Σ' (LS0 : List (View.Piece (Elt F) S2x8x6016 .i32)), { LT1 : List (View.Piece (Elt F) S2x192x256 .i32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LT1)) -∗ K ⟨⟩))
          ⊢ wp frame (wpE (defs₀ (F := F)) Variants.none c none) E (cc0_nf4_linear i arg1 harg1 arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0_nf4_linear_eq_skeleton]; unfold cc0_nf4_linear_skel
    simp only [k0_part125_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    have hrd0 : ∀ (𝒱 : Variants) (c : Dev nD) (bd : Option 𝒱.V) (i : grid0.Coords) (arg1 : Memref sig .tc .vmem S16x12032 .bf16) (harg1 : arg1.IsWhole) (arg2 : Memref sig .tc .vmem S512x6016 .i8) (harg2 : arg2.IsWhole) (arg3 : Memref sig .tc .vmem S512x256 .i8) (harg3 : arg3.IsWhole) (arg4 : Memref sig .tc .vmem S8x1x128 .f32) (harg4 : arg4.IsWhole) (arg5 : Memref sig .tc .smem S1 .f32) (harg5 : arg5.IsWhole) (arg6 : Memref sig .tc .vmem S2x32x128 .i8) (harg6 : arg6.IsWhole) (arg7 : Memref sig .tc .vmem S8x128 .i32) (harg7 : arg7.IsWhole) (arg8 : Memref sig .tc .vmem S2x256 .i32) (harg8 : arg8.IsWhole) (arg9 : Memref sig .tc .vmem S16x512 .bf16) (harg9 : arg9.IsWhole) (arg10 : Memref sig .tc .vmem S2x8x6016 .i32) (harg10 : arg10.IsWhole) (arg11 : Memref sig .tc .vmem S2x192x256 .i32) (harg11 : arg11.IsWhole) (k0_h1 : k0_cond1 i = 1#1) (v2901 : IVec S16x128 32) (X_arg1 : BufTy.Contents (Elt F) arg1.view.ty) (hrdF : BufTy.Contents (Elt F) arg10.view.ty) (hrdB : LoadRect S2x8x6016), arg10.view.readAt (Elt F) hrdB (arg10.view.writes (Elt F) hrdF (pb_k0_t1 (F := F) 𝒱 c bd i arg1 harg1 arg2 harg2 arg3 harg3 arg4 harg4 arg5 harg5 arg6 harg6 arg7 harg7 arg8 harg8 arg9 harg9 arg10 harg10 arg11 harg11 k0_h1 v2901 X_arg1 (Scf.trips k0_t1_loop.lb k0_t1_loop.ub k0_t1_loop.st))) = arg10.view.readCov (pb_k0_t1 (F := F) 𝒱 c bd i arg1 harg1 arg2 harg2 arg3 harg3 arg4 harg4 arg5 harg5 arg6 harg6 arg7 harg7 arg8 harg8 arg9 harg9 arg10 harg10 arg11 harg11 k0_h1 v2901 X_arg1 (Scf.trips k0_t1_loop.lb k0_t1_loop.ub k0_t1_loop.st)) hrdB := fun 𝒱 c bd i arg1 harg1 arg2 harg2 arg3 harg3 arg4 harg4 arg5 harg5 arg6 harg6 arg7 harg7 arg8 harg8 arg9 harg9 arg10 harg10 arg11 harg11 k0_h1 v2901 X_arg1 hrdF hrdB => View.readAt_writes_of_cover _ hrdF _ hrdB (fun hrdJ => View.cover_of_tiledL (pb_k0_t1 (F := F) 𝒱 c bd i arg1 harg1 arg2 harg2 arg3 harg3 arg4 harg4 arg5 harg5 arg6 harg6 arg7 harg7 arg8 harg8 arg9 harg9 arg10 harg10 arg11 harg11 k0_h1 v2901 X_arg1 (Scf.trips k0_t1_loop.lb k0_t1_loop.ub k0_t1_loop.st)) S1x8x128.size (by sl_kernel_rfl) (hrdB.idx hrdJ))
    have hw0 : ∀ (v2901 : IVec S16x128 32) (f : BufTy.Contents (Elt F) arg10.view.ty), arg10.view.writes (Elt F) f (pb_k0_t1 (F := F) Variants.none c none i arg1 harg1 arg2 harg2 arg3 harg3 arg4 harg4 arg5 harg5 arg6 harg6 arg7 harg7 arg8 harg8 arg9 harg9 arg10 harg10 arg11 harg11 hc0 v2901 (harg1.unread x0) (Scf.trips k0_t1_loop.lb k0_t1_loop.ub k0_t1_loop.st)) = arg10.view.writes (Elt F) arg10.view.junk (pb_k0_t1 (F := F) Variants.none c none i arg1 harg1 arg2 harg2 arg3 harg3 arg4 harg4 arg5 harg5 arg6 harg6 arg7 harg7 arg8 harg8 arg9 harg9 arg10 harg10 arg11 harg11 hc0 v2901 (harg1.unread x0) (Scf.trips k0_t1_loop.lb k0_t1_loop.ub k0_t1_loop.st)) := fun v2901 f =>
      (harg10.eq_unread (View.read_writes_eq_canon arg10.view f (pb_k0_t1 (F := F) Variants.none c none i arg1 harg1 arg2 harg2 arg3 harg3 arg4 harg4 arg5 harg5 arg6 harg6 arg7 harg7 arg8 harg8 arg9 harg9 arg10 harg10 arg11 harg11 hc0 v2901 (harg1.unread x0) (Scf.trips k0_t1_loop.lb k0_t1_loop.ub k0_t1_loop.st)) (View.cover_of_tiledL (pb_k0_t1 (F := F) Variants.none c none i arg1 harg1 arg2 harg2 arg3 harg3 arg4 harg4 arg5 harg5 arg6 harg6 arg7 harg7 arg8 harg8 arg9 harg9 arg10 harg10 arg11 harg11 hc0 v2901 (harg1.unread x0) (Scf.trips k0_t1_loop.lb k0_t1_loop.ub k0_t1_loop.st)) S1x8x128.size (by sl_kernel_rfl)))).trans
        (harg10.eq_unread (View.read_writes_eq_canon arg10.view arg10.view.junk (pb_k0_t1 (F := F) Variants.none c none i arg1 harg1 arg2 harg2 arg3 harg3 arg4 harg4 arg5 harg5 arg6 harg6 arg7 harg7 arg8 harg8 arg9 harg9 arg10 harg10 arg11 harg11 hc0 v2901 (harg1.unread x0) (Scf.trips k0_t1_loop.lb k0_t1_loop.ub k0_t1_loop.st)) (View.cover_of_tiledL (pb_k0_t1 (F := F) Variants.none c none i arg1 harg1 arg2 harg2 arg3 harg3 arg4 harg4 arg5 harg5 arg6 harg6 arg7 harg7 arg8 harg8 arg9 harg9 arg10 harg10 arg11 harg11 hc0 v2901 (harg1.unread x0) (Scf.trips k0_t1_loop.lb k0_t1_loop.ub k0_t1_loop.st)) S1x8x128.size (by sl_kernel_rfl)))).symm
    set_option sl_exec.stopBefore "k0_part62" in sl_exec (disch := first | sl_exact hc0)
    rw [hw0 _ fs0]
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [HS0]; · iexists _; iexact HS0
    iexists _; iexact HS1

end Cert.Kernel.Gen

end
-- ==== Proof.KernelRunB.lean ====
/- The run of the kernel body at the later grid points, on words: the activations' scratch is as the point before left it. -/
module

public import proofs.«01_k».proof.Proof.KernelRunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 20000000 in
/-- What the body's stores leave in each output's staging memref, as pieces (last first) IN CASE B (`scf.if` 0 not taken: points 1, 2, … 59: 59 of 60), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S16x12032 .bf16) (harg1 : arg1.IsWhole) (arg2 : Memref sig .tc .vmem S512x6016 .i8) (harg2 : arg2.IsWhole) (arg3 : Memref sig .tc .vmem S512x256 .i8) (harg3 : arg3.IsWhole) (arg4 : Memref sig .tc .vmem S8x1x128 .f32) (harg4 : arg4.IsWhole) (arg5 : Memref sig .tc .smem S1 .f32) (harg5 : arg5.IsWhole) (arg6 : Memref sig .tc .vmem S2x32x128 .i8) (harg6 : arg6.IsWhole) (arg7 : Memref sig .tc .vmem S8x128 .i32) (harg7 : arg7.IsWhole) (arg8 : Memref sig .tc .vmem S2x256 .i32) (harg8 : arg8.IsWhole) (arg9 : Memref sig .tc .vmem S16x512 .bf16) (harg9 : arg9.IsWhole) (arg10 : Memref sig .tc .vmem S2x8x6016 .i32) (harg10 : arg10.IsWhole) (arg11 : Memref sig .tc .vmem S2x192x256 .i32) (harg11 : arg11.IsWhole) (hc0 : ¬cond0_0 i)
    (x0 : Vec F S16x12032 .bf16) (x1 : Vec F S512x6016 .i8) (x2 : Vec F S512x256 .i8) (x3 : Vec F S8x1x128 .f32) (x4 : Vec F S1 .f32) (x5 : Vec F S2x32x128 .i8) (x6 : Vec F S8x128 .i32) (x7 : Vec F S2x256 .i32) (xs0 : Vec F S2x8x6016 .i32) :
    Σ' (L8 : List (View.Piece (Elt F) S16x512 .bf16)), Σ' (LS0 : List (View.Piece (Elt F) S2x8x6016 .i32)), { LT1 : List (View.Piece (Elt F) S2x192x256 .i32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xs0 ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ owns (c : Thread nD τ) arg10 fullShare xs0 ∗ (∃ f, arg11.view.loc (c : Thread nD τ) ↦[arg11.view.set]{fullShare} arg11.view.writes (Elt F) f LT1)) -∗ K ⟨⟩))
          ⊢ wp frame (wpE (defs₀ (F := F)) Variants.none c none) E (cc0_nf4_linear i arg1 harg1 arg2 harg2 arg3 harg3 arg4 harg4 arg5 harg5 arg6 harg6 arg7 harg7 arg8 harg8 arg9 harg9 arg10 harg10 arg11 harg11) K } := by
  refine ⟨?_, [], ?_, fun E K => ?run⟩
  case run =>
    simp only [cc0_nf4_linear_eq_skeleton]; unfold cc0_nf4_linear_skel
    simp only [k0_part125_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [HS0]
    · iexists _; isplitr; · ipureintro; exact harg10.read_unread _
      iexact HS0
    iexists _; iexact HS1

end Cert.Kernel.Gen

end
-- ==== Proof.KernelFrame.lean ====
/- The frame of the kernel on words, over its two runs: what each grid point leaves in the output block and in the carried
   scratch, the obligation of the pipeline, and the run of the whole program. -/
module

public import proofs.«01_k».proof.Proof.KernelRunB
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-- Case A's pieces for output 8 tile its block (4 stores of `S16x128`, checked by the kernel's evaluation: Lib/Ring.lean `Piece.tiledL`, linear in the pieces, through a loop's `@[irreducible]` trip theorem too), so they cover it. -/
theorem cover0_A_8 (c : Dev nD) (i : grid0.Coords) (arg1 : Memref sig .tc .vmem S16x12032 .bf16) (harg1 : arg1.IsWhole) (arg2 : Memref sig .tc .vmem S512x6016 .i8) (harg2 : arg2.IsWhole) (arg3 : Memref sig .tc .vmem S512x256 .i8) (harg3 : arg3.IsWhole) (arg4 : Memref sig .tc .vmem S8x1x128 .f32) (harg4 : arg4.IsWhole) (arg5 : Memref sig .tc .smem S1 .f32) (harg5 : arg5.IsWhole) (arg6 : Memref sig .tc .vmem S2x32x128 .i8) (harg6 : arg6.IsWhole) (arg7 : Memref sig .tc .vmem S8x128 .i32) (harg7 : arg7.IsWhole) (arg8 : Memref sig .tc .vmem S2x256 .i32) (harg8 : arg8.IsWhole) (arg9 : Memref sig .tc .vmem S16x512 .bf16) (harg9 : arg9.IsWhole) (arg10 : Memref sig .tc .vmem S2x8x6016 .i32) (harg10 : arg10.IsWhole) (arg11 : Memref sig .tc .vmem S2x192x256 .i32) (harg11 : arg11.IsWhole) (hc0 : cond0_0 i)
    (x0 : Vec F S16x12032 .bf16) (x1 : Vec F S512x6016 .i8) (x2 : Vec F S512x256 .i8) (x3 : Vec F S8x1x128 .f32) (x4 : Vec F S1 .f32) (x5 : Vec F S2x32x128 .i8) (x6 : Vec F S8x128 .i32) (x7 : Vec F S2x256 .i32) (y : S16x512.Idx) :
    ∃ pc ∈ (kernelRun0_A c i arg1 harg1 arg2 harg2 arg3 harg3 arg4 harg4 arg5 harg5 arg6 harg6 arg7 harg7 arg8 harg8 arg9 harg9 arg10 harg10 arg11 harg11 hc0 x0 x1 x2 x3 x4 x5 x6 x7).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 x0 x1 x2 x3 x4 x5 x6 x7).1 S16x128.size (by sl_kernel_rfl) y

/-- What case A leaves in output 8's staging buffer: its pieces read back over junk. -/
def out0_A_8 (c : Dev nD) (i : grid0.Coords) (arg1 : Memref sig .tc .vmem S16x12032 .bf16) (harg1 : arg1.IsWhole) (arg2 : Memref sig .tc .vmem S512x6016 .i8) (harg2 : arg2.IsWhole) (arg3 : Memref sig .tc .vmem S512x256 .i8) (harg3 : arg3.IsWhole) (arg4 : Memref sig .tc .vmem S8x1x128 .f32) (harg4 : arg4.IsWhole) (arg5 : Memref sig .tc .smem S1 .f32) (harg5 : arg5.IsWhole) (arg6 : Memref sig .tc .vmem S2x32x128 .i8) (harg6 : arg6.IsWhole) (arg7 : Memref sig .tc .vmem S8x128 .i32) (harg7 : arg7.IsWhole) (arg8 : Memref sig .tc .vmem S2x256 .i32) (harg8 : arg8.IsWhole) (arg9 : Memref sig .tc .vmem S16x512 .bf16) (harg9 : arg9.IsWhole) (arg10 : Memref sig .tc .vmem S2x8x6016 .i32) (harg10 : arg10.IsWhole) (arg11 : Memref sig .tc .vmem S2x192x256 .i32) (harg11 : arg11.IsWhole) (hc0 : cond0_0 i)
    (x0 : Vec F S16x12032 .bf16) (x1 : Vec F S512x6016 .i8) (x2 : Vec F S512x256 .i8) (x3 : Vec F S8x1x128 .f32) (x4 : Vec F S1 .f32) (x5 : Vec F S2x32x128 .i8) (x6 : Vec F S8x128 .i32) (x7 : Vec F S2x256 .i32) : Vec F S16x512 .bf16 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 hc0 x0 x1 x2 x3 x4 x5 x6 x7).1)

/-- Case A's pieces for scratch `arg10`, which the kernel carries between points, cover it: 94 pieces of `S1x8x128` tiling it (Lib/Ring.lean `Piece.tiledL`). -/
theorem scover0_A_0 (c : Dev nD) (i : grid0.Coords) (arg1 : Memref sig .tc .vmem S16x12032 .bf16) (harg1 : arg1.IsWhole) (arg2 : Memref sig .tc .vmem S512x6016 .i8) (harg2 : arg2.IsWhole) (arg3 : Memref sig .tc .vmem S512x256 .i8) (harg3 : arg3.IsWhole) (arg4 : Memref sig .tc .vmem S8x1x128 .f32) (harg4 : arg4.IsWhole) (arg5 : Memref sig .tc .smem S1 .f32) (harg5 : arg5.IsWhole) (arg6 : Memref sig .tc .vmem S2x32x128 .i8) (harg6 : arg6.IsWhole) (arg7 : Memref sig .tc .vmem S8x128 .i32) (harg7 : arg7.IsWhole) (arg8 : Memref sig .tc .vmem S2x256 .i32) (harg8 : arg8.IsWhole) (arg9 : Memref sig .tc .vmem S16x512 .bf16) (harg9 : arg9.IsWhole) (arg10 : Memref sig .tc .vmem S2x8x6016 .i32) (harg10 : arg10.IsWhole) (arg11 : Memref sig .tc .vmem S2x192x256 .i32) (harg11 : arg11.IsWhole) (hc0 : cond0_0 i)
    (x0 : Vec F S16x12032 .bf16) (x1 : Vec F S512x6016 .i8) (x2 : Vec F S512x256 .i8) (x3 : Vec F S8x1x128 .f32) (x4 : Vec F S1 .f32) (x5 : Vec F S2x32x128 .i8) (x6 : Vec F S8x128 .i32) (x7 : Vec F S2x256 .i32) (y : S2x8x6016.Idx) :
    ∃ pc ∈ (kernelRun0_A c i arg1 harg1 arg2 harg2 arg3 harg3 arg4 harg4 arg5 harg5 arg6 harg6 arg7 harg7 arg8 harg8 arg9 harg9 arg10 harg10 arg11 harg11 hc0 x0 x1 x2 x3 x4 x5 x6 x7).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 x0 x1 x2 x3 x4 x5 x6 x7).2.1 S1x8x128.size (by sl_kernel_rfl) y

/-- What case A leaves in scratch `arg10`: its pieces read back over junk. -/
def sout0_A_0 (c : Dev nD) (i : grid0.Coords) (arg1 : Memref sig .tc .vmem S16x12032 .bf16) (harg1 : arg1.IsWhole) (arg2 : Memref sig .tc .vmem S512x6016 .i8) (harg2 : arg2.IsWhole) (arg3 : Memref sig .tc .vmem S512x256 .i8) (harg3 : arg3.IsWhole) (arg4 : Memref sig .tc .vmem S8x1x128 .f32) (harg4 : arg4.IsWhole) (arg5 : Memref sig .tc .smem S1 .f32) (harg5 : arg5.IsWhole) (arg6 : Memref sig .tc .vmem S2x32x128 .i8) (harg6 : arg6.IsWhole) (arg7 : Memref sig .tc .vmem S8x128 .i32) (harg7 : arg7.IsWhole) (arg8 : Memref sig .tc .vmem S2x256 .i32) (harg8 : arg8.IsWhole) (arg9 : Memref sig .tc .vmem S16x512 .bf16) (harg9 : arg9.IsWhole) (arg10 : Memref sig .tc .vmem S2x8x6016 .i32) (harg10 : arg10.IsWhole) (arg11 : Memref sig .tc .vmem S2x192x256 .i32) (harg11 : arg11.IsWhole) (hc0 : cond0_0 i)
    (x0 : Vec F S16x12032 .bf16) (x1 : Vec F S512x6016 .i8) (x2 : Vec F S512x256 .i8) (x3 : Vec F S8x1x128 .f32) (x4 : Vec F S1 .f32) (x5 : Vec F S2x32x128 .i8) (x6 : Vec F S8x128 .i32) (x7 : Vec F S2x256 .i32) : Vec F S2x8x6016 .i32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 hc0 x0 x1 x2 x3 x4 x5 x6 x7).2.1)

/-- Case B's pieces for output 8 tile its block (4 stores of `S16x128`, checked by the kernel's evaluation: Lib/Ring.lean `Piece.tiledL`, linear in the pieces, through a loop's `@[irreducible]` trip theorem too), so they cover it. -/
theorem cover0_B_8 (c : Dev nD) (i : grid0.Coords) (arg1 : Memref sig .tc .vmem S16x12032 .bf16) (harg1 : arg1.IsWhole) (arg2 : Memref sig .tc .vmem S512x6016 .i8) (harg2 : arg2.IsWhole) (arg3 : Memref sig .tc .vmem S512x256 .i8) (harg3 : arg3.IsWhole) (arg4 : Memref sig .tc .vmem S8x1x128 .f32) (harg4 : arg4.IsWhole) (arg5 : Memref sig .tc .smem S1 .f32) (harg5 : arg5.IsWhole) (arg6 : Memref sig .tc .vmem S2x32x128 .i8) (harg6 : arg6.IsWhole) (arg7 : Memref sig .tc .vmem S8x128 .i32) (harg7 : arg7.IsWhole) (arg8 : Memref sig .tc .vmem S2x256 .i32) (harg8 : arg8.IsWhole) (arg9 : Memref sig .tc .vmem S16x512 .bf16) (harg9 : arg9.IsWhole) (arg10 : Memref sig .tc .vmem S2x8x6016 .i32) (harg10 : arg10.IsWhole) (arg11 : Memref sig .tc .vmem S2x192x256 .i32) (harg11 : arg11.IsWhole) (hc0 : ¬cond0_0 i)
    (x0 : Vec F S16x12032 .bf16) (x1 : Vec F S512x6016 .i8) (x2 : Vec F S512x256 .i8) (x3 : Vec F S8x1x128 .f32) (x4 : Vec F S1 .f32) (x5 : Vec F S2x32x128 .i8) (x6 : Vec F S8x128 .i32) (x7 : Vec F S2x256 .i32) (xs0 : Vec F S2x8x6016 .i32) (y : S16x512.Idx) :
    ∃ pc ∈ (kernelRun0_B c i arg1 harg1 arg2 harg2 arg3 harg3 arg4 harg4 arg5 harg5 arg6 harg6 arg7 harg7 arg8 harg8 arg9 harg9 arg10 harg10 arg11 harg11 hc0 x0 x1 x2 x3 x4 x5 x6 x7 xs0).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 x0 x1 x2 x3 x4 x5 x6 x7 xs0).1 S16x128.size (by sl_kernel_rfl) y

/-- What case B leaves in output 8's staging buffer: its pieces read back over junk. -/
def out0_B_8 (c : Dev nD) (i : grid0.Coords) (arg1 : Memref sig .tc .vmem S16x12032 .bf16) (harg1 : arg1.IsWhole) (arg2 : Memref sig .tc .vmem S512x6016 .i8) (harg2 : arg2.IsWhole) (arg3 : Memref sig .tc .vmem S512x256 .i8) (harg3 : arg3.IsWhole) (arg4 : Memref sig .tc .vmem S8x1x128 .f32) (harg4 : arg4.IsWhole) (arg5 : Memref sig .tc .smem S1 .f32) (harg5 : arg5.IsWhole) (arg6 : Memref sig .tc .vmem S2x32x128 .i8) (harg6 : arg6.IsWhole) (arg7 : Memref sig .tc .vmem S8x128 .i32) (harg7 : arg7.IsWhole) (arg8 : Memref sig .tc .vmem S2x256 .i32) (harg8 : arg8.IsWhole) (arg9 : Memref sig .tc .vmem S16x512 .bf16) (harg9 : arg9.IsWhole) (arg10 : Memref sig .tc .vmem S2x8x6016 .i32) (harg10 : arg10.IsWhole) (arg11 : Memref sig .tc .vmem S2x192x256 .i32) (harg11 : arg11.IsWhole) (hc0 : ¬cond0_0 i)
    (x0 : Vec F S16x12032 .bf16) (x1 : Vec F S512x6016 .i8) (x2 : Vec F S512x256 .i8) (x3 : Vec F S8x1x128 .f32) (x4 : Vec F S1 .f32) (x5 : Vec F S2x32x128 .i8) (x6 : Vec F S8x128 .i32) (x7 : Vec F S2x256 .i32) (xs0 : Vec F S2x8x6016 .i32) : Vec F S16x512 .bf16 :=
  VO0_8.read (Elt F) (VO0_8.writes (Elt F) VO0_8.junk (kernelRun0_B c i arg1 harg1 arg2 harg2 arg3 harg3 arg4 harg4 arg5 harg5 arg6 harg6 arg7 harg7 arg8 harg8 arg9 harg9 arg10 harg10 arg11 harg11 hc0 x0 x1 x2 x3 x4 x5 x6 x7 xs0).1)

/-- Case B stores nothing into scratch `arg10`: it holds what the point before left. -/
def sout0_B_0 (c : Dev nD) (i : grid0.Coords) (arg1 : Memref sig .tc .vmem S16x12032 .bf16) (harg1 : arg1.IsWhole) (arg2 : Memref sig .tc .vmem S512x6016 .i8) (harg2 : arg2.IsWhole) (arg3 : Memref sig .tc .vmem S512x256 .i8) (harg3 : arg3.IsWhole) (arg4 : Memref sig .tc .vmem S8x1x128 .f32) (harg4 : arg4.IsWhole) (arg5 : Memref sig .tc .smem S1 .f32) (harg5 : arg5.IsWhole) (arg6 : Memref sig .tc .vmem S2x32x128 .i8) (harg6 : arg6.IsWhole) (arg7 : Memref sig .tc .vmem S8x128 .i32) (harg7 : arg7.IsWhole) (arg8 : Memref sig .tc .vmem S2x256 .i32) (harg8 : arg8.IsWhole) (arg9 : Memref sig .tc .vmem S16x512 .bf16) (harg9 : arg9.IsWhole) (arg10 : Memref sig .tc .vmem S2x8x6016 .i32) (harg10 : arg10.IsWhole) (arg11 : Memref sig .tc .vmem S2x192x256 .i32) (harg11 : arg11.IsWhole) (hc0 : ¬cond0_0 i)
    (x0 : Vec F S16x12032 .bf16) (x1 : Vec F S512x6016 .i8) (x2 : Vec F S512x256 .i8) (x3 : Vec F S8x1x128 .f32) (x4 : Vec F S1 .f32) (x5 : Vec F S2x32x128 .i8) (x6 : Vec F S8x128 .i32) (x7 : Vec F S2x256 .i32) (xs0 : Vec F S2x8x6016 .i32) : Vec F S2x8x6016 .i32 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S16x512 .bf16 × Vec F S2x8x6016 .i32
  | 0, hn => (out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn =>
    if h0 : (n + 1) % 60 = 0 then
      (out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩))
    else
      (out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2)

/-- `outsAt0` at a point of case A: that case's contents. -/
theorem outsAt0_A (c : Dev nD) (t : Fin cfg0.N) (h0 : t.val % 60 = 0) :
    outsAt0 m c t.val t.isLt = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 60 = 0) :
    outsAt0 m c t.val t.isLt = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2) ∗ (∃ d, owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2) ∗ (∃ d, owns (c : Thread nD τ) scM0_1 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2) ∗ (∃ d, owns (c : Thread nD τ) scM0_1 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    after0_0, after0_1, after0_2, after0_3, after0_4, after0_5, after0_6, after0_7, after0_8]
  rw [show (dats m 0 c).Φ t.succ = PhiS m c (t.val + 1) t.isLt from rfl, PhiS_succ]
  have hN : t.val < 60 := lt_of_lt_of_eq t.isLt (show cfg0.N = 60 from N_0)
  by_cases h0 : t.val % 60 = 0
  · by_cases hz : t.val = 0
    · rw [PhiS_castSucc m c t, PhiS_zero m c _ _ hz, PhiA0_eq]
      rw [outsAt0_A m c t h0]
      unfold out0_A_8 sout0_A_0; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      iintro ⟨H0, H1, H2, H3, H4, H5, H6, H7, ⟨%e8, H8⟩, ⟨%es0, HS0⟩, ⟨%fT1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _)
          iexists _; unfold owns; iexists _; isplitr
          swap; · iexact HS1
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover0_A_8 c _ _ _ _ _ _ _ _ _ _ _ _ _ _ _ _ _ _ _ _ _ _ _ _ _ _ _ _ _ _ _ _)
    · exfalso; have hN : t.val < 60 := lt_of_lt_of_eq t.isLt (show cfg0.N = 60 from N_0); omega
  · by_cases hz : t.val = 0
    · exfalso; have hN : t.val < 60 := lt_of_lt_of_eq t.isLt (show cfg0.N = 60 from N_0); omega
    · rw [PhiS_castSucc m c t, PhiS_pos m c _ _ hz]
      rw [outsAt0_B m c t h0]
      unfold out0_B_8 sout0_B_0; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      iintro ⟨H0, H1, H2, H3, H4, H5, H6, H7, ⟨%e8, H8⟩, HS0, ⟨%fT1, HS1⟩⟩
      isplitl [HS0 HS1 Hg]
      · isplitl [HS0 HS1]
        · isplitl [HS0]
          · iexact HS0
          iexists _; unfold owns; iexists _; isplitr
          swap; · iexact HS1
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover0_B_8 c _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 60 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Gen

end
-- ==== Proof.RunA.lean ====
/- The run of the ideal kernel body at the first grid point: what its stores leave in the output block and in the two
   scratch arrays. The activations' scratch is filled by a loop, so what it held before the body is first shown not to matter. -/
module

public import proofs.«01_k».proof.Proof.Gen.KernelIdeal.Frame.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option backward.proofsInPublic true in
set_option maxHeartbeats 20000000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S16x12032 .bf16) (harg1 : arg1.IsWhole) (arg2 : Memref sig .tc .vmem S512x6016 .i8) (harg2 : arg2.IsWhole) (arg3 : Memref sig .tc .vmem S512x256 .i8) (harg3 : arg3.IsWhole) (arg4 : Memref sig .tc .vmem S8x1x128 .f32) (harg4 : arg4.IsWhole) (arg5 : Memref sig .tc .smem S1 .f32) (harg5 : arg5.IsWhole) (arg6 : Memref sig .tc .vmem S2x32x128 .i8) (harg6 : arg6.IsWhole) (arg7 : Memref sig .tc .vmem S8x128 .i32) (harg7 : arg7.IsWhole) (arg8 : Memref sig .tc .vmem S2x256 .i32) (harg8 : arg8.IsWhole) (arg9 : Memref sig .tc .vmem S16x512 .bf16) (harg9 : arg9.IsWhole) (arg10 : Memref sig .tc .vmem S2x8x2x6016 .bf16) (harg10 : arg10.IsWhole) (arg11 : Memref sig .tc .vmem S2x192x2x256 .bf16) (harg11 : arg11.IsWhole) (hc0 : cond0_0 i)
    (x0 : Vec F S16x12032 .bf16) (x1 : Vec F S512x6016 .i8) (x2 : Vec F S512x256 .i8) (x3 : Vec F S8x1x128 .f32) (x4 : Vec F S1 .f32) (x5 : Vec F S2x32x128 .i8) (x6 : Vec F S8x128 .i32) (x7 : Vec F S2x256 .i32) :
    Σ' (L8 : List (View.Piece (Elt F) S16x512 .bf16)), Σ' (LS0 : List (View.Piece (Elt F) S2x8x2x6016 .bf16)), { LT1 : List (View.Piece (Elt F) S2x192x2x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LT1)) -∗ K ⟨⟩))
          ⊢ wp frame (wpE (defs₀ (F := F)) Variants.none c none) E (cc0_nf4_linear i arg1 harg1 arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0_nf4_linear_eq_skeleton]; unfold cc0_nf4_linear_skel
    simp only [k0_part140_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    have hrd0 : ∀ (𝒱 : Variants) (c : Dev nD) (bd : Option 𝒱.V) (i : grid0.Coords) (arg1 : Memref sig .tc .vmem S16x12032 .bf16) (harg1 : arg1.IsWhole) (arg2 : Memref sig .tc .vmem S512x6016 .i8) (harg2 : arg2.IsWhole) (arg3 : Memref sig .tc .vmem S512x256 .i8) (harg3 : arg3.IsWhole) (arg4 : Memref sig .tc .vmem S8x1x128 .f32) (harg4 : arg4.IsWhole) (arg5 : Memref sig .tc .smem S1 .f32) (harg5 : arg5.IsWhole) (arg6 : Memref sig .tc .vmem S2x32x128 .i8) (harg6 : arg6.IsWhole) (arg7 : Memref sig .tc .vmem S8x128 .i32) (harg7 : arg7.IsWhole) (arg8 : Memref sig .tc .vmem S2x256 .i32) (harg8 : arg8.IsWhole) (arg9 : Memref sig .tc .vmem S16x512 .bf16) (harg9 : arg9.IsWhole) (arg10 : Memref sig .tc .vmem S2x8x2x6016 .bf16) (harg10 : arg10.IsWhole) (arg11 : Memref sig .tc .vmem S2x192x2x256 .bf16) (harg11 : arg11.IsWhole) (k0_h1 : k0_cond1 i = 1#1) (v2901 : IVec S16x128 32) (X_arg1 : BufTy.Contents (Elt F) arg1.view.ty) (hrdF : BufTy.Contents (Elt F) arg10.view.ty) (hrdB : LoadRect S2x8x2x6016), arg10.view.readAt (Elt F) hrdB (arg10.view.writes (Elt F) hrdF (pb_k0_t1 (F := F) 𝒱 c bd i arg1 harg1 arg2 harg2 arg3 harg3 arg4 harg4 arg5 harg5 arg6 harg6 arg7 harg7 arg8 harg8 arg9 harg9 arg10 harg10 arg11 harg11 k0_h1 v2901 X_arg1 (Scf.trips k0_t1_loop.lb k0_t1_loop.ub k0_t1_loop.st))) = arg10.view.readCov (pb_k0_t1 (F := F) 𝒱 c bd i arg1 harg1 arg2 harg2 arg3 harg3 arg4 harg4 arg5 harg5 arg6 harg6 arg7 harg7 arg8 harg8 arg9 harg9 arg10 harg10 arg11 harg11 k0_h1 v2901 X_arg1 (Scf.trips k0_t1_loop.lb k0_t1_loop.ub k0_t1_loop.st)) hrdB := fun 𝒱 c bd i arg1 harg1 arg2 harg2 arg3 harg3 arg4 harg4 arg5 harg5 arg6 harg6 arg7 harg7 arg8 harg8 arg9 harg9 arg10 harg10 arg11 harg11 k0_h1 v2901 X_arg1 hrdF hrdB => View.readAt_writes_of_cover _ hrdF _ hrdB (fun hrdJ => View.cover_of_tiledL (pb_k0_t1 (F := F) 𝒱 c bd i arg1 harg1 arg2 harg2 arg3 harg3 arg4 harg4 arg5 harg5 arg6 harg6 arg7 harg7 arg8 harg8 arg9 harg9 arg10 harg10 arg11 harg11 k0_h1 v2901 X_arg1 (Scf.trips k0_t1_loop.lb k0_t1_loop.ub k0_t1_loop.st)) S1x8x2x128.size (by sl_kernel_rfl) (hrdB.idx hrdJ))
    have hw0 : ∀ (v2901 : IVec S16x128 32) (f : BufTy.Contents (Elt F) arg10.view.ty), arg10.view.writes (Elt F) f (pb_k0_t1 (F := F) Variants.none c none i arg1 harg1 arg2 harg2 arg3 harg3 arg4 harg4 arg5 harg5 arg6 harg6 arg7 harg7 arg8 harg8 arg9 harg9 arg10 harg10 arg11 harg11 hc0 v2901 (harg1.unread x0) (Scf.trips k0_t1_loop.lb k0_t1_loop.ub k0_t1_loop.st)) = arg10.view.writes (Elt F) arg10.view.junk (pb_k0_t1 (F := F) Variants.none c none i arg1 harg1 arg2 harg2 arg3 harg3 arg4 harg4 arg5 harg5 arg6 harg6 arg7 harg7 arg8 harg8 arg9 harg9 arg10 harg10 arg11 harg11 hc0 v2901 (harg1.unread x0) (Scf.trips k0_t1_loop.lb k0_t1_loop.ub k0_t1_loop.st)) := fun v2901 f =>
      (harg10.eq_unread (View.read_writes_eq_canon arg10.view f (pb_k0_t1 (F := F) Variants.none c none i arg1 harg1 arg2 harg2 arg3 harg3 arg4 harg4 arg5 harg5 arg6 harg6 arg7 harg7 arg8 harg8 arg9 harg9 arg10 harg10 arg11 harg11 hc0 v2901 (harg1.unread x0) (Scf.trips k0_t1_loop.lb k0_t1_loop.ub k0_t1_loop.st)) (View.cover_of_tiledL (pb_k0_t1 (F := F) Variants.none c none i arg1 harg1 arg2 harg2 arg3 harg3 arg4 harg4 arg5 harg5 arg6 harg6 arg7 harg7 arg8 harg8 arg9 harg9 arg10 harg10 arg11 harg11 hc0 v2901 (harg1.unread x0) (Scf.trips k0_t1_loop.lb k0_t1_loop.ub k0_t1_loop.st)) S1x8x2x128.size (by sl_kernel_rfl)))).trans
        (harg10.eq_unread (View.read_writes_eq_canon arg10.view arg10.view.junk (pb_k0_t1 (F := F) Variants.none c none i arg1 harg1 arg2 harg2 arg3 harg3 arg4 harg4 arg5 harg5 arg6 harg6 arg7 harg7 arg8 harg8 arg9 harg9 arg10 harg10 arg11 harg11 hc0 v2901 (harg1.unread x0) (Scf.trips k0_t1_loop.lb k0_t1_loop.ub k0_t1_loop.st)) (View.cover_of_tiledL (pb_k0_t1 (F := F) Variants.none c none i arg1 harg1 arg2 harg2 arg3 harg3 arg4 harg4 arg5 harg5 arg6 harg6 arg7 harg7 arg8 harg8 arg9 harg9 arg10 harg10 arg11 harg11 hc0 v2901 (harg1.unread x0) (Scf.trips k0_t1_loop.lb k0_t1_loop.ub k0_t1_loop.st)) S1x8x2x128.size (by sl_kernel_rfl)))).symm
    set_option sl_exec.stopBefore "k0_part66" in sl_exec (disch := first | sl_exact hc0)
    rw [hw0 _ fs0]
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [HS0]; · iexists _; iexact HS0
    iexists _; iexact HS1

end Cert.KernelIdeal.Gen

end
-- ==== Proof.RunB.lean ====
/- The run of the ideal kernel body at the later grid points: the activations' scratch is as the point before left it. -/
module

public import proofs.«01_k».proof.Proof.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 3652000 in
/-- What the body's stores leave in each output's staging memref, as pieces (last first) IN CASE B (`scf.if` 0 not taken: points 1, 2, … 59: 59 of 60), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S16x12032 .bf16) (harg1 : arg1.IsWhole) (arg2 : Memref sig .tc .vmem S512x6016 .i8) (harg2 : arg2.IsWhole) (arg3 : Memref sig .tc .vmem S512x256 .i8) (harg3 : arg3.IsWhole) (arg4 : Memref sig .tc .vmem S8x1x128 .f32) (harg4 : arg4.IsWhole) (arg5 : Memref sig .tc .smem S1 .f32) (harg5 : arg5.IsWhole) (arg6 : Memref sig .tc .vmem S2x32x128 .i8) (harg6 : arg6.IsWhole) (arg7 : Memref sig .tc .vmem S8x128 .i32) (harg7 : arg7.IsWhole) (arg8 : Memref sig .tc .vmem S2x256 .i32) (harg8 : arg8.IsWhole) (arg9 : Memref sig .tc .vmem S16x512 .bf16) (harg9 : arg9.IsWhole) (arg10 : Memref sig .tc .vmem S2x8x2x6016 .bf16) (harg10 : arg10.IsWhole) (arg11 : Memref sig .tc .vmem S2x192x2x256 .bf16) (harg11 : arg11.IsWhole) (hc0 : ¬cond0_0 i)
    (x0 : Vec F S16x12032 .bf16) (x1 : Vec F S512x6016 .i8) (x2 : Vec F S512x256 .i8) (x3 : Vec F S8x1x128 .f32) (x4 : Vec F S1 .f32) (x5 : Vec F S2x32x128 .i8) (x6 : Vec F S8x128 .i32) (x7 : Vec F S2x256 .i32) (xs0 : Vec F S2x8x2x6016 .bf16) :
    Σ' (L8 : List (View.Piece (Elt F) S16x512 .bf16)), Σ' (LS0 : List (View.Piece (Elt F) S2x8x2x6016 .bf16)), { LT1 : List (View.Piece (Elt F) S2x192x2x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xs0 ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ owns (c : Thread nD τ) arg10 fullShare xs0 ∗ (∃ f, arg11.view.loc (c : Thread nD τ) ↦[arg11.view.set]{fullShare} arg11.view.writes (Elt F) f LT1)) -∗ K ⟨⟩))
          ⊢ wp frame (wpE (defs₀ (F := F)) Variants.none c none) E (cc0_nf4_linear i arg1 harg1 arg2 harg2 arg3 harg3 arg4 harg4 arg5 harg5 arg6 harg6 arg7 harg7 arg8 harg8 arg9 harg9 arg10 harg10 arg11 harg11) K } := by
  refine ⟨?_, [], ?_, fun E K => ?run⟩
  case run =>
    simp only [cc0_nf4_linear_eq_skeleton]; unfold cc0_nf4_linear_skel
    simp only [k0_part140_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [HS0]
    · iexists _; isplitr; · ipureintro; exact harg10.read_unread _
      iexact HS0
    iexists _; iexact HS1

end Cert.KernelIdeal.Gen

end
-- ==== Proof.Frame.lean ====
/- The frame of the ideal kernel, over its two runs: what each grid point leaves in the output block and in the carried
   scratch, the obligation of the pipeline, and the run of the whole program. -/
module

public import proofs.«01_k».proof.Proof.RunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 8 tile its block (4 stores of `S16x128`, checked by the kernel's evaluation: Lib/Ring.lean `Piece.tiledL`, linear in the pieces, through a loop's `@[irreducible]` trip theorem too), so they cover it. -/
theorem cover0_A_8 (c : Dev nD) (i : grid0.Coords) (arg1 : Memref sig .tc .vmem S16x12032 .bf16) (harg1 : arg1.IsWhole) (arg2 : Memref sig .tc .vmem S512x6016 .i8) (harg2 : arg2.IsWhole) (arg3 : Memref sig .tc .vmem S512x256 .i8) (harg3 : arg3.IsWhole) (arg4 : Memref sig .tc .vmem S8x1x128 .f32) (harg4 : arg4.IsWhole) (arg5 : Memref sig .tc .smem S1 .f32) (harg5 : arg5.IsWhole) (arg6 : Memref sig .tc .vmem S2x32x128 .i8) (harg6 : arg6.IsWhole) (arg7 : Memref sig .tc .vmem S8x128 .i32) (harg7 : arg7.IsWhole) (arg8 : Memref sig .tc .vmem S2x256 .i32) (harg8 : arg8.IsWhole) (arg9 : Memref sig .tc .vmem S16x512 .bf16) (harg9 : arg9.IsWhole) (arg10 : Memref sig .tc .vmem S2x8x2x6016 .bf16) (harg10 : arg10.IsWhole) (arg11 : Memref sig .tc .vmem S2x192x2x256 .bf16) (harg11 : arg11.IsWhole) (hc0 : cond0_0 i)
    (x0 : Vec F S16x12032 .bf16) (x1 : Vec F S512x6016 .i8) (x2 : Vec F S512x256 .i8) (x3 : Vec F S8x1x128 .f32) (x4 : Vec F S1 .f32) (x5 : Vec F S2x32x128 .i8) (x6 : Vec F S8x128 .i32) (x7 : Vec F S2x256 .i32) (y : S16x512.Idx) :
    ∃ pc ∈ (kernelRun0_A c i arg1 harg1 arg2 harg2 arg3 harg3 arg4 harg4 arg5 harg5 arg6 harg6 arg7 harg7 arg8 harg8 arg9 harg9 arg10 harg10 arg11 harg11 hc0 x0 x1 x2 x3 x4 x5 x6 x7).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 x0 x1 x2 x3 x4 x5 x6 x7).1 S16x128.size (by sl_kernel_rfl) y

/-- What case A leaves in output 8's staging buffer: its pieces read back over junk. -/
def out0_A_8 (c : Dev nD) (i : grid0.Coords) (arg1 : Memref sig .tc .vmem S16x12032 .bf16) (harg1 : arg1.IsWhole) (arg2 : Memref sig .tc .vmem S512x6016 .i8) (harg2 : arg2.IsWhole) (arg3 : Memref sig .tc .vmem S512x256 .i8) (harg3 : arg3.IsWhole) (arg4 : Memref sig .tc .vmem S8x1x128 .f32) (harg4 : arg4.IsWhole) (arg5 : Memref sig .tc .smem S1 .f32) (harg5 : arg5.IsWhole) (arg6 : Memref sig .tc .vmem S2x32x128 .i8) (harg6 : arg6.IsWhole) (arg7 : Memref sig .tc .vmem S8x128 .i32) (harg7 : arg7.IsWhole) (arg8 : Memref sig .tc .vmem S2x256 .i32) (harg8 : arg8.IsWhole) (arg9 : Memref sig .tc .vmem S16x512 .bf16) (harg9 : arg9.IsWhole) (arg10 : Memref sig .tc .vmem S2x8x2x6016 .bf16) (harg10 : arg10.IsWhole) (arg11 : Memref sig .tc .vmem S2x192x2x256 .bf16) (harg11 : arg11.IsWhole) (hc0 : cond0_0 i)
    (x0 : Vec F S16x12032 .bf16) (x1 : Vec F S512x6016 .i8) (x2 : Vec F S512x256 .i8) (x3 : Vec F S8x1x128 .f32) (x4 : Vec F S1 .f32) (x5 : Vec F S2x32x128 .i8) (x6 : Vec F S8x128 .i32) (x7 : Vec F S2x256 .i32) : Vec F S16x512 .bf16 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 hc0 x0 x1 x2 x3 x4 x5 x6 x7).1)

/-- Case A's pieces for scratch `arg10`, which the kernel carries between points, cover it: 94 pieces of `S1x8x2x128` tiling it (Lib/Ring.lean `Piece.tiledL`). -/
theorem scover0_A_0 (c : Dev nD) (i : grid0.Coords) (arg1 : Memref sig .tc .vmem S16x12032 .bf16) (harg1 : arg1.IsWhole) (arg2 : Memref sig .tc .vmem S512x6016 .i8) (harg2 : arg2.IsWhole) (arg3 : Memref sig .tc .vmem S512x256 .i8) (harg3 : arg3.IsWhole) (arg4 : Memref sig .tc .vmem S8x1x128 .f32) (harg4 : arg4.IsWhole) (arg5 : Memref sig .tc .smem S1 .f32) (harg5 : arg5.IsWhole) (arg6 : Memref sig .tc .vmem S2x32x128 .i8) (harg6 : arg6.IsWhole) (arg7 : Memref sig .tc .vmem S8x128 .i32) (harg7 : arg7.IsWhole) (arg8 : Memref sig .tc .vmem S2x256 .i32) (harg8 : arg8.IsWhole) (arg9 : Memref sig .tc .vmem S16x512 .bf16) (harg9 : arg9.IsWhole) (arg10 : Memref sig .tc .vmem S2x8x2x6016 .bf16) (harg10 : arg10.IsWhole) (arg11 : Memref sig .tc .vmem S2x192x2x256 .bf16) (harg11 : arg11.IsWhole) (hc0 : cond0_0 i)
    (x0 : Vec F S16x12032 .bf16) (x1 : Vec F S512x6016 .i8) (x2 : Vec F S512x256 .i8) (x3 : Vec F S8x1x128 .f32) (x4 : Vec F S1 .f32) (x5 : Vec F S2x32x128 .i8) (x6 : Vec F S8x128 .i32) (x7 : Vec F S2x256 .i32) (y : S2x8x2x6016.Idx) :
    ∃ pc ∈ (kernelRun0_A c i arg1 harg1 arg2 harg2 arg3 harg3 arg4 harg4 arg5 harg5 arg6 harg6 arg7 harg7 arg8 harg8 arg9 harg9 arg10 harg10 arg11 harg11 hc0 x0 x1 x2 x3 x4 x5 x6 x7).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 x0 x1 x2 x3 x4 x5 x6 x7).2.1 S1x8x2x128.size (by sl_kernel_rfl) y

/-- What case A leaves in scratch `arg10`: its pieces read back over junk. -/
def sout0_A_0 (c : Dev nD) (i : grid0.Coords) (arg1 : Memref sig .tc .vmem S16x12032 .bf16) (harg1 : arg1.IsWhole) (arg2 : Memref sig .tc .vmem S512x6016 .i8) (harg2 : arg2.IsWhole) (arg3 : Memref sig .tc .vmem S512x256 .i8) (harg3 : arg3.IsWhole) (arg4 : Memref sig .tc .vmem S8x1x128 .f32) (harg4 : arg4.IsWhole) (arg5 : Memref sig .tc .smem S1 .f32) (harg5 : arg5.IsWhole) (arg6 : Memref sig .tc .vmem S2x32x128 .i8) (harg6 : arg6.IsWhole) (arg7 : Memref sig .tc .vmem S8x128 .i32) (harg7 : arg7.IsWhole) (arg8 : Memref sig .tc .vmem S2x256 .i32) (harg8 : arg8.IsWhole) (arg9 : Memref sig .tc .vmem S16x512 .bf16) (harg9 : arg9.IsWhole) (arg10 : Memref sig .tc .vmem S2x8x2x6016 .bf16) (harg10 : arg10.IsWhole) (arg11 : Memref sig .tc .vmem S2x192x2x256 .bf16) (harg11 : arg11.IsWhole) (hc0 : cond0_0 i)
    (x0 : Vec F S16x12032 .bf16) (x1 : Vec F S512x6016 .i8) (x2 : Vec F S512x256 .i8) (x3 : Vec F S8x1x128 .f32) (x4 : Vec F S1 .f32) (x5 : Vec F S2x32x128 .i8) (x6 : Vec F S8x128 .i32) (x7 : Vec F S2x256 .i32) : Vec F S2x8x2x6016 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 hc0 x0 x1 x2 x3 x4 x5 x6 x7).2.1)

/-- Case B's pieces for output 8 tile its block (4 stores of `S16x128`, checked by the kernel's evaluation: Lib/Ring.lean `Piece.tiledL`, linear in the pieces, through a loop's `@[irreducible]` trip theorem too), so they cover it. -/
theorem cover0_B_8 (c : Dev nD) (i : grid0.Coords) (arg1 : Memref sig .tc .vmem S16x12032 .bf16) (harg1 : arg1.IsWhole) (arg2 : Memref sig .tc .vmem S512x6016 .i8) (harg2 : arg2.IsWhole) (arg3 : Memref sig .tc .vmem S512x256 .i8) (harg3 : arg3.IsWhole) (arg4 : Memref sig .tc .vmem S8x1x128 .f32) (harg4 : arg4.IsWhole) (arg5 : Memref sig .tc .smem S1 .f32) (harg5 : arg5.IsWhole) (arg6 : Memref sig .tc .vmem S2x32x128 .i8) (harg6 : arg6.IsWhole) (arg7 : Memref sig .tc .vmem S8x128 .i32) (harg7 : arg7.IsWhole) (arg8 : Memref sig .tc .vmem S2x256 .i32) (harg8 : arg8.IsWhole) (arg9 : Memref sig .tc .vmem S16x512 .bf16) (harg9 : arg9.IsWhole) (arg10 : Memref sig .tc .vmem S2x8x2x6016 .bf16) (harg10 : arg10.IsWhole) (arg11 : Memref sig .tc .vmem S2x192x2x256 .bf16) (harg11 : arg11.IsWhole) (hc0 : ¬cond0_0 i)
    (x0 : Vec F S16x12032 .bf16) (x1 : Vec F S512x6016 .i8) (x2 : Vec F S512x256 .i8) (x3 : Vec F S8x1x128 .f32) (x4 : Vec F S1 .f32) (x5 : Vec F S2x32x128 .i8) (x6 : Vec F S8x128 .i32) (x7 : Vec F S2x256 .i32) (xs0 : Vec F S2x8x2x6016 .bf16) (y : S16x512.Idx) :
    ∃ pc ∈ (kernelRun0_B c i arg1 harg1 arg2 harg2 arg3 harg3 arg4 harg4 arg5 harg5 arg6 harg6 arg7 harg7 arg8 harg8 arg9 harg9 arg10 harg10 arg11 harg11 hc0 x0 x1 x2 x3 x4 x5 x6 x7 xs0).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 x0 x1 x2 x3 x4 x5 x6 x7 xs0).1 S16x128.size (by sl_kernel_rfl) y

/-- What case B leaves in output 8's staging buffer: its pieces read back over junk. -/
def out0_B_8 (c : Dev nD) (i : grid0.Coords) (arg1 : Memref sig .tc .vmem S16x12032 .bf16) (harg1 : arg1.IsWhole) (arg2 : Memref sig .tc .vmem S512x6016 .i8) (harg2 : arg2.IsWhole) (arg3 : Memref sig .tc .vmem S512x256 .i8) (harg3 : arg3.IsWhole) (arg4 : Memref sig .tc .vmem S8x1x128 .f32) (harg4 : arg4.IsWhole) (arg5 : Memref sig .tc .smem S1 .f32) (harg5 : arg5.IsWhole) (arg6 : Memref sig .tc .vmem S2x32x128 .i8) (harg6 : arg6.IsWhole) (arg7 : Memref sig .tc .vmem S8x128 .i32) (harg7 : arg7.IsWhole) (arg8 : Memref sig .tc .vmem S2x256 .i32) (harg8 : arg8.IsWhole) (arg9 : Memref sig .tc .vmem S16x512 .bf16) (harg9 : arg9.IsWhole) (arg10 : Memref sig .tc .vmem S2x8x2x6016 .bf16) (harg10 : arg10.IsWhole) (arg11 : Memref sig .tc .vmem S2x192x2x256 .bf16) (harg11 : arg11.IsWhole) (hc0 : ¬cond0_0 i)
    (x0 : Vec F S16x12032 .bf16) (x1 : Vec F S512x6016 .i8) (x2 : Vec F S512x256 .i8) (x3 : Vec F S8x1x128 .f32) (x4 : Vec F S1 .f32) (x5 : Vec F S2x32x128 .i8) (x6 : Vec F S8x128 .i32) (x7 : Vec F S2x256 .i32) (xs0 : Vec F S2x8x2x6016 .bf16) : Vec F S16x512 .bf16 :=
  VO0_8.read (Elt F) (VO0_8.writes (Elt F) VO0_8.junk (kernelRun0_B c i arg1 harg1 arg2 harg2 arg3 harg3 arg4 harg4 arg5 harg5 arg6 harg6 arg7 harg7 arg8 harg8 arg9 harg9 arg10 harg10 arg11 harg11 hc0 x0 x1 x2 x3 x4 x5 x6 x7 xs0).1)

/-- Case B stores nothing into scratch `arg10`: it holds what the point before left. -/
def sout0_B_0 (c : Dev nD) (i : grid0.Coords) (arg1 : Memref sig .tc .vmem S16x12032 .bf16) (harg1 : arg1.IsWhole) (arg2 : Memref sig .tc .vmem S512x6016 .i8) (harg2 : arg2.IsWhole) (arg3 : Memref sig .tc .vmem S512x256 .i8) (harg3 : arg3.IsWhole) (arg4 : Memref sig .tc .vmem S8x1x128 .f32) (harg4 : arg4.IsWhole) (arg5 : Memref sig .tc .smem S1 .f32) (harg5 : arg5.IsWhole) (arg6 : Memref sig .tc .vmem S2x32x128 .i8) (harg6 : arg6.IsWhole) (arg7 : Memref sig .tc .vmem S8x128 .i32) (harg7 : arg7.IsWhole) (arg8 : Memref sig .tc .vmem S2x256 .i32) (harg8 : arg8.IsWhole) (arg9 : Memref sig .tc .vmem S16x512 .bf16) (harg9 : arg9.IsWhole) (arg10 : Memref sig .tc .vmem S2x8x2x6016 .bf16) (harg10 : arg10.IsWhole) (arg11 : Memref sig .tc .vmem S2x192x2x256 .bf16) (harg11 : arg11.IsWhole) (hc0 : ¬cond0_0 i)
    (x0 : Vec F S16x12032 .bf16) (x1 : Vec F S512x6016 .i8) (x2 : Vec F S512x256 .i8) (x3 : Vec F S8x1x128 .f32) (x4 : Vec F S1 .f32) (x5 : Vec F S2x32x128 .i8) (x6 : Vec F S8x128 .i32) (x7 : Vec F S2x256 .i32) (xs0 : Vec F S2x8x2x6016 .bf16) : Vec F S2x8x2x6016 .bf16 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S16x512 .bf16 × Vec F S2x8x2x6016 .bf16
  | 0, hn => (out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn =>
    if h0 : (n + 1) % 60 = 0 then
      (out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩))
    else
      (out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2)

/-- `outsAt0` at a point of case A: that case's contents. -/
theorem outsAt0_A (c : Dev nD) (t : Fin cfg0.N) (h0 : t.val % 60 = 0) :
    outsAt0 m c t.val t.isLt = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 60 = 0) :
    outsAt0 m c t.val t.isLt = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2) ∗ (∃ d, owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2) ∗ (∃ d, owns (c : Thread nD τ) scM0_1 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2) ∗ (∃ d, owns (c : Thread nD τ) scM0_1 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    after0_0, after0_1, after0_2, after0_3, after0_4, after0_5, after0_6, after0_7, after0_8]
  rw [show (dats m 0 c).Φ t.succ = PhiS m c (t.val + 1) t.isLt from rfl, PhiS_succ]
  have hN : t.val < 60 := lt_of_lt_of_eq t.isLt (show cfg0.N = 60 from N_0)
  by_cases h0 : t.val % 60 = 0
  · by_cases hz : t.val = 0
    · rw [PhiS_castSucc m c t, PhiS_zero m c _ _ hz, PhiA0_eq]
      rw [outsAt0_A m c t h0]
      unfold out0_A_8 sout0_A_0; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      iintro ⟨H0, H1, H2, H3, H4, H5, H6, H7, ⟨%e8, H8⟩, ⟨%es0, HS0⟩, ⟨%fT1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _)
          iexists _; unfold owns; iexists _; isplitr
          swap; · iexact HS1
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover0_A_8 c _ _ _ _ _ _ _ _ _ _ _ _ _ _ _ _ _ _ _ _ _ _ _ _ _ _ _ _ _ _ _ _)
    · exfalso; have hN : t.val < 60 := lt_of_lt_of_eq t.isLt (show cfg0.N = 60 from N_0); omega
  · by_cases hz : t.val = 0
    · exfalso; have hN : t.val < 60 := lt_of_lt_of_eq t.isLt (show cfg0.N = 60 from N_0); omega
    · rw [PhiS_castSucc m c t, PhiS_pos m c _ _ hz]
      rw [outsAt0_B m c t h0]
      unfold out0_B_8 sout0_B_0; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      iintro ⟨H0, H1, H2, H3, H4, H5, H6, H7, ⟨%e8, H8⟩, HS0, ⟨%fT1, HS1⟩⟩
      isplitl [HS0 HS1 Hg]
      · isplitl [HS0 HS1]
        · isplitl [HS0]
          · iexact HS0
          iexists _; unfold owns; iexists _; isplitr
          swap; · iexact HS1
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover0_B_8 c _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 60 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Gen

end
-- ==== Proof.Unit.lean ====
/- One unit of the weight dequantisation: sixteen rows of packed bytes become sixteen rows of bf16 levels for the
   even output rows and sixteen for the odd ones. -/
module

public import proofs.«01_k».proof.Proof.Gen.KernelIdeal
public import Idealize.ShloMosaic.Lib.BitcastPair
public import Idealize.ShloMosaic.Lib.BitcastFour
public import Idealize.ShloMosaic.Lib.Pointwise

@[expose] public section

noncomputable section

namespace Cert.Unit

open Idealize.ShloMosaic Cert.KernelIdeal Cert.KernelIdeal.Facts₀

variable {F : FTy → Type} [FloatOps F]

/-- The words of a 16-row, 128-lane slice of the transposed weights. -/
def words (wt : IVec S128x256 16) (off : Fin 2 → ℕ) (h : S128x256.Slices off S16x128) : IVec S8x128 32 :=
  bitcast S8x128 32 (extractStridedSlice S16x128 off wt h) bitcasts_S16x128_w16_S8x128_w32

/-- One nibble of each byte. -/
def codes (wd : IVec S8x128 32) (sh : BitVec 32) : IVec S32x128 8 :=
  bitcast S32x128 8 (andi (shrui wd (broadcast S8x128 sh)) (broadcast S8x128 252645135#32)) bitcasts_S8x128_w32_S32x128_w8

/-- A byte table read at the codes. -/
def look (T : IVec S32x128 8) (n : IVec S32x128 8) : IVec S32x128 8 :=
  dynamicGather 0 T (shapeCast S32x128 (shapeCast S32x128x1 (extsi 32 n natLt_8_32) shapeCasts_S32x128_S32x128x1)
    shapeCasts_S32x128x1_S32x128)

/-- Bytes read as halfwords, two rows at a time. -/
def half (x : IVec S32x128 8) : IVec S16x128 16 :=
  bitcast S16x128 16 (bitcast S8x128 32 x bitcasts_S32x128_w8_S8x128_w32) bitcasts_S8x128_w32_S16x128_w16

/-- The levels of the even output rows. -/
def evens (lo hi : IVec S32x128 8) : IVec S16x128 16 :=
  ori (andi (half lo) (broadcast S16x128 255#16)) (shli (half hi) (broadcast S16x128 8#16))

/-- The levels of the odd output rows. -/
def odds (odd : IVec S32x128 1) (lo hi : IVec S32x128 8) : IVec S16x128 16 :=
  half (select odd hi (bitcast S32x128 8 (shrui (bitcast S8x128 32 lo bitcasts_S32x128_w8_S8x128_w32) (broadcast S8x128 8#32))
    bitcasts_S8x128_w32_S32x128_w8))

theorem shrui_lt (x y : BitVec 32) (n : ℕ) (hy : y.toNat = n) (hn : n < 32) : IntOp.shrui .vector x y = x >>> n := by
  unfold IntOp.shrui
  rw [if_pos (by omega), BitVec.ushiftRight_eq', hy]

theorem shli_lt (x y : BitVec 16) (n : ℕ) (hy : y.toNat = n) (hn : n < 16) : IntOp.shli .vector x y = x <<< n := by
  unfold IntOp.shli
  rw [if_pos (by omega), BitVec.shiftLeft_eq', hy]

/-- Word bit `b`: bit `b % 16` of row `2 q + b / 16` of the slice. -/
theorem bitcast_16_32_getLsbD (x : IVec S16x128 16) (q : Fin 8) (l : Fin 128) (b : ℕ) (hb : b < 32) (p : Fin 16)
    (hp : p.val = 2 * q.val + b / 16) :
    (bitcast S8x128 32 x bitcasts_S16x128_w16_S8x128_w32 (ix2 q l)).getLsbD b = (x (ix2 p l)).getLsbD (b % 16) := by
  rw [bitcast_getLsbD x _ _ b hb (by decide)]
  have e : S8x128.row (ix2 q l) = q.val := rfl
  have e2 : (S8x128.row (ix2 q l) * 32 + b) % 16 = b % 16 := by rw [e]; omega
  rw [e2]
  congr 2
  funext c
  apply Fin.ext
  match c with
  | ⟨0, _⟩ =>
    rw [Shape.Bitcasts.srcIdx_row _ _ _ _ _ rfl, e]
    show _ = p.val
    omega
  | ⟨1, _⟩ =>
    rw [Shape.Bitcasts.srcIdx_other _ _ _ _ _ (by show ¬ (1 + 2 = 2); decide)]
    rfl

theorem bitcast_32_8_getLsbD (x : IVec S8x128 32) (r : Fin 32) (l : Fin 128) (b : ℕ) (hb : b < 8) (q : Fin 8)
    (hq : q.val = r.val / 4) :
    (bitcast S32x128 8 x bitcasts_S8x128_w32_S32x128_w8 (ix2 r l)).getLsbD b = (x (ix2 q l)).getLsbD (8 * (r.val % 4) + b) := by
  rw [bitcast_getLsbD x _ _ b hb (by decide)]
  have e : S32x128.row (ix2 r l) = r.val := rfl
  have e2 : (S32x128.row (ix2 r l) * 8 + b) % 32 = 8 * (r.val % 4) + b := by rw [e]; omega
  rw [e2]
  congr 2
  funext c
  apply Fin.ext
  match c with
  | ⟨0, _⟩ =>
    rw [Shape.Bitcasts.srcIdx_row _ _ _ _ _ rfl, e]
    show _ = q.val
    omega
  | ⟨1, _⟩ =>
    rw [Shape.Bitcasts.srcIdx_other _ _ _ _ _ (by show ¬ (1 + 2 = 2); decide)]
    rfl

theorem bitcast_32_16_getLsbD (x : IVec S8x128 32) (r : Fin 16) (l : Fin 128) (b : ℕ) (hb : b < 16) (q : Fin 8)
    (hq : q.val = r.val / 2) :
    (bitcast S16x128 16 x bitcasts_S8x128_w32_S16x128_w16 (ix2 r l)).getLsbD b = (x (ix2 q l)).getLsbD (16 * (r.val % 2) + b) := by
  rw [bitcast_getLsbD x _ _ b hb (by decide)]
  have e : S16x128.row (ix2 r l) = r.val := rfl
  have e2 : (S16x128.row (ix2 r l) * 16 + b) % 32 = 16 * (r.val % 2) + b := by rw [e]; omega
  rw [e2]
  congr 2
  funext c
  apply Fin.ext
  match c with
  | ⟨0, _⟩ =>
    rw [Shape.Bitcasts.srcIdx_row _ _ _ _ _ rfl, e]
    show _ = q.val
    omega
  | ⟨1, _⟩ =>
    rw [Shape.Bitcasts.srcIdx_other _ _ _ _ _ (by show ¬ (1 + 2 = 2); decide)]
    rfl

theorem bitcast_8_32_getLsbD (x : IVec S32x128 8) (q : Fin 8) (l : Fin 128) (b : ℕ) (hb : b < 32) (p : Fin 32)
    (hp : p.val = 4 * q.val + b / 8) :
    (bitcast S8x128 32 x bitcasts_S32x128_w8_S8x128_w32 (ix2 q l)).getLsbD b = (x (ix2 p l)).getLsbD (b % 8) := by
  rw [bitcast_getLsbD x _ _ b hb (by decide)]
  have e : S8x128.row (ix2 q l) = q.val := rfl
  have e2 : (S8x128.row (ix2 q l) * 32 + b) % 8 = b % 8 := by rw [e]; omega
  rw [e2]
  congr 2
  funext c
  apply Fin.ext
  match c with
  | ⟨0, _⟩ =>
    rw [Shape.Bitcasts.srcIdx_row _ _ _ _ _ rfl, e]
    show _ = p.val
    omega
  | ⟨1, _⟩ =>
    rw [Shape.Bitcasts.srcIdx_other _ _ _ _ _ (by show ¬ (1 + 2 = 2); decide)]
    rfl

theorem half_getLsbD (x : IVec S32x128 8) (j : Fin 16) (l : Fin 128) (b : ℕ) (hb : b < 16) (p : Fin 32)
    (hp : p.val = 2 * j.val + b / 8) : (half x (ix2 j l)).getLsbD b = (x (ix2 p l)).getLsbD (b % 8) := by
  unfold half
  have hj := j.isLt
  rw [bitcast_32_16_getLsbD _ j l b hb ⟨j.val / 2, by omega⟩ rfl,
    Cert.Unit.bitcast_8_32_getLsbD x ⟨j.val / 2, by omega⟩ l (16 * (j.val % 2) + b) (by omega) p (by show _ = 4 * (j.val / 2) + _; omega)]
  congr 1
  omega

/-- A code is a nibble of a halfword of the slice. -/
theorem codes_apply (wt : IVec S128x256 16) (off : Fin 2 → ℕ) (h : S128x256.Slices off S16x128) (nib : ℕ) (hn : nib < 2)
    (r : Fin 32) (l : Fin 128) (κ : Fin 128) (p : Fin 256) (hκ : κ.val = off 0 + r.val / 2) (hp : p.val = off 1 + l.val) :
    codes (words wt off h) (BitVec.ofNat 32 (4 * nib)) (ix2 r l)
      = ((wt (ix2 κ p)).extractLsb' (8 * (r.val % 2) + 4 * nib) 4).setWidth 8 := by
  have hr := r.isLt
  apply BitVec.eq_of_getLsbD_eq
  intro b hb
  unfold codes
  rw [bitcast_32_8_getLsbD _ r l b hb ⟨r.val / 4, by omega⟩ rfl]
  have hmask : ∀ s < 4, ∀ b < 8, (252645135#32 : BitVec 32).getLsbD (8 * s + b) = decide (b < 4) := by decide
  have hsh : (BitVec.ofNat 32 (4 * nib)).toNat = 4 * nib := by
    rw [BitVec.toNat_ofNat]; omega
  have e1 : (andi (shrui (words wt off h) (broadcast S8x128 (BitVec.ofNat 32 (4 * nib)))) (broadcast S8x128 252645135#32)
      (ix2 (⟨r.val / 4, by omega⟩ : Fin 8) l)) = IntOp.andi (IntOp.shrui .vector (words wt off h (ix2 (⟨r.val / 4, by omega⟩ : Fin 8) l))
        (BitVec.ofNat 32 (4 * nib))) 252645135#32 := rfl
  rw [e1]
  have hlt : 4 * nib < 32 := by omega
  have e2 : IntOp.shrui .vector (words wt off h (ix2 (⟨r.val / 4, by omega⟩ : Fin 8) l)) (BitVec.ofNat 32 (4 * nib))
      = (words wt off h (ix2 (⟨r.val / 4, by omega⟩ : Fin 8) l)) >>> (4 * nib) := by
    exact shrui_lt _ _ _ hsh hlt
  rw [e2]
  simp only [IntOp.andi, BitVec.getLsbD_and, BitVec.getLsbD_ushiftRight, BitVec.getLsbD_setWidth, BitVec.getLsbD_extractLsb']
  rw [hmask _ (by omega) _ hb]
  by_cases hb4 : b < 4
  · have h8 : b < 8 := by omega
    simp only [hb4, h8, decide_true, Bool.and_true, Bool.true_and]
    unfold words
    rw [bitcast_16_32_getLsbD _ ⟨r.val / 4, by omega⟩ l _ (by omega) ⟨r.val / 2, by omega⟩ (by show r.val / 2 = 2 * (r.val / 4) + _; omega)]
    rw [extractStridedSlice_apply off wt h _ (ix2 κ p) (by
      intro a
      match a with
      | ⟨0, _⟩ => exact hκ
      | ⟨1, _⟩ => exact hp)]
    congr 1
    omega
  · simp [hb4]

theorem look_apply (T n : IVec S32x128 8) (r : Fin 32) (l : Fin 128) (a : Fin 32) (ha : (n (ix2 r l)).toNat = a.val) :
    look T n (ix2 r l) = T (ix2 a l) := by
  unfold look
  rw [dynamicGather_apply]
  have hidx : shapeCast S32x128 (shapeCast S32x128x1 (extsi 32 n natLt_8_32) shapeCasts_S32x128_S32x128x1)
      shapeCasts_S32x128x1_S32x128 = extsi 32 n natLt_8_32 := by
    funext j
    rw [shapeCast_shapeCast]
  rw [hidx]
  congr 1
  funext c
  match c with
  | ⟨0, _⟩ =>
    apply Fin.ext
    show ((n (ix2 r l)).signExtend 32).toNat % 32 = a.val
    have hlt := a.isLt
    rw [BitVec.signExtend_eq_setWidth_of_msb_false (by rw [BitVec.msb_eq_decide]; simp; omega), BitVec.toNat_setWidth, ha]
    omega
  | ⟨1, _⟩ => rfl

/-- The levels as a table of halfwords: its low bytes are the first table's rows, its high bytes the second's. -/
structure Tables (T0 T1 : IVec S32x128 8) (LV : BitVec 4 → BitVec 16) : Prop where
  lo : ∀ (n : BitVec 4) (a : Fin 32) (l : Fin 128), a.val = n.toNat → T0 (ix2 a l) = (LV n).extractLsb' 0 8
  hi : ∀ (n : BitVec 4) (a : Fin 32) (l : Fin 128), a.val = n.toNat → T1 (ix2 a l) = (LV n).extractLsb' 8 8

/-- The nibble of byte `r` of a halfword. -/
def nibble (x : BitVec 16) (r nib : ℕ) : BitVec 4 := x.extractLsb' (8 * r + 4 * nib) 4

section
variable {T0 T1 : IVec S32x128 8} {LV : BitVec 4 → BitVec 16} (hT : Tables T0 T1 LV)
include hT

theorem look_codes (wt : IVec S128x256 16) (off : Fin 2 → ℕ) (h : S128x256.Slices off S16x128) (nib : ℕ) (hn : nib < 2)
    (r : Fin 32) (l : Fin 128) (κ : Fin 128) (p : Fin 256) (hκ : κ.val = off 0 + r.val / 2) (hp : p.val = off 1 + l.val) :
    look T0 (codes (words wt off h) (BitVec.ofNat 32 (4 * nib))) (ix2 r l) = (LV (nibble (wt (ix2 κ p)) (r.val % 2) nib)).extractLsb' 0 8
    ∧ look T1 (codes (words wt off h) (BitVec.ofNat 32 (4 * nib))) (ix2 r l) = (LV (nibble (wt (ix2 κ p)) (r.val % 2) nib)).extractLsb' 8 8 := by
  have hlt : (nibble (wt (ix2 κ p)) (r.val % 2) nib).toNat < 16 := (nibble (wt (ix2 κ p)) (r.val % 2) nib).isLt
  have e : (codes (words wt off h) (BitVec.ofNat 32 (4 * nib)) (ix2 r l)).toNat = (nibble (wt (ix2 κ p)) (r.val % 2) nib).toNat := by
    rw [codes_apply wt off h nib hn r l κ p hκ hp]
    show (BitVec.setWidth 8 (nibble (wt (ix2 κ p)) (r.val % 2) nib)).toNat = _
    rw [BitVec.toNat_setWidth]; omega
  have hlt' : (nibble (wt (ix2 κ p)) (r.val % 2) nib).toNat < 32 := by omega
  exact ⟨(look_apply T0 _ r l ⟨_, hlt'⟩ e).trans (hT.lo _ _ l rfl), (look_apply T1 _ r l ⟨_, hlt'⟩ e).trans (hT.hi _ _ l rfl)⟩

theorem evens_apply (wt : IVec S128x256 16) (off : Fin 2 → ℕ) (h : S128x256.Slices off S16x128) (nib : ℕ) (hn : nib < 2)
    (j : Fin 16) (l : Fin 128) (κ : Fin 128) (p : Fin 256) (hκ : κ.val = off 0 + j.val) (hp : p.val = off 1 + l.val) :
    evens (look T0 (codes (words wt off h) (BitVec.ofNat 32 (4 * nib)))) (look T1 (codes (words wt off h) (BitVec.ofNat 32 (4 * nib))))
      (ix2 j l) = LV (nibble (wt (ix2 κ p)) 0 nib) := by
  have hj := j.isLt
  set L0 := look T0 (codes (words wt off h) (BitVec.ofNat 32 (4 * nib))) with hL0
  set L1 := look T1 (codes (words wt off h) (BitVec.ofNat 32 (4 * nib))) with hL1
  have e := look_codes hT wt off h nib hn ⟨2 * j.val, by omega⟩ l κ p (by show κ.val = off 0 + 2 * j.val / 2; omega) hp
  rw [← hL0, ← hL1, show (2 * j.val) % 2 = 0 by omega] at e
  apply BitVec.eq_of_getLsbD_eq
  intro b hb
  have e1 : evens L0 L1 (ix2 j l) = IntOp.ori (IntOp.andi (half L0 (ix2 j l)) 255#16) (IntOp.shli .vector (half L1 (ix2 j l)) 8#16) := rfl
  rw [e1]
  have e2 : IntOp.shli .vector (half L1 (ix2 j l)) 8#16 = (half L1 (ix2 j l)) <<< 8 := by
    exact shli_lt _ _ _ rfl (by decide)
  rw [e2]
  simp only [IntOp.ori, IntOp.andi, BitVec.getLsbD_or, BitVec.getLsbD_and, BitVec.getLsbD_shiftLeft]
  have h255 : ∀ b < 16, (255#16 : BitVec 16).getLsbD b = decide (b < 8) := by decide
  rw [h255 b hb]
  by_cases h8 : b < 8
  · rw [half_getLsbD L0 j l b hb ⟨2 * j.val, by omega⟩ (by show 2 * j.val = _; omega), e.1]
    simp [h8, Nat.mod_eq_of_lt h8]
  · rw [half_getLsbD L1 j l (b - 8) (by omega) ⟨2 * j.val, by omega⟩ (by show 2 * j.val = _; omega), e.2]
    have hm : (b - 8) % 8 < 8 := by omega
    have hs : 8 + (b - 8) % 8 = b := by omega
    simp [h8, hb, hm, hs]

theorem odds_apply (odd : IVec S32x128 1) (hodd : ∀ (r : Fin 32) (l : Fin 128), odd (ix2 r l) = if r.val % 2 = 1 then 1#1 else 0#1)
    (wt : IVec S128x256 16) (off : Fin 2 → ℕ) (h : S128x256.Slices off S16x128) (nib : ℕ) (hn : nib < 2)
    (j : Fin 16) (l : Fin 128) (κ : Fin 128) (p : Fin 256) (hκ : κ.val = off 0 + j.val) (hp : p.val = off 1 + l.val) :
    odds odd (look T0 (codes (words wt off h) (BitVec.ofNat 32 (4 * nib)))) (look T1 (codes (words wt off h) (BitVec.ofNat 32 (4 * nib))))
      (ix2 j l) = LV (nibble (wt (ix2 κ p)) 1 nib) := by
  have hj := j.isLt
  set L0 := look T0 (codes (words wt off h) (BitVec.ofNat 32 (4 * nib))) with hL0
  set L1 := look T1 (codes (words wt off h) (BitVec.ofNat 32 (4 * nib))) with hL1
  have e := look_codes hT wt off h nib hn ⟨2 * j.val + 1, by omega⟩ l κ p (by show κ.val = off 0 + (2 * j.val + 1) / 2; omega) hp
  rw [← hL0, ← hL1, show (2 * j.val + 1) % 2 = 1 by omega] at e
  apply BitVec.eq_of_getLsbD_eq
  intro b hb
  unfold odds
  by_cases h8 : b < 8
  · rw [half_getLsbD _ j l b hb ⟨2 * j.val, by omega⟩ (by show 2 * j.val = _; omega)]
    have es : select odd L1 (bitcast S32x128 8 (shrui (bitcast S8x128 32 L0 bitcasts_S32x128_w8_S8x128_w32) (broadcast S8x128 8#32))
        bitcasts_S8x128_w32_S32x128_w8) (ix2 (⟨2 * j.val, by omega⟩ : Fin 32) l)
        = bitcast S32x128 8 (shrui (bitcast S8x128 32 L0 bitcasts_S32x128_w8_S8x128_w32) (broadcast S8x128 8#32))
        bitcasts_S8x128_w32_S32x128_w8 (ix2 (⟨2 * j.val, by omega⟩ : Fin 32) l) := by
      show Scalar.select _ _ _ = _
      rw [hodd, if_neg (by show ¬ (2 * j.val) % 2 = 1; omega)]
      rfl
    rw [es, bitcast_32_8_getLsbD _ _ l _ (by omega) ⟨j.val / 2, by omega⟩ (by show j.val / 2 = 2 * j.val / 4; omega)]
    have e2 : ∀ y : IVec S8x128 32, shrui y (broadcast S8x128 8#32) (ix2 (⟨j.val / 2, by omega⟩ : Fin 8) l)
        = (y (ix2 (⟨j.val / 2, by omega⟩ : Fin 8) l)) >>> 8 := by
      intro y
      exact shrui_lt _ _ _ rfl (by decide)
    rw [e2, BitVec.getLsbD_ushiftRight,
      Cert.Unit.bitcast_8_32_getLsbD L0 ⟨j.val / 2, by omega⟩ l _ (by show 8 + (8 * (2 * j.val % 4) + b % 8) < 32; omega) ⟨2 * j.val + 1, by omega⟩
        (by show 2 * j.val + 1 = 4 * (j.val / 2) + (8 + (8 * (2 * j.val % 4) + b % 8)) / 8; omega), e.1]
    have hm : (8 + (8 * (2 * j.val % 4) + b % 8)) % 8 = b := by omega
    rw [show ((8 + (8 * ((⟨2 * j.val, by omega⟩ : Fin 32).val % 4) + b % 8)) % 8) = b from hm]
    simp [h8]
  · rw [half_getLsbD _ j l b hb ⟨2 * j.val + 1, by omega⟩ (by show 2 * j.val + 1 = _; omega)]
    have es : select odd L1 (bitcast S32x128 8 (shrui (bitcast S8x128 32 L0 bitcasts_S32x128_w8_S8x128_w32) (broadcast S8x128 8#32))
        bitcasts_S8x128_w32_S32x128_w8) (ix2 (⟨2 * j.val + 1, by omega⟩ : Fin 32) l)
        = L1 (ix2 (⟨2 * j.val + 1, by omega⟩ : Fin 32) l) := by
      show Scalar.select _ _ _ = _
      rw [hodd, if_pos (by show (2 * j.val + 1) % 2 = 1; omega)]
      rfl
    rw [es, e.2]
    have hm : b % 8 < 8 := by omega
    have hs : 8 + b % 8 = b := by omega
    simp [hm, hs]

end

end Cert.Unit

end
-- ==== Proof.Trip.lean ====
/- The main loop's trip: the four weight tiles it builds, as one function of the packed bytes, the tables and the scales. -/
module

public import proofs.«01_k».proof.Proof.Unit
public import proofs.«01_k».proof.Proof.Gen.KernelIdeal.Loops

@[expose] public section

set_option maxRecDepth 65536

noncomputable section

namespace Cert.Unit

open Idealize.ShloMosaic Cert.KernelIdeal Cert.KernelIdeal.Gen

variable {F : FTy → Type} [FloatOps F]

/-- The scales of one block, one row of words repeated eight times. -/
def scaleTile (raw : Vec F S1x1x2x128 .bf16) : FVec F S16x128 .bf16 :=
  let lo : FVec F S1x128 .bf16 := shapeCast S1x128 (shapeCast S1x1x128 (rowsOfParity 0 S1x1x1x128 raw bitcasts_S1x1x2x128_w16_S1x1x1x128_w32)
    shapeCasts_S1x1x1x128_S1x1x128) shapeCasts_S1x1x128_S1x128
  let hi : FVec F S1x128 .bf16 := shapeCast S1x128 (shapeCast S1x1x128 (rowsOfParity 1 S1x1x1x128 raw bitcasts_S1x1x2x128_w16_S1x1x1x128_w32)
    shapeCasts_S1x1x1x128_S1x1x128) shapeCasts_S1x1x128_S1x128
  interleaveRows S16x128
    (concatenate S8x128 0 [⟨S1x128, lo⟩, ⟨S1x128, lo⟩, ⟨S1x128, lo⟩, ⟨S1x128, lo⟩, ⟨S1x128, lo⟩, ⟨S1x128, lo⟩, ⟨S1x128, lo⟩, ⟨S1x128, lo⟩]
      concatenates_S1x128_S1x128_S1x128_S1x128_S1x128_S1x128_S1x128_S1x128_S8x128_d0)
    (concatenate S8x128 0 [⟨S1x128, hi⟩, ⟨S1x128, hi⟩, ⟨S1x128, hi⟩, ⟨S1x128, hi⟩, ⟨S1x128, hi⟩, ⟨S1x128, hi⟩, ⟨S1x128, hi⟩, ⟨S1x128, hi⟩]
      concatenates_S1x128_S1x128_S1x128_S1x128_S1x128_S1x128_S1x128_S1x128_S8x128_d0)
    bitcasts_S16x128_w16_S8x128_w32

/-- The scaled levels of one unit: `r = 0` for the even output rows, `r = 1` for the odd ones. -/
def tile (r : Fin 2) (T0 T1 : IVec S32x128 8) (odd : IVec S32x128 1) (wt : IVec S128x256 16) (off : Fin 2 → ℕ)
    (h : S128x256.Slices off S16x128) (nib : ℕ) (raw : Vec F S1x1x2x128 .bf16) : FVec F S16x128 .bf16 :=
  mulf (bitcastToFloat .bf16 (match r with
    | 0 => evens (look T0 (codes (words wt off h) (BitVec.ofNat 32 (4 * nib)))) (look T1 (codes (words wt off h) (BitVec.ofNat 32 (4 * nib))))
    | 1 => odds odd (look T0 (codes (words wt off h) (BitVec.ofNat 32 (4 * nib)))) (look T1 (codes (words wt off h) (BitVec.ofNat 32 (4 * nib))))))
    (scaleTile raw)

/-- Sixteen rows of all 256 pairs. -/
def rowTile (r : Fin 2) (T0 T1 : IVec S32x128 8) (odd : IVec S32x128 1) (wt : IVec S128x256 16) (v : Fin 8)
    (nib : ℕ) (raw0 raw1 : Vec F S1x1x2x128 .bf16) : FVec F S16x256 .bf16 :=
  concatenate S16x256 1
    [⟨S16x128, tile r T0 T1 odd wt ![16 * v.val, 0] (by revert v; decide) nib raw0⟩,
     ⟨S16x128, tile r T0 T1 odd wt ![16 * v.val, 128] (by revert v; decide) nib raw1⟩] concatenates_S16x128_S16x128_S16x256_d1

/-- The transposed weights of 128 columns of bytes. -/
def turned (x : Vec F S512x128 .i8) : IVec S128x256 16 :=
  transpose S128x256 [1, 0] (bitcast S256x128 16 (bitcast S128x128 32 x bitcasts_S512x128_w8_S128x128_w32) bitcasts_S128x128_w32_S256x128_w16)
    transposes_S256x128_p1_0_S128x256

def table (x : Vec F S1x32x128 .i8) : IVec S32x128 8 := shapeCast S32x128 x shapeCasts_S1x32x128_S32x128

section
variable (arg2 : Memref sig .tc .vmem S512x6016 .i8) (arg10 : Memref sig .tc .vmem S2x8x2x6016 .bf16) (arg11 : Memref sig .tc .vmem S2x192x2x256 .bf16)
  (v1462 v1464 : Vec F S1x32x128 .i8) (X2 : BufTy.Contents (Elt F) arg2.view.ty) (X10 : BufTy.Contents (Elt F) arg10.view.ty)
  (X11 : BufTy.Contents (Elt F) arg11.view.ty) (k : Fin k0_t2_loop.trips)

/-- The packed bytes a trip reads. -/
def tripBytes (h : Fin 2) : Vec F S512x128 .i8 :=
  View.readAt (Elt F) arg2.view (Rect.unit (s := S512x6016) (k0_off4 k (BitVec.ofNat 32 (128 * h.val))) S512x128.size (k0_off4_inb k h)).toLoadRect X2

/-- The scales a trip reads: of row parity `r`, half `c` of the pairs. -/
def tripScale (r c : Fin 2) (h : Fin 2) (v : Fin 8) : Vec F S1x1x2x128 .bf16 :=
  match r, c with
  | 0, 0 => View.readAt (Elt F) arg11.view (Rect.unit (s := S2x192x2x256) (k0_off5 k (BitVec.ofNat 32 (128 * h.val)) (BitVec.ofNat 32 (16 * v.val))) S1x1x2x128.size (k0_off5_inb k h v)).toLoadRect X11
  | 1, 0 => View.readAt (Elt F) arg11.view (Rect.unit (s := S2x192x2x256) (k0_off6 k (BitVec.ofNat 32 (128 * h.val)) (BitVec.ofNat 32 (16 * v.val))) S1x1x2x128.size (k0_off6_inb k h v)).toLoadRect X11
  | 0, 1 => View.readAt (Elt F) arg11.view (Rect.unit (s := S2x192x2x256) (k0_off7 k (BitVec.ofNat 32 (128 * h.val)) (BitVec.ofNat 32 (16 * v.val))) S1x1x2x128.size (k0_off7_inb k h v)).toLoadRect X11
  | 1, 1 => View.readAt (Elt F) arg11.view (Rect.unit (s := S2x192x2x256) (k0_off8 k (BitVec.ofNat 32 (128 * h.val)) (BitVec.ofNat 32 (16 * v.val))) S1x1x2x128.size (k0_off8_inb k h v)).toLoadRect X11

/-- The sixteen rows numbered `v` of the tile of nibble `nib` and output row parity `r`. -/
def tripRow (nib : ℕ) (r : Fin 2) (v : Fin 16) : FVec F S16x256 .bf16 :=
  rowTile r (k0_pay801 v1462) (k0_pay802 v1464) k0_pay803 (turned (tripBytes arg2 X2 k (⟨v.val / 8, by omega⟩ : Fin 2)))
    (⟨v.val % 8, by omega⟩ : Fin 8) nib
    (tripScale arg11 X11 k r 0 (⟨v.val / 8, by omega⟩ : Fin 2) (⟨v.val % 8, by omega⟩ : Fin 8))
    (tripScale arg11 X11 k r 1 (⟨v.val / 8, by omega⟩ : Fin 2) (⟨v.val % 8, by omega⟩ : Fin 8))

/-- A weight tile of a trip. -/
def tripTile (nib : ℕ) (r : Fin 2) : FVec F S256x256 .bf16 :=
  concatenate S256x256 0 (List.ofFn fun v : Fin 16 => (⟨S16x256, tripRow arg2 arg11 v1462 v1464 X2 X11 k nib r v⟩ : (s : Shape) × (s.Idx → F .bf16)))
    concatenates_S16x256_S16x256_S16x256_S16x256_S16x256_S16x256_S16x256_S16x256_S16x256_S16x256_S16x256_S16x256_S16x256_S16x256_S16x256_S16x256_S256x256_d0

theorem v5715_eq : trip_k0_t2.sl.v5715 arg2 arg11 v1462 v1464 X2 X11 k = tripTile arg2 arg11 v1462 v1464 X2 X11 k 0 0 := rfl
theorem v5716_eq : trip_k0_t2.sl.v5716 arg2 arg11 v1462 v1464 X2 X11 k = tripTile arg2 arg11 v1462 v1464 X2 X11 k 0 1 := rfl
theorem v5717_eq : trip_k0_t2.sl.v5717 arg2 arg11 v1462 v1464 X2 X11 k = tripTile arg2 arg11 v1462 v1464 X2 X11 k 1 0 := rfl
theorem v5718_eq : trip_k0_t2.sl.v5718 arg2 arg11 v1462 v1464 X2 X11 k = tripTile arg2 arg11 v1462 v1464 X2 X11 k 1 1 := rfl

end

end Cert.Unit

end
-- ==== Proof.Tile.lean ====
/- What a weight tile holds at an index: the level of a nibble times the scale of its block. -/
module

public import proofs.«01_k».proof.Proof.Trip
public import Idealize.ShloMosaic.Lib.Pipeline.ValueKit.Tiles

@[expose] public section

set_option maxRecDepth 65536

noncomputable section

namespace Cert.Unit

open Idealize.ShloMosaic Cert.KernelIdeal Cert.KernelIdeal.Gen

variable {F : FTy → Type} [FloatOps F]

theorem ld_off {Val : EltTy → Type} {S : Shape} {e : EltTy} (X : S.Idx → Val e) {off off' : Fin S.rank → ℕ} (he : off = off') (size : Fin S.rank → ℕ) (inb)
    (x : (Rect.unit off size inb).shape.Idx) (i : S.Idx) (hi : ∀ a, (i a : ℕ) = off' a + x a) : View.ld X (Rect.unit off size inb) x = X i := by
  subst he
  exact View.ld_unit_apply_of X _ _ _ _ _ hi

/-- A nibble of a byte: `nib = 0` the low one. -/
def byteNib (b : BitVec 8) (nib : ℕ) : BitVec 4 := b.extractLsb' (4 * nib) 4

theorem scaleTile_apply (raw : Vec F S1x1x2x128 .bf16) (j : Fin 16) (l : Fin 128) :
    scaleTile raw (ix2 j l) = raw (ix4 0 0 (⟨j.val % 2, by omega⟩ : Fin 2) l) := by
  have hj := j.isLt
  have key : ∀ (p : Fin 2) (i : Fin 8), concatenate S8x128 0 (List.replicate 8 (⟨S1x128, shapeCast S1x128 (shapeCast S1x1x128
      (rowsOfParity p S1x1x1x128 raw bitcasts_S1x1x2x128_w16_S1x1x1x128_w32) shapeCasts_S1x1x1x128_S1x1x128) shapeCasts_S1x1x128_S1x128⟩ :
        (s : Shape) × (s.Idx → F .bf16)))
      concatenates_S1x128_S1x128_S1x128_S1x128_S1x128_S1x128_S1x128_S1x128_S8x128_d0 (ix2 i l) = raw (ix4 0 0 p l) := by
    intro p i
    rw [concatenate_replicate_apply (s₁ := S1x128) (t := S8x128) 0 8 _ _ rfl (ix2 i l) (ix2 (0 : Fin 1) l) (by show 0 = i.val % 1; omega)
      (by intro b hb; match b with
          | ⟨0, _⟩ => exact absurd rfl hb
          | ⟨1, _⟩ => rfl)]
    rw [shapeCast_apply (s := S1x1x128) (t := S1x128) _ _ _ (ix3 (0 : Fin 1) (0 : Fin 1) l) (by
      rw [Shape.rowMajor_val_three, Shape.rowMajor_val_two]; rfl),
      shapeCast_apply (s := S1x1x1x128) (t := S1x1x128) _ _ _ (ix4 (0 : Fin 1) (0 : Fin 1) (0 : Fin 1) l) (by
      rw [Shape.rowMajor_val_four, Shape.rowMajor_val_three]; rfl)]
    show raw _ = raw _
    congr 1
    funext a
    match a with
    | ⟨0, _⟩ => rfl
    | ⟨1, _⟩ => rfl
    | ⟨2, _⟩ => apply Fin.ext; show 2 * 0 + p.val = p.val; omega
    | ⟨3, _⟩ => rfl
  unfold scaleTile interleaveRows
  have hrow : S16x128.row (ix2 j l) = j.val := rfl
  simp only [hrow]
  have e : ∀ b : S8x128.Idx, (∀ c : Fin 2, b c = ix2 (⟨j.val / 2, by omega⟩ : Fin 8) l c) → b = ix2 (⟨j.val / 2, by omega⟩ : Fin 8) l :=
    fun b h => funext h
  split
  · rename_i h
    refine (congrArg _ (e _ (fun c => by match c with
      | ⟨0, _⟩ => rfl
      | ⟨1, _⟩ => rfl))).trans ((key 0 _).trans ?_)
    congr 2
    exact Fin.ext h.symm
  · rename_i h
    refine (congrArg _ (e _ (fun c => by match c with
      | ⟨0, _⟩ => rfl
      | ⟨1, _⟩ => rfl))).trans ((key 1 _).trans ?_)
    congr 2
    apply Fin.ext
    show 1 = j.val % 2
    omega

theorem turned_apply (x : Vec F S512x128 .i8) (κ : Fin 128) (p : Fin 256) (r : Fin 2) (nib : ℕ) (hn : nib < 2) :
    nibble (turned x (ix2 κ p)) r.val nib = byteNib (x (ix2 (⟨2 * p.val + r.val, by omega⟩ : Fin 512) κ)) nib := by
  have hp := p.isLt
  have hr := r.isLt
  unfold turned
  rw [transpose_apply _ _ _ _ (ix2 p κ) (by
    intro b
    match b with
    | ⟨0, _⟩ => rfl
    | ⟨1, _⟩ => rfl)]
  unfold nibble byteNib
  apply BitVec.eq_of_getLsbD_eq
  intro b hb
  simp only [BitVec.getLsbD_extractLsb', hb, decide_true, Bool.true_and]
  have e : S256x128.row (ix2 p κ) = p.val := rfl
  have hb' : 8 * r.val + 4 * nib + b < 16 := by omega
  have pos : ∀ q hq, (bitcast S128x128 32 x bitcasts_S512x128_w8_S128x128_w32 (ix2 (⟨q / 32, hq⟩ : Fin 128) κ)).getLsbD (q % 32)
      = (x (ix2 (⟨q / 8, by omega⟩ : Fin 512) κ)).getLsbD (q % 8) := by
    intro q hq
    rw [bitcast_getLsbD _ _ _ _ (by omega) (by decide)]
    have e2 : S128x128.row (ix2 (⟨q / 32, hq⟩ : Fin 128) κ) = q / 32 := rfl
    have e3 : (q / 32 * 32 + q % 32) = q := by omega
    have e4 : S128x128.row (ix2 (⟨q / 32, hq⟩ : Fin 128) κ) * 32 + q % 32 = q := by rw [e2]; omega
    rw [congrArg (fun z => z % 8) e4]
    congr 2
    funext c
    apply Fin.ext
    match c with
    | ⟨0, _⟩ =>
      rw [Shape.Bitcasts.srcIdx_row _ _ _ _ _ rfl, e4]
      rfl
    | ⟨1, _⟩ => rw [Shape.Bitcasts.srcIdx_other _ _ _ _ _ (by show ¬ (1 + 2 = 2); decide)]; rfl
  rw [bitcast_getLsbD _ _ _ _ (by omega) (by decide)]
  have e5 : S256x128.row (ix2 p κ) * 16 + (8 * r.val + 4 * nib + b) = p.val * 16 + (8 * r.val + 4 * nib + b) := rfl
  have e6 : bitcasts_S128x128_w32_S256x128_w16.srcIdx (ix2 p κ)
      ((S256x128.row (ix2 p κ) * 16 + (8 * r.val + 4 * nib + b)) / 32) (fun a ha =>
          (Nat.div_lt_iff_lt_mul (by decide)).2 (bitcasts_S128x128_w32_S256x128_w16.pos_lt (ix2 p κ) _ hb' a ha))
      = ix2 (⟨(p.val * 16 + (8 * r.val + 4 * nib + b)) / 32, by omega⟩ : Fin 128) κ := by
    funext c
    apply Fin.ext
    match c with
    | ⟨0, _⟩ => rw [Shape.Bitcasts.srcIdx_row _ _ _ _ _ rfl]; rfl
    | ⟨1, _⟩ => rw [Shape.Bitcasts.srcIdx_other _ _ _ _ _ (by show ¬ (1 + 2 = 2); decide)]; rfl
  refine (congrArg (fun z => (bitcast S128x128 32 x bitcasts_S512x128_w8_S128x128_w32 z).getLsbD
    ((S256x128.row (ix2 p κ) * 16 + (8 * r.val + 4 * nib + b)) % 32)) e6).trans ?_
  refine (pos (p.val * 16 + (8 * r.val + 4 * nib + b)) (by omega)).trans ?_
  have e7 : (p.val * 16 + (8 * r.val + 4 * nib + b)) % 8 = 4 * nib + b := by omega
  rw [e7]
  congr 3
  apply Fin.ext
  show (p.val * 16 + (8 * r.val + 4 * nib + b)) / 8 = 2 * p.val + r.val
  omega

section
variable {T0 T1 : IVec S32x128 8} {LV : BitVec 4 → BitVec 16} (hT : Tables T0 T1 LV)
  {odd : IVec S32x128 1} (hodd : ∀ (r : Fin 32) (l : Fin 128), odd (ix2 r l) = if r.val % 2 = 1 then 1#1 else 0#1)
include hT hodd

theorem tile_apply (r : Fin 2) (wt : IVec S128x256 16) (off : Fin 2 → ℕ)
    (h : S128x256.Slices off S16x128) (nib : ℕ) (hn : nib < 2) (raw : Vec F S1x1x2x128 .bf16)
    (j : Fin 16) (l : Fin 128) (κ : Fin 128) (p : Fin 256) (hκ : κ.val = off 0 + j.val) (hp : p.val = off 1 + l.val) :
    tile r T0 T1 odd wt off h nib raw (ix2 j l)
      = FloatOps.mulf (FloatOps.ofBits .bf16 (LV (nibble (wt (ix2 κ p)) r.val nib))) (raw (ix4 0 0 (⟨j.val % 2, by omega⟩ : Fin 2) l)) := by
  unfold tile
  rw [← scaleTile_apply raw j l]
  match r with
  | 0 => exact congrArg (fun z => FloatOps.mulf (FloatOps.ofBits .bf16 z) (scaleTile raw (ix2 j l))) (evens_apply hT wt off h nib hn j l κ p hκ hp)
  | 1 => exact congrArg (fun z => FloatOps.mulf (FloatOps.ofBits .bf16 z) (scaleTile raw (ix2 j l))) (odds_apply hT odd hodd wt off h nib hn j l κ p hκ hp)

theorem rowTile_apply (r : Fin 2) (wt : IVec S128x256 16) (v : Fin 8) (nib : ℕ) (hn : nib < 2)
    (raw0 raw1 : Vec F S1x1x2x128 .bf16) (j : Fin 16) (p : Fin 256) (s : F .bf16)
    (h0 : ∀ l : Fin 128, p.val = l.val → raw0 (ix4 0 0 (⟨j.val % 2, by omega⟩ : Fin 2) l) = s)
    (h1 : ∀ l : Fin 128, p.val = 128 + l.val → raw1 (ix4 0 0 (⟨j.val % 2, by omega⟩ : Fin 2) l) = s) :
    rowTile r T0 T1 odd wt v nib raw0 raw1 (ix2 j p)
      = FloatOps.mulf (FloatOps.ofBits .bf16 (LV (nibble (wt (ix2 (⟨16 * v.val + j.val, by omega⟩ : Fin 128) p)) r.val nib))) s := by
  have hv := v.isLt
  unfold rowTile
  by_cases hp : p.val < 128
  · rw [concatenate_pair_apply_left (t := S16x256) (s₁ := S16x128) (s₂ := S16x128) 1 _ _ _ _ rfl (ix2 j (⟨p.val, hp⟩ : Fin 128)) (by
      intro b
      match b with
      | ⟨0, _⟩ => rfl
      | ⟨1, _⟩ => rfl)]
    rw [tile_apply hT hodd r wt _ _ nib hn raw0 j ⟨p.val, hp⟩ ⟨16 * v.val + j.val, by omega⟩ p rfl (by show p.val = 0 + p.val; omega), h0 _ rfl]
  · have hp' := p.isLt
    rw [concatenate_pair_apply_right (t := S16x256) (s₁ := S16x128) (s₂ := S16x128) 1 _ _ _ _ rfl rfl (ix2 j (⟨p.val - 128, by omega⟩ : Fin 128)) (by
      intro b hb
      match b with
      | ⟨0, _⟩ => rfl
      | ⟨1, _⟩ => exact absurd rfl hb) (by show p.val - 128 + 128 = p.val; omega)]
    rw [tile_apply hT hodd r wt _ _ nib hn raw1 j ⟨p.val - 128, by omega⟩ ⟨16 * v.val + j.val, by omega⟩ p rfl
      (by show p.val = 128 + (p.val - 128); omega), h1 _ (by show p.val = 128 + (p.val - 128); omega)]

end

theorem odd_mask (r : Fin 32) (l : Fin 128) : k0_pay803 (ix2 r l) = if r.val % 2 = 1 then 1#1 else 0#1 := by
  have h : ∀ r : Fin 32, k0_pay803 (ix2 r (0 : Fin 128)) = if r.val % 2 = 1 then 1#1 else 0#1 := by decide +kernel
  exact h r

theorem off4_eq : ∀ (k : Fin k0_t2_loop.trips) (h : Fin 2), k0_off4 k (BitVec.ofNat 32 (128 * h.val)) = ![0, 256 * k.val + 128 * h.val] := by
  decide +kernel
theorem off5_eq : ∀ (k : Fin k0_t2_loop.trips) (h : Fin 2) (v : Fin 8), k0_off5 k (BitVec.ofNat 32 (128 * h.val)) (BitVec.ofNat 32 (16 * v.val))
    = ![0, (256 * k.val + 128 * h.val + 16 * v.val) / 32, 0, 0] := by decide +kernel
theorem off6_eq : ∀ (k : Fin k0_t2_loop.trips) (h : Fin 2) (v : Fin 8), k0_off6 k (BitVec.ofNat 32 (128 * h.val)) (BitVec.ofNat 32 (16 * v.val))
    = ![1, (256 * k.val + 128 * h.val + 16 * v.val) / 32, 0, 0] := by decide +kernel
theorem off7_eq : ∀ (k : Fin k0_t2_loop.trips) (h : Fin 2) (v : Fin 8), k0_off7 k (BitVec.ofNat 32 (128 * h.val)) (BitVec.ofNat 32 (16 * v.val))
    = ![0, (256 * k.val + 128 * h.val + 16 * v.val) / 32, 0, 128] := by decide +kernel
theorem off8_eq : ∀ (k : Fin k0_t2_loop.trips) (h : Fin 2) (v : Fin 8), k0_off8 k (BitVec.ofNat 32 (128 * h.val)) (BitVec.ofNat 32 (16 * v.val))
    = ![1, (256 * k.val + 128 * h.val + 16 * v.val) / 32, 0, 128] := by decide +kernel
theorem off9_eq : ∀ k : Fin k0_t2_loop.trips, k0_off9 k = ![0, 0, 0, 256 * k.val] := by decide +kernel
theorem off10_eq : ∀ k : Fin k0_t2_loop.trips, k0_off10 k = ![1, 0, 0, 256 * k.val] := by decide +kernel

section
variable (arg2 : Memref sig .tc .vmem S512x6016 .i8) (arg11 : Memref sig .tc .vmem S2x192x2x256 .bf16)
  (v1462 v1464 : Vec F S1x32x128 .i8) (X2 : BufTy.Contents (Elt F) arg2.view.ty)
  (X11 : BufTy.Contents (Elt F) arg11.view.ty) (k : Fin k0_t2_loop.trips)

theorem k_lt : k.val < 23 := k.isLt

theorem tripBytes_apply (h : Fin 2) (q : Fin 512) (κ : Fin 128) :
    tripBytes arg2 X2 k h (ix2 q κ) = arg2.view.read (Elt F) X2 (ix2 q (⟨256 * k.val + 128 * h.val + κ.val, by have := k_lt k; omega⟩ : Fin 6016)) := by
  unfold tripBytes
  rw [View.readAt_eq_ld]
  refine ld_off _ (off4_eq k h) _ _ _ _ ?_
  intro a
  match a with
  | ⟨0, _⟩ => show q.val = 0 + q.val; omega
  | ⟨1, _⟩ => rfl

theorem tripScale_apply (r c : Fin 2) (h : Fin 2) (v : Fin 8) (e : Fin 2) (l : Fin 128) :
    tripScale arg11 X11 k r c h v (ix4 0 0 e l) = arg11.view.read (Elt F) X11
      (ix4 r (⟨(256 * k.val + 128 * h.val + 16 * v.val) / 32, by have := k_lt k; omega⟩ : Fin 192) e (⟨128 * c.val + l.val, by omega⟩ : Fin 256)) := by
  unfold tripScale
  match r, c with
  | 0, 0 =>
    dsimp only
    rw [View.readAt_eq_ld]
    refine ld_off _ (off5_eq k h v) _ _ _ _ ?_
    intro a
    match a with
    | ⟨0, _⟩ => rfl
    | ⟨1, _⟩ => rfl
    | ⟨2, _⟩ => show e.val = 0 + e.val; omega
    | ⟨3, _⟩ => rfl
  | 1, 0 =>
    dsimp only
    rw [View.readAt_eq_ld]
    refine ld_off _ (off6_eq k h v) _ _ _ _ ?_
    intro a
    match a with
    | ⟨0, _⟩ => rfl
    | ⟨1, _⟩ => rfl
    | ⟨2, _⟩ => show e.val = 0 + e.val; omega
    | ⟨3, _⟩ => rfl
  | 0, 1 =>
    dsimp only
    rw [View.readAt_eq_ld]
    refine ld_off _ (off7_eq k h v) _ _ _ _ ?_
    intro a
    match a with
    | ⟨0, _⟩ => rfl
    | ⟨1, _⟩ => rfl
    | ⟨2, _⟩ => show e.val = 0 + e.val; omega
    | ⟨3, _⟩ => rfl
  | 1, 1 =>
    dsimp only
    rw [View.readAt_eq_ld]
    refine ld_off _ (off8_eq k h v) _ _ _ _ ?_
    intro a
    match a with
    | ⟨0, _⟩ => rfl
    | ⟨1, _⟩ => rfl
    | ⟨2, _⟩ => show e.val = 0 + e.val; omega
    | ⟨3, _⟩ => rfl

/-- A trip's weight: the level of the nibble of byte column `256 k + κ` in output row `2 p + r`, times its block's scale. -/
theorem tripTile_apply {LV : BitVec 4 → BitVec 16} (hT : Tables (k0_pay801 v1462) (k0_pay802 v1464) LV) (nib : ℕ) (hn : nib < 2) (r : Fin 2)
    (κ p : Fin 256) :
    tripTile arg2 arg11 v1462 v1464 X2 X11 k nib r (ix2 κ p)
      = FloatOps.mulf (FloatOps.ofBits .bf16 (LV (byteNib (arg2.view.read (Elt F) X2 (ix2 (⟨2 * p.val + r.val, by omega⟩ : Fin 512)
            (⟨256 * k.val + κ.val, by have := k_lt k; omega⟩ : Fin 6016))) nib)))
          (arg11.view.read (Elt F) X11 (ix4 r (⟨(256 * k.val + κ.val) / 32, by have := k_lt k; omega⟩ : Fin 192)
            (⟨κ.val % 2, by omega⟩ : Fin 2) p)) := by
  have hκ := κ.isLt
  unfold tripTile
  refine (concatenate_ofFn_apply (s₁ := S16x256) (t := S256x256) 0 _ _ rfl 16 rfl (ix2 κ p) (⟨κ.val / 16, by omega⟩ : Fin 16) rfl
    (ix2 (⟨κ.val % 16, by omega⟩ : Fin 16) p) (by rfl) (by
      intro b hb
      match b with
      | ⟨0, _⟩ => exact absurd rfl hb
      | ⟨1, _⟩ => rfl)).trans ?_
  unfold tripRow
  have hs : ∀ (c : Fin 2) (l : Fin 128), p.val = 128 * c.val + l.val →
      tripScale arg11 X11 k r c (⟨κ.val / 16 / 8, by omega⟩ : Fin 2) (⟨κ.val / 16 % 8, by omega⟩ : Fin 8)
        (ix4 0 0 (⟨κ.val % 16 % 2, by omega⟩ : Fin 2) l)
      = arg11.view.read (Elt F) X11 (ix4 r (⟨(256 * k.val + κ.val) / 32, by have := k_lt k; omega⟩ : Fin 192)
            (⟨κ.val % 2, by omega⟩ : Fin 2) p) := by
    intro c l hl
    rw [tripScale_apply]
    congr 1
    have e1 : (256 * k.val + 128 * (κ.val / 16 / 8) + 16 * (κ.val / 16 % 8)) / 32 = (256 * k.val + κ.val) / 32 := by omega
    have e2 : κ.val % 16 % 2 = κ.val % 2 := by omega
    funext a
    apply Fin.ext
    match a with
    | ⟨0, _⟩ => rfl
    | ⟨1, _⟩ => exact e1
    | ⟨2, _⟩ => exact e2
    | ⟨3, _⟩ => exact hl.symm
  rw [rowTile_apply hT odd_mask r _ _ nib hn _ _ (⟨κ.val % 16, by omega⟩ : Fin 16) p _
    (fun l hl => hs 0 l (by show p.val = 128 * 0 + l.val; omega)) (fun l hl => hs 1 l (by show p.val = 128 * 1 + l.val; omega)),
    turned_apply _ _ _ _ _ hn, tripBytes_apply]
  congr 6
  apply Fin.ext
  show 256 * k.val + 128 * (κ.val / 16 / 8) + (16 * (κ.val / 16 % 8) + κ.val % 16) = 256 * k.val + κ.val
  omega

end

end Cert.Unit

end
-- ==== Proof.Sweep.lean ====
/- The main loop at the ideal values: what its accumulators hold after any number of trips. -/
module

public import proofs.«01_k».proof.Proof.Tile
public import Idealize.ShloMosaic.Lib.Pointwise.Contract

@[expose] public section

set_option maxRecDepth 65536

noncomputable section

namespace Cert.Unit

open Idealize.ShloMosaic Cert.KernelIdeal Cert.KernelIdeal.Gen

section
variable {F : FTy → Type} [FloatOps F]

/-- Packed rows of two tokens read back as sixteen rows. -/
theorem xRows_apply (raw : Vec F S1x8x2x256 .bf16) (i : Fin 16) (κ : Fin 256) :
    k0_pay811 raw (ix2 i κ) = raw (ix4 0 (⟨i.val / 2, by omega⟩ : Fin 8) (⟨i.val % 2, by omega⟩ : Fin 2) κ) := by
  have hi := i.isLt
  have key : ∀ (p : Fin 2) (j : Fin 8), shapeCast S8x256 (shapeCast S1x8x256
      (rowsOfParity p S1x8x1x256 raw bitcasts_S1x8x2x256_w16_S1x8x1x256_w32) shapeCasts_S1x8x1x256_S1x8x256) shapeCasts_S1x8x256_S8x256 (ix2 j κ)
      = raw (ix4 0 j p κ) := by
    intro p j
    rw [shapeCast_apply (s := S1x8x256) (t := S8x256) _ _ _ (ix3 (0 : Fin 1) j κ) (by
      rw [Shape.rowMajor_val_three, Shape.rowMajor_val_two]; show (0 * 8 + j.val) * 256 + κ.val = j.val * 256 + κ.val; omega),
      shapeCast_apply (s := S1x8x1x256) (t := S1x8x256) _ _ _ (ix4 (0 : Fin 1) j (0 : Fin 1) κ) (by
      rw [Shape.rowMajor_val_four, Shape.rowMajor_val_three]
      show ((0 * 8 + j.val) * 1 + 0) * 256 + κ.val = (0 * 8 + j.val) * 256 + κ.val; omega)]
    show raw _ = raw _
    congr 1
    funext a
    match a with
    | ⟨0, _⟩ => rfl
    | ⟨1, _⟩ => rfl
    | ⟨2, _⟩ => apply Fin.ext; show 2 * 0 + p.val = p.val; omega
    | ⟨3, _⟩ => rfl
  unfold k0_pay811 interleaveRows
  have hrow : S16x256.row (ix2 i κ) = i.val := rfl
  simp only [hrow]
  have e : ∀ b : S8x256.Idx, (∀ c : Fin 2, b c = ix2 (⟨i.val / 2, by omega⟩ : Fin 8) κ c) → b = ix2 (⟨i.val / 2, by omega⟩ : Fin 8) κ :=
    fun b h => funext h
  split
  · rename_i h
    refine (congrArg _ (e _ (fun c => by match c with
      | ⟨0, _⟩ => rfl
      | ⟨1, _⟩ => rfl))).trans ((key 0 _).trans ?_)
    congr 2
    exact Fin.ext h.symm
  · rename_i h
    refine (congrArg _ (e _ (fun c => by match c with
      | ⟨0, _⟩ => rfl
      | ⟨1, _⟩ => rfl))).trans ((key 1 _).trans ?_)
    congr 2
    apply Fin.ext
    show 1 = i.val % 2
    omega

variable (arg10 : Memref sig .tc .vmem S2x8x2x6016 .bf16) (X10 : BufTy.Contents (Elt F) arg10.view.ty) (k : Fin k0_t2_loop.trips)

theorem v5722_apply (i : Fin 16) (κ : Fin 256) : trip_k0_t2.sl.v5722 arg10 X10 k (ix2 i κ)
    = arg10.view.read (Elt F) X10 (ix4 0 (⟨i.val / 2, by omega⟩ : Fin 8) (⟨i.val % 2, by omega⟩ : Fin 2) (⟨256 * k.val + κ.val, by have := k_lt k; omega⟩ : Fin 6016)) := by
  refine (xRows_apply _ i κ).trans ?_
  rw [View.readAt_eq_ld]
  refine ld_off _ (off9_eq k) _ _ _ _ ?_
  intro a
  match a with
  | ⟨0, _⟩ => rfl
  | ⟨1, _⟩ => show i.val / 2 = 0 + i.val / 2; omega
  | ⟨2, _⟩ => show i.val % 2 = 0 + i.val % 2; omega
  | ⟨3, _⟩ => rfl

theorem v5730_apply (i : Fin 16) (κ : Fin 256) : trip_k0_t2.sl.v5730 arg10 X10 k (ix2 i κ)
    = arg10.view.read (Elt F) X10 (ix4 1 (⟨i.val / 2, by omega⟩ : Fin 8) (⟨i.val % 2, by omega⟩ : Fin 2) (⟨256 * k.val + κ.val, by have := k_lt k; omega⟩ : Fin 6016)) := by
  refine (xRows_apply _ i κ).trans ?_
  rw [View.readAt_eq_ld]
  refine ld_off _ (off10_eq k) _ _ _ _ ?_
  intro a
  match a with
  | ⟨0, _⟩ => rfl
  | ⟨1, _⟩ => show i.val / 2 = 0 + i.val / 2; omega
  | ⟨2, _⟩ => show i.val % 2 = 0 + i.val % 2; omega
  | ⟨3, _⟩ => rfl

end

theorem matmul256_apply (x : FVec Ideal S16x256 .bf16) (w : FVec Ideal S256x256 .bf16) (i : Fin 16) (p : Fin 256) :
    matmul dot_S16x256_S256x256_S16x256_1_0_0_1_n_n none x w (constant S16x256 .f32 0x00000000#32) (ix2 i p)
      = ∑ κ : Fin 256, (x (ix2 i κ) : EReal) * (w (ix2 κ p) : EReal) := by
  refine (Ideal.matmul_constant_zero_apply dot_S16x256_S256x256_S16x256_1_0_0_1_n_n none x w (ix2 i p)).trans ?_
  rw [DotDims.sum_contr₁ (d := dot_S16x256_S256x256_S16x256_1_0_0_1_n_n) (a := 1) rfl (K := 256) rfl]
  refine Finset.sum_congr rfl fun κ _ => ?_
  congr 2
  · funext a
    match a with
    | ⟨0, _⟩ => rfl
    | ⟨1, _⟩ => rfl
  · funext a
    match a with
    | ⟨0, _⟩ => rfl
    | ⟨1, _⟩ => rfl

theorem addf_ideal {φ : FTy} {s : Shape} (x y : FVec Ideal s φ) (j : s.Idx) : addf x y j = (x j + y j : EReal) := rfl

/-- One product of the contraction: the token's activation of nibble `nib` at byte column `c`, times the weight. -/
def term (xs : S2x8x2x6016.Idx → EReal) (B : S512x6016.Idx → BitVec 8) (S : S2x192x2x256.Idx → EReal) (LV : BitVec 4 → BitVec 16)
    (nib : Fin 2) (r : Fin 2) (i : Fin 16) (p : Fin 256) (c : ℕ) : EReal :=
  if h : c < 6016 then
    xs (ix4 nib (⟨i.val / 2, by omega⟩ : Fin 8) (⟨i.val % 2, by omega⟩ : Fin 2) (⟨c, h⟩ : Fin 6016))
      * (Ideal.ofBits .bf16 (LV (byteNib (B (ix2 (⟨2 * p.val + r.val, by omega⟩ : Fin 512) (⟨c, h⟩ : Fin 6016))) nib.val))
        * S (ix4 r (⟨c / 32, by omega⟩ : Fin 192) (⟨c % 2, by omega⟩ : Fin 2) p))
  else 0

section
variable (𝒱 : Variants) (c : Dev nD) (bd : Option 𝒱.V) (i : grid0.Coords) (arg1 : Memref sig .tc .vmem S16x12032 .bf16) (harg1 : arg1.IsWhole) (arg2 : Memref sig .tc .vmem S512x6016 .i8) (harg2 : arg2.IsWhole) (arg3 : Memref sig .tc .vmem S512x256 .i8) (harg3 : arg3.IsWhole) (arg4 : Memref sig .tc .vmem S8x1x128 .f32) (harg4 : arg4.IsWhole) (arg5 : Memref sig .tc .smem S1 .f32) (harg5 : arg5.IsWhole) (arg6 : Memref sig .tc .vmem S2x32x128 .i8) (harg6 : arg6.IsWhole) (arg7 : Memref sig .tc .vmem S8x128 .i32) (harg7 : arg7.IsWhole) (arg8 : Memref sig .tc .vmem S2x256 .i32) (harg8 : arg8.IsWhole) (arg9 : Memref sig .tc .vmem S16x512 .bf16) (harg9 : arg9.IsWhole) (arg10 : Memref sig .tc .vmem S2x8x2x6016 .bf16) (harg10 : arg10.IsWhole) (arg11 : Memref sig .tc .vmem S2x192x2x256 .bf16) (harg11 : arg11.IsWhole)
  (lo hi : FVec Ideal S1x8x128 .bf16) (v1462 v1464 : Vec Ideal S1x32x128 .i8)
  (X2 : BufTy.Contents (Elt Ideal) arg2.view.ty) (X10 : BufTy.Contents (Elt Ideal) arg10.view.ty) (X11 : BufTy.Contents (Elt Ideal) arg11.view.ty)
  {LV : BitVec 4 → BitVec 16} (hT : Tables (k0_pay801 v1462) (k0_pay802 v1464) LV)
include hT

/-- One trip adds the products of its 256 byte columns, of both nibbles. -/
theorem tripR_apply (k : Fin k0_t2_loop.trips) (acc : FVec Ideal S16x256 .f32 × FVec Ideal S16x256 .f32) (q : Fin 16) (p : Fin 256) :
    (tripR_k0_t2 (F := Ideal) 𝒱 c bd i arg1 harg1 arg2 harg2 arg3 harg3 arg4 harg4 arg5 harg5 arg6 harg6 arg7 harg7 arg8 harg8 arg9 harg9 arg10 harg10 arg11 harg11 lo hi v1462 v1464 X2 X10 X11 k acc).1 (ix2 q p)
      = (acc.1 (ix2 q p) + ∑ κ : Fin 256, term (arg10.view.read (Elt Ideal) X10) (arg2.view.read (Elt Ideal) X2) (arg11.view.read (Elt Ideal) X11) LV 0 0 q p (256 * k.val + κ.val)
        + ∑ κ : Fin 256, term (arg10.view.read (Elt Ideal) X10) (arg2.view.read (Elt Ideal) X2) (arg11.view.read (Elt Ideal) X11) LV 1 0 q p (256 * k.val + κ.val) : EReal)
    ∧ (tripR_k0_t2 (F := Ideal) 𝒱 c bd i arg1 harg1 arg2 harg2 arg3 harg3 arg4 harg4 arg5 harg5 arg6 harg6 arg7 harg7 arg8 harg8 arg9 harg9 arg10 harg10 arg11 harg11 lo hi v1462 v1464 X2 X10 X11 k acc).2 (ix2 q p)
      = (acc.2 (ix2 q p) + ∑ κ : Fin 256, term (arg10.view.read (Elt Ideal) X10) (arg2.view.read (Elt Ideal) X2) (arg11.view.read (Elt Ideal) X11) LV 0 1 q p (256 * k.val + κ.val)
        + ∑ κ : Fin 256, term (arg10.view.read (Elt Ideal) X10) (arg2.view.read (Elt Ideal) X2) (arg11.view.read (Elt Ideal) X11) LV 1 1 q p (256 * k.val + κ.val) : EReal) := by
  have hk := k_lt k
  have prod : ∀ (nib r : Fin 2) (x : FVec Ideal S16x256 .bf16) (w : FVec Ideal S256x256 .bf16)
      (hx : ∀ κ : Fin 256, x (ix2 q κ) = arg10.view.read (Elt Ideal) X10 (ix4 nib (⟨q.val / 2, by omega⟩ : Fin 8) (⟨q.val % 2, by omega⟩ : Fin 2) (⟨256 * k.val + κ.val, by omega⟩ : Fin 6016)))
      (hw : w = tripTile arg2 arg11 v1462 v1464 X2 X11 k nib.val r),
      matmul dot_S16x256_S256x256_S16x256_1_0_0_1_n_n none x w (constant S16x256 .f32 0x00000000#32) (ix2 q p)
        = ∑ κ : Fin 256, term (arg10.view.read (Elt Ideal) X10) (arg2.view.read (Elt Ideal) X2) (arg11.view.read (Elt Ideal) X11) LV nib r q p (256 * k.val + κ.val) := by
    intro nib r x w hx hw
    rw [matmul256_apply]
    refine Finset.sum_congr rfl fun κ _ => ?_
    have hκ := κ.isLt
    have e : (256 * k.val + κ.val) % 2 = κ.val % 2 := by omega
    rw [hx, hw, tripTile_apply arg2 arg11 v1462 v1464 X2 X11 k hT nib.val nib.isLt r κ p]
    unfold term
    rw [dif_pos (by omega)]
    simp only [e]
    rfl
  unfold tripR_k0_t2 trip_k0_t2
  dsimp only
  constructor
  · show (_ + matmul dot_S16x256_S256x256_S16x256_1_0_0_1_n_n none _ _ (constant S16x256 .f32 0x00000000#32) (ix2 q p)) + matmul dot_S16x256_S256x256_S16x256_1_0_0_1_n_n none _ _ (constant S16x256 .f32 0x00000000#32) (ix2 q p) = _
    rw [prod 0 0 _ _ (v5722_apply arg10 X10 k q) (v5715_eq arg2 arg11 v1462 v1464 X2 X11 k),
      prod 1 0 _ _ (v5730_apply arg10 X10 k q) (v5717_eq arg2 arg11 v1462 v1464 X2 X11 k)]
  · show (_ + matmul dot_S16x256_S256x256_S16x256_1_0_0_1_n_n none _ _ (constant S16x256 .f32 0x00000000#32) (ix2 q p)) + matmul dot_S16x256_S256x256_S16x256_1_0_0_1_n_n none _ _ (constant S16x256 .f32 0x00000000#32) (ix2 q p) = _
    rw [prod 0 1 _ _ (v5722_apply arg10 X10 k q) (v5716_eq arg2 arg11 v1462 v1464 X2 X11 k),
      prod 1 1 _ _ (v5730_apply arg10 X10 k q) (v5718_eq arg2 arg11 v1462 v1464 X2 X11 k)]

theorem st_apply (init : FVec Ideal S16x256 .f32 × FVec Ideal S16x256 .f32) (q : Fin 16) (p : Fin 256) (n : ℕ) (hn : n ≤ 23) :
    (st_k0_t2 (F := Ideal) 𝒱 c bd i arg1 harg1 arg2 harg2 arg3 harg3 arg4 harg4 arg5 harg5 arg6 harg6 arg7 harg7 arg8 harg8 arg9 harg9 arg10 harg10 arg11 harg11 lo hi v1462 v1464 X2 X10 X11 init n).1 (ix2 q p)
      = (init.1 (ix2 q p) + (∑ κ ∈ Finset.range (n * 256), term (arg10.view.read (Elt Ideal) X10) (arg2.view.read (Elt Ideal) X2) (arg11.view.read (Elt Ideal) X11) LV 0 0 q p κ
        + ∑ κ ∈ Finset.range (n * 256), term (arg10.view.read (Elt Ideal) X10) (arg2.view.read (Elt Ideal) X2) (arg11.view.read (Elt Ideal) X11) LV 1 0 q p κ) : EReal)
    ∧ (st_k0_t2 (F := Ideal) 𝒱 c bd i arg1 harg1 arg2 harg2 arg3 harg3 arg4 harg4 arg5 harg5 arg6 harg6 arg7 harg7 arg8 harg8 arg9 harg9 arg10 harg10 arg11 harg11 lo hi v1462 v1464 X2 X10 X11 init n).2 (ix2 q p)
      = (init.2 (ix2 q p) + (∑ κ ∈ Finset.range (n * 256), term (arg10.view.read (Elt Ideal) X10) (arg2.view.read (Elt Ideal) X2) (arg11.view.read (Elt Ideal) X11) LV 0 1 q p κ
        + ∑ κ ∈ Finset.range (n * 256), term (arg10.view.read (Elt Ideal) X10) (arg2.view.read (Elt Ideal) X2) (arg11.view.read (Elt Ideal) X11) LV 1 1 q p κ) : EReal) := by
  induction n with
  | zero => constructor <;> (rw [st_k0_t2_zero]; simp)
  | succ n ih =>
    have ih := ih (by omega)
    have e : ∀ f : ℕ → EReal, ∑ κ : Fin 256, f (256 * n + κ.val) = ∑ κ ∈ Finset.range 256, f (n * 256 + κ) := by
      intro f
      rw [← Fin.sum_univ_eq_sum_range (fun κ => f (n * 256 + κ)), Nat.mul_comm]
    have s : ∀ f : ℕ → EReal, ∑ κ ∈ Finset.range ((n + 1) * 256), f κ = ∑ κ ∈ Finset.range (n * 256), f κ + ∑ κ ∈ Finset.range 256, f (n * 256 + κ) := by
      intro f
      rw [show (n + 1) * 256 = n * 256 + 256 by omega, Finset.sum_range_add]
    have t := tripR_apply 𝒱 c bd i arg1 harg1 arg2 harg2 arg3 harg3 arg4 harg4 arg5 harg5 arg6 harg6 arg7 harg7 arg8 harg8 arg9 harg9 arg10 harg10 arg11 harg11 lo hi v1462 v1464 X2 X10 X11 hT ⟨n, by show n < 23; omega⟩
      (st_k0_t2 (F := Ideal) 𝒱 c bd i arg1 harg1 arg2 harg2 arg3 harg3 arg4 harg4 arg5 harg5 arg6 harg6 arg7 harg7 arg8 harg8 arg9 harg9 arg10 harg10 arg11 harg11 lo hi v1462 v1464 X2 X10 X11 init n) q p
    have u := st_k0_t2_succ (F := Ideal) 𝒱 c bd i arg1 harg1 arg2 harg2 arg3 harg3 arg4 harg4 arg5 harg5 arg6 harg6 arg7 harg7 arg8 harg8 arg9 harg9 arg10 harg10 arg11 harg11 lo hi v1462 v1464 X2 X10 X11 init ⟨n, by show n < 23; omega⟩
    constructor
    · refine (congrArg (fun z => z.1 (ix2 q p)) u).trans (t.1.trans ?_)
      rw [ih.1, e, e, s, s]
      ac_rfl
    · refine (congrArg (fun z => z.2 (ix2 q p)) u).trans (t.2.trans ?_)
      rw [ih.2, e, e, s, s]
      ac_rfl

end

end Cert.Unit

end
-- ==== Proof.Tail.lean ====
/- The last 128 byte columns of a point, which no trip of the main loop reads, and the accumulators after them. -/
module

public import proofs.«01_k».proof.Proof.Sweep
public import proofs.«01_k».proof.Proof.RunB

@[expose] public section

set_option maxRecDepth 65536

noncomputable section

namespace Cert.Unit

open Idealize.ShloMosaic Cert.KernelIdeal Cert.KernelIdeal.Gen

section
variable {F : FTy → Type} [FloatOps F]
  (arg2 : Memref sig .tc .vmem S512x6016 .i8) (arg10 : Memref sig .tc .vmem S2x8x2x6016 .bf16) (arg11 : Memref sig .tc .vmem S2x192x2x256 .bf16)
  (v1462 v1464 : Vec F S1x32x128 .i8) (X2 : BufTy.Contents (Elt F) arg2.view.ty) (X10 : BufTy.Contents (Elt F) arg10.view.ty)
  (X11 : BufTy.Contents (Elt F) arg11.view.ty)

/-- The packed bytes of the tail. -/
def tailBytes : Vec F S512x128 .i8 :=
  View.readAt (Elt F) arg2.view (Rect.unit (s := S512x6016) ![0, 5888] S512x128.size inb_S512x6016_S512x128_0_5888).toLoadRect X2

theorem tailInb : ∀ (r c : Fin 2) (v : Fin 8) (a : Fin 4), (![r.val, 184 + v.val / 2, 0, 128 * c.val] : Fin 4 → ℕ) a + S1x1x2x128.size a ≤ S2x192x2x256.size a := by decide

/-- The scales of the sixteen rows numbered `v`: of row parity `r`, half `c` of the pairs. -/
def tailScale (r c : Fin 2) (v : Fin 8) : Vec F S1x1x2x128 .bf16 :=
  View.readAt (Elt F) arg11.view (Rect.unit (s := S2x192x2x256) ![r.val, 184 + v.val / 2, 0, 128 * c.val] S1x1x2x128.size (tailInb r c v)).toLoadRect X11

/-- Sixteen rows of a tile of the tail. -/
def tailRow (nib : ℕ) (r : Fin 2) (v : Fin 8) : FVec F S16x256 .bf16 :=
  rowTile r (k0_pay801 v1462) (k0_pay802 v1464) k0_pay803 (turned (tailBytes arg2 X2)) v nib (tailScale arg11 X11 r 0 v) (tailScale arg11 X11 r 1 v)

/-- A weight tile of the tail. -/
def tailTile (nib : ℕ) (r : Fin 2) : FVec F S128x256 .bf16 :=
  concatenate S128x256 0 (List.ofFn fun v : Fin 8 => (⟨S16x256, tailRow arg2 arg11 v1462 v1464 X2 X11 nib r v⟩ : (s : Shape) × (s.Idx → F .bf16)))
    concatenates_S16x256_S16x256_S16x256_S16x256_S16x256_S16x256_S16x256_S16x256_S128x256_d0

theorem tailXInb : ∀ (nib : Fin 2) (a : Fin 4), (![nib.val, 0, 0, 5888] : Fin 4 → ℕ) a + S1x8x2x128.size a ≤ S2x8x2x6016.size a := by decide

/-- The activations of the tail, two tokens to a word. -/
def tailRaw (nib : Fin 2) : Vec F S1x8x2x128 .bf16 :=
  View.readAt (Elt F) arg10.view (Rect.unit (s := S2x8x2x6016) ![nib.val, 0, 0, 5888] S1x8x2x128.size (tailXInb nib)).toLoadRect X10

/-- The activations of the tail, sixteen tokens. -/
def xRows128 (raw : Vec F S1x8x2x128 .bf16) : FVec F S16x128 .bf16 := k0_pay1078 (k0_pay1076 raw) (k0_pay1077 raw)

/-- An accumulator after the tail. -/
def tailAcc (r : Fin 2) (acc : FVec F S16x256 .f32) : FVec F S16x256 .f32 :=
  addf (addf acc (matmul dot_S16x128_S128x256_S16x256_1_0_0_1_n_n none (xRows128 (tailRaw arg10 X10 0)) (tailTile arg2 arg11 v1462 v1464 X2 X11 0 r)
      (constant S16x256 .f32 0#32)))
    (matmul dot_S16x128_S128x256_S16x256_1_0_0_1_n_n none (xRows128 (tailRaw arg10 X10 1)) (tailTile arg2 arg11 v1462 v1464 X2 X11 1 r)
      (constant S16x256 .f32 0#32))

theorem xRows128_apply (raw : Vec F S1x8x2x128 .bf16) (i : Fin 16) (κ : Fin 128) :
    xRows128 raw (ix2 i κ) = raw (ix4 0 (⟨i.val / 2, by omega⟩ : Fin 8) (⟨i.val % 2, by omega⟩ : Fin 2) κ) := by
  have hi := i.isLt
  have key : ∀ (p : Fin 2) (j : Fin 8), shapeCast S8x128 (shapeCast S1x8x128
      (rowsOfParity p S1x8x1x128 raw bitcasts_S1x8x2x128_w16_S1x8x1x128_w32) shapeCasts_S1x8x1x128_S1x8x128) shapeCasts_S1x8x128_S8x128 (ix2 j κ)
      = raw (ix4 0 j p κ) := by
    intro p j
    rw [shapeCast_apply (s := S1x8x128) (t := S8x128) _ _ _ (ix3 (0 : Fin 1) j κ) (by
      rw [Shape.rowMajor_val_three, Shape.rowMajor_val_two]; show (0 * 8 + j.val) * 128 + κ.val = j.val * 128 + κ.val; omega),
      shapeCast_apply (s := S1x8x1x128) (t := S1x8x128) _ _ _ (ix4 (0 : Fin 1) j (0 : Fin 1) κ) (by
      rw [Shape.rowMajor_val_four, Shape.rowMajor_val_three]
      show ((0 * 8 + j.val) * 1 + 0) * 128 + κ.val = (0 * 8 + j.val) * 128 + κ.val; omega)]
    show raw _ = raw _
    congr 1
    funext a
    match a with
    | ⟨0, _⟩ => rfl
    | ⟨1, _⟩ => rfl
    | ⟨2, _⟩ => apply Fin.ext; show 2 * 0 + p.val = p.val; omega
    | ⟨3, _⟩ => rfl
  unfold xRows128 k0_pay1078 k0_pay1076 k0_pay1077 interleaveRows
  have hrow : S16x128.row (ix2 i κ) = i.val := rfl
  simp only [hrow]
  have e : ∀ b : S8x128.Idx, (∀ c : Fin 2, b c = ix2 (⟨i.val / 2, by omega⟩ : Fin 8) κ c) → b = ix2 (⟨i.val / 2, by omega⟩ : Fin 8) κ :=
    fun b h => funext h
  split
  · rename_i h
    refine (congrArg _ (e _ (fun c => by match c with
      | ⟨0, _⟩ => rfl
      | ⟨1, _⟩ => rfl))).trans ((key 0 _).trans ?_)
    congr 2
    exact Fin.ext h.symm
  · rename_i h
    refine (congrArg _ (e _ (fun c => by match c with
      | ⟨0, _⟩ => rfl
      | ⟨1, _⟩ => rfl))).trans ((key 1 _).trans ?_)
    congr 2
    apply Fin.ext
    show 1 = i.val % 2
    omega

theorem tailX_apply (nib : Fin 2) (i : Fin 16) (κ : Fin 128) : xRows128 (tailRaw arg10 X10 nib) (ix2 i κ)
    = arg10.view.read (Elt F) X10 (ix4 nib (⟨i.val / 2, by omega⟩ : Fin 8) (⟨i.val % 2, by omega⟩ : Fin 2) (⟨5888 + κ.val, by omega⟩ : Fin 6016)) := by
  refine (xRows128_apply _ i κ).trans ?_
  unfold tailRaw
  rw [View.readAt_eq_ld]
  refine View.ld_unit_apply_of _ _ _ _ _ _ ?_
  intro a
  match a with
  | ⟨0, _⟩ => rfl
  | ⟨1, _⟩ => show i.val / 2 = 0 + i.val / 2; omega
  | ⟨2, _⟩ => show i.val % 2 = 0 + i.val % 2; omega
  | ⟨3, _⟩ => rfl

theorem tailBytes_apply (q : Fin 512) (κ : Fin 128) :
    tailBytes arg2 X2 (ix2 q κ) = arg2.view.read (Elt F) X2 (ix2 q (⟨5888 + κ.val, by omega⟩ : Fin 6016)) := by
  unfold tailBytes
  rw [View.readAt_eq_ld]
  refine View.ld_unit_apply_of _ _ _ _ _ _ ?_
  intro a
  match a with
  | ⟨0, _⟩ => show q.val = 0 + q.val; omega
  | ⟨1, _⟩ => rfl

theorem tailScale_apply (r c : Fin 2) (v : Fin 8) (e : Fin 2) (l : Fin 128) :
    tailScale arg11 X11 r c v (ix4 0 0 e l) = arg11.view.read (Elt F) X11
      (ix4 r (⟨184 + v.val / 2, by omega⟩ : Fin 192) e (⟨128 * c.val + l.val, by omega⟩ : Fin 256)) := by
  unfold tailScale
  rw [View.readAt_eq_ld]
  refine View.ld_unit_apply_of _ _ _ _ _ _ ?_
  intro a
  match a with
  | ⟨0, _⟩ => rfl
  | ⟨1, _⟩ => rfl
  | ⟨2, _⟩ => show e.val = 0 + e.val; omega
  | ⟨3, _⟩ => rfl

theorem tailTile_apply {LV : BitVec 4 → BitVec 16} (hT : Tables (k0_pay801 v1462) (k0_pay802 v1464) LV) (nib : ℕ) (hn : nib < 2) (r : Fin 2)
    (κ : Fin 128) (p : Fin 256) :
    tailTile arg2 arg11 v1462 v1464 X2 X11 nib r (ix2 κ p)
      = FloatOps.mulf (FloatOps.ofBits .bf16 (LV (byteNib (arg2.view.read (Elt F) X2 (ix2 (⟨2 * p.val + r.val, by omega⟩ : Fin 512)
            (⟨5888 + κ.val, by omega⟩ : Fin 6016))) nib)))
          (arg11.view.read (Elt F) X11 (ix4 r (⟨(5888 + κ.val) / 32, by omega⟩ : Fin 192)
            (⟨κ.val % 2, by omega⟩ : Fin 2) p)) := by
  have hκ := κ.isLt
  unfold tailTile
  refine (concatenate_ofFn_apply (s₁ := S16x256) (t := S128x256) 0 _ _ rfl 16 rfl (ix2 κ p) (⟨κ.val / 16, by omega⟩ : Fin 8) rfl
    (ix2 (⟨κ.val % 16, by omega⟩ : Fin 16) p) (by rfl) (by
      intro b hb
      match b with
      | ⟨0, _⟩ => exact absurd rfl hb
      | ⟨1, _⟩ => rfl)).trans ?_
  unfold tailRow
  have hs : ∀ (c : Fin 2) (l : Fin 128), p.val = 128 * c.val + l.val →
      tailScale arg11 X11 r c (⟨κ.val / 16, by omega⟩ : Fin 8) (ix4 0 0 (⟨κ.val % 16 % 2, by omega⟩ : Fin 2) l)
      = arg11.view.read (Elt F) X11 (ix4 r (⟨(5888 + κ.val) / 32, by omega⟩ : Fin 192)
            (⟨κ.val % 2, by omega⟩ : Fin 2) p) := by
    intro c l hl
    rw [tailScale_apply]
    congr 1
    have e1 : 184 + κ.val / 16 / 2 = (5888 + κ.val) / 32 := by omega
    have e2 : κ.val % 16 % 2 = κ.val % 2 := by omega
    funext a
    apply Fin.ext
    match a with
    | ⟨0, _⟩ => rfl
    | ⟨1, _⟩ => exact e1
    | ⟨2, _⟩ => exact e2
    | ⟨3, _⟩ => exact hl.symm
  rw [rowTile_apply hT odd_mask r _ _ nib hn _ _ (⟨κ.val % 16, by omega⟩ : Fin 16) p _
    (fun l hl => hs 0 l (by show p.val = 128 * 0 + l.val; omega)) (fun l hl => hs 1 l (by show p.val = 128 * 1 + l.val; omega)),
    turned_apply _ _ _ _ _ hn, tailBytes_apply]
  congr 6
  apply Fin.ext
  show 5888 + (16 * (κ.val / 16) + κ.val % 16) = 5888 + κ.val
  omega

end

theorem matmul128_apply (x : FVec Ideal S16x128 .bf16) (w : FVec Ideal S128x256 .bf16) (i : Fin 16) (p : Fin 256) :
    matmul dot_S16x128_S128x256_S16x256_1_0_0_1_n_n none x w (constant S16x256 .f32 0x00000000#32) (ix2 i p)
      = ∑ κ : Fin 128, (x (ix2 i κ) : EReal) * (w (ix2 κ p) : EReal) := by
  refine (Ideal.matmul_constant_zero_apply dot_S16x128_S128x256_S16x256_1_0_0_1_n_n none x w (ix2 i p)).trans ?_
  rw [DotDims.sum_contr₁ (d := dot_S16x128_S128x256_S16x256_1_0_0_1_n_n) (a := 1) rfl (K := 128) rfl]
  refine Finset.sum_congr rfl fun κ _ => ?_
  congr 2
  · funext a
    match a with
    | ⟨0, _⟩ => rfl
    | ⟨1, _⟩ => rfl
  · funext a
    match a with
    | ⟨0, _⟩ => rfl
    | ⟨1, _⟩ => rfl

section
variable (arg2 : Memref sig .tc .vmem S512x6016 .i8) (arg10 : Memref sig .tc .vmem S2x8x2x6016 .bf16) (arg11 : Memref sig .tc .vmem S2x192x2x256 .bf16)
  (v1462 v1464 : Vec Ideal S1x32x128 .i8) (X2 : BufTy.Contents (Elt Ideal) arg2.view.ty) (X10 : BufTy.Contents (Elt Ideal) arg10.view.ty)
  (X11 : BufTy.Contents (Elt Ideal) arg11.view.ty)

/-- The tail adds the products of its 128 byte columns, of both nibbles. -/
theorem tailAcc_apply {LV : BitVec 4 → BitVec 16} (hT : Tables (k0_pay801 v1462) (k0_pay802 v1464) LV) (r : Fin 2) (acc : FVec Ideal S16x256 .f32) (q : Fin 16) (p : Fin 256) :
    tailAcc arg2 arg10 arg11 v1462 v1464 X2 X10 X11 r acc (ix2 q p)
      = (acc (ix2 q p) + ∑ κ : Fin 128, term (arg10.view.read (Elt Ideal) X10) (arg2.view.read (Elt Ideal) X2) (arg11.view.read (Elt Ideal) X11) LV 0 r q p (5888 + κ.val)
        + ∑ κ : Fin 128, term (arg10.view.read (Elt Ideal) X10) (arg2.view.read (Elt Ideal) X2) (arg11.view.read (Elt Ideal) X11) LV 1 r q p (5888 + κ.val) : EReal) := by
  have prod : ∀ (nib : Fin 2),
      matmul dot_S16x128_S128x256_S16x256_1_0_0_1_n_n none (xRows128 (tailRaw arg10 X10 nib)) (tailTile arg2 arg11 v1462 v1464 X2 X11 nib.val r) (constant S16x256 .f32 0x00000000#32) (ix2 q p)
        = ∑ κ : Fin 128, term (arg10.view.read (Elt Ideal) X10) (arg2.view.read (Elt Ideal) X2) (arg11.view.read (Elt Ideal) X11) LV nib r q p (5888 + κ.val) := by
    intro nib
    rw [matmul128_apply]
    refine Finset.sum_congr rfl fun κ _ => ?_
    have hκ := κ.isLt
    have e : (5888 + κ.val) % 2 = κ.val % 2 := by omega
    rw [tailX_apply, tailTile_apply arg2 arg11 v1462 v1464 X2 X11 hT nib.val nib.isLt r κ p]
    unfold term
    rw [dif_pos (by omega)]
    simp only [e]
    rfl
  unfold tailAcc
  show (_ + matmul dot_S16x128_S128x256_S16x256_1_0_0_1_n_n none _ (tailTile arg2 arg11 v1462 v1464 X2 X11 (0 : Fin 2).val r) (constant S16x256 .f32 0x00000000#32) (ix2 q p))
    + matmul dot_S16x128_S128x256_S16x256_1_0_0_1_n_n none _ (tailTile arg2 arg11 v1462 v1464 X2 X11 (1 : Fin 2).val r) (constant S16x256 .f32 0x00000000#32) (ix2 q p) = _
  rw [prod 0, prod 1]

end

section
variable (c : Dev nD) (i : grid0.Coords) (arg1 : Memref sig .tc .vmem S16x12032 .bf16) (harg1 : arg1.IsWhole) (arg2 : Memref sig .tc .vmem S512x6016 .i8) (harg2 : arg2.IsWhole) (arg3 : Memref sig .tc .vmem S512x256 .i8) (harg3 : arg3.IsWhole) (arg4 : Memref sig .tc .vmem S8x1x128 .f32) (harg4 : arg4.IsWhole) (arg5 : Memref sig .tc .smem S1 .f32) (harg5 : arg5.IsWhole) (arg6 : Memref sig .tc .vmem S2x32x128 .i8) (harg6 : arg6.IsWhole) (arg7 : Memref sig .tc .vmem S8x128 .i32) (harg7 : arg7.IsWhole) (arg8 : Memref sig .tc .vmem S2x256 .i32) (harg8 : arg8.IsWhole) (arg9 : Memref sig .tc .vmem S16x512 .bf16) (harg9 : arg9.IsWhole) (arg10 : Memref sig .tc .vmem S2x8x2x6016 .bf16) (harg10 : arg10.IsWhole) (arg11 : Memref sig .tc .vmem S2x192x2x256 .bf16) (harg11 : arg11.IsWhole)

section
variable {F : FTy → Type} [FloatOps F] (lo hi : FVec F S1x8x128 .bf16) (x5 : Vec F S2x32x128 .i8)
  (X2 : BufTy.Contents (Elt F) arg2.view.ty) (X10 : BufTy.Contents (Elt F) arg10.view.ty) (X11 : BufTy.Contents (Elt F) arg11.view.ty)

/-- The low bytes of the levels, as a point loads them. -/
def table0 : Vec F S1x32x128 .i8 := View.readAt (Elt F) arg6.view (Rect.unit (s := S2x32x128) ![0, 0, 0] S1x32x128.size inb_S2x32x128_S1x32x128_0_0_0).toLoadRect (harg6.unread x5)

/-- The high bytes of the levels. -/
def table1 : Vec F S1x32x128 .i8 := View.readAt (Elt F) arg6.view (Rect.unit (s := S2x32x128) ![1, 0, 0] S1x32x128.size inb_S2x32x128_S1x32x128_1_0_0).toLoadRect (harg6.unread x5)

/-- The two accumulators after the main loop. -/
def sweep : FVec F S16x256 .f32 × FVec F S16x256 .f32 :=
  st_k0_t2 Variants.none c none i arg1 harg1 arg2 harg2 arg3 harg3 arg4 harg4 arg5 harg5 arg6 harg6 arg7 harg7 arg8 harg8 arg9 harg9 arg10 harg10 arg11 harg11
    lo hi (table0 arg6 harg6 x5) (table1 arg6 harg6 x5) X2 X10 X11 (k0_pay804, k0_pay805) (Scf.trips k0_t2_loop.lb k0_t2_loop.ub k0_t2_loop.st)

/-- The two accumulators of a point. -/
def accs (r : Fin 2) : FVec F S16x256 .f32 :=
  tailAcc arg2 arg10 arg11 (table0 arg6 harg6 x5) (table1 arg6 harg6 x5) X2 X10 X11 r (match r with
    | 0 => (sweep c i arg1 harg1 arg2 harg2 arg3 harg3 arg4 harg4 arg5 harg5 arg6 harg6 arg7 harg7 arg8 harg8 arg9 harg9 arg10 harg10 arg11 harg11 lo hi x5 X2 X10 X11).1
    | 1 => (sweep c i arg1 harg1 arg2 harg2 arg3 harg3 arg4 harg4 arg5 harg5 arg6 harg6 arg7 harg7 arg8 harg8 arg9 harg9 arg10 harg10 arg11 harg11 lo hi x5 X2 X10 X11).2)
end

/-- An accumulator is the sum over all byte columns, the low nibbles and the high ones. -/
theorem accs_apply (lo hi : FVec Ideal S1x8x128 .bf16) (x5 : Vec Ideal S2x32x128 .i8)
    (X2 : BufTy.Contents (Elt Ideal) arg2.view.ty) (X10 : BufTy.Contents (Elt Ideal) arg10.view.ty) (X11 : BufTy.Contents (Elt Ideal) arg11.view.ty)
    {LV : BitVec 4 → BitVec 16} (hT : Tables (k0_pay801 (table0 arg6 harg6 x5)) (k0_pay802 (table1 arg6 harg6 x5)) LV) (r : Fin 2) (q : Fin 16) (p : Fin 256) :
    accs c i arg1 harg1 arg2 harg2 arg3 harg3 arg4 harg4 arg5 harg5 arg6 harg6 arg7 harg7 arg8 harg8 arg9 harg9 arg10 harg10 arg11 harg11 lo hi x5 X2 X10 X11 r (ix2 q p)
      = (∑ κ : Fin 6016, term (arg10.view.read (Elt Ideal) X10) (arg2.view.read (Elt Ideal) X2) (arg11.view.read (Elt Ideal) X11) LV 0 r q p κ.val
        + ∑ κ : Fin 6016, term (arg10.view.read (Elt Ideal) X10) (arg2.view.read (Elt Ideal) X2) (arg11.view.read (Elt Ideal) X11) LV 1 r q p κ.val : EReal) := by
  unfold accs
  rw [tailAcc_apply arg2 arg10 arg11 _ _ X2 X10 X11 hT r]
  have s : ∀ f : ℕ → EReal, ∑ κ : Fin 6016, f κ.val = ∑ κ ∈ Finset.range (23 * 256), f κ + ∑ κ : Fin 128, f (5888 + κ.val) := by
    intro f
    rw [Fin.sum_univ_eq_sum_range f, show 6016 = 23 * 256 + 128 by rfl, Finset.sum_range_add, Fin.sum_univ_eq_sum_range (fun κ => f (5888 + κ))]
  have a := st_apply Variants.none c none i arg1 harg1 arg2 harg2 arg3 harg3 arg4 harg4 arg5 harg5 arg6 harg6 arg7 harg7 arg8 harg8 arg9 harg9 arg10 harg10 arg11 harg11
    lo hi (table0 arg6 harg6 x5) (table1 arg6 harg6 x5) X2 X10 X11 hT (k0_pay804, k0_pay805) q p 23 (le_refl _)
  have z4 : (k0_pay804 : FVec Ideal S16x256 .f32) (ix2 q p) = (0 : EReal) := by
    show Ideal.ofBits .f32 0x00000000#32 = 0
    exact Ideal.ofBits_zero .f32
  have z5 : (k0_pay805 : FVec Ideal S16x256 .f32) (ix2 q p) = (0 : EReal) := by
    show Ideal.ofBits .f32 0x00000000#32 = 0
    exact Ideal.ofBits_zero .f32
  rw [s, s]
  match r with
  | 0 =>
    refine (congrArg (fun z : EReal => z + _ + _) (a.1.trans (congrArg (fun z : EReal => z + _) z4))).trans ?_
    rw [zero_add]
    ac_rfl
  | 1 =>
    refine (congrArg (fun z : EReal => z + _ + _) (a.2.trans (congrArg (fun z : EReal => z + _) z5))).trans ?_
    rw [zero_add]
    ac_rfl

section
variable {F : FTy → Type} [FloatOps F] (hc0 : cond0_0 i)
  (x0 : Vec F S16x12032 .bf16) (x1 : Vec F S512x6016 .i8) (x2 : Vec F S512x256 .i8) (x3 : Vec F S8x1x128 .f32) (x4 : Vec F S1 .f32)
  (x5 : Vec F S2x32x128 .i8) (x6 : Vec F S8x128 .i32) (x7 : Vec F S2x256 .i32) (xs0 : Vec F S2x8x2x6016 .bf16)

/-- What the first point leaves in the activations' scratch. -/
def xsA : BufTy.Contents (Elt F) arg10.view.ty :=
  arg10.view.writes (Elt F) arg10.view.junk
    (pb_k0_t1 Variants.none c none i arg1 harg1 arg2 harg2 arg3 harg3 arg4 harg4 arg5 harg5 arg6 harg6 arg7 harg7 arg8 harg8 arg9 harg9 arg10 harg10 arg11 harg11 hc0
      kernelRun0_A.sl.v2901 (harg1.unread x0) (Scf.trips k0_t1_loop.lb k0_t1_loop.ub k0_t1_loop.st))

/-- What a point leaves in the scales' scratch. -/
def scA : BufTy.Contents (Elt F) arg11.view.ty :=
  arg11.view.writes (Elt F) arg11.view.junk (kernelRun0_A.sl.HS1_96 c arg3 harg3 arg4 harg4 arg5 harg5 arg7 harg7 arg8 harg8 x2 x3 x4 x6 x7)

theorem even_A : kernelRun0_A.sl.r_290 c i arg1 harg1 arg2 harg2 arg3 harg3 arg4 harg4 arg5 harg5 arg6 harg6 arg7 harg7 arg8 harg8 arg9 harg9 arg10 harg10 arg11 harg11 hc0 x0 x1 x2 x3 x4 x5 x6 x7
    = accs c i arg1 harg1 arg2 harg2 arg3 harg3 arg4 harg4 arg5 harg5 arg6 harg6 arg7 harg7 arg8 harg8 arg9 harg9 arg10 harg10 arg11 harg11
      (kernelRun0_A.sl.r_108 c arg3 harg3 arg4 harg4 arg5 harg5 arg7 harg7 arg8 harg8 x2 x3 x4 x6 x7) (kernelRun0_A.sl.r_109 c arg3 harg3 arg4 harg4 arg5 harg5 arg7 harg7 arg8 harg8 x2 x3 x4 x6 x7)
      x5 (harg2.unread x1) (xsA c i arg1 harg1 arg2 harg2 arg3 harg3 arg4 harg4 arg5 harg5 arg6 harg6 arg7 harg7 arg8 harg8 arg9 harg9 arg10 harg10 arg11 harg11 hc0 x0)
      (scA c arg3 harg3 arg4 harg4 arg5 harg5 arg7 harg7 arg8 harg8 arg11 x2 x3 x4 x6 x7) 0 := rfl

theorem odd_A : kernelRun0_A.sl.r_291 c i arg1 harg1 arg2 harg2 arg3 harg3 arg4 harg4 arg5 harg5 arg6 harg6 arg7 harg7 arg8 harg8 arg9 harg9 arg10 harg10 arg11 harg11 hc0 x0 x1 x2 x3 x4 x5 x6 x7
    = accs c i arg1 harg1 arg2 harg2 arg3 harg3 arg4 harg4 arg5 harg5 arg6 harg6 arg7 harg7 arg8 harg8 arg9 harg9 arg10 harg10 arg11 harg11
      (kernelRun0_A.sl.r_108 c arg3 harg3 arg4 harg4 arg5 harg5 arg7 harg7 arg8 harg8 x2 x3 x4 x6 x7) (kernelRun0_A.sl.r_109 c arg3 harg3 arg4 harg4 arg5 harg5 arg7 harg7 arg8 harg8 x2 x3 x4 x6 x7)
      x5 (harg2.unread x1) (xsA c i arg1 harg1 arg2 harg2 arg3 harg3 arg4 harg4 arg5 harg5 arg6 harg6 arg7 harg7 arg8 harg8 arg9 harg9 arg10 harg10 arg11 harg11 hc0 x0)
      (scA c arg3 harg3 arg4 harg4 arg5 harg5 arg7 harg7 arg8 harg8 arg11 x2 x3 x4 x6 x7) 1 := rfl

theorem even_B : kernelRun0_B.sl.r_290 c i arg1 harg1 arg2 harg2 arg3 harg3 arg4 harg4 arg5 harg5 arg6 harg6 arg7 harg7 arg8 harg8 arg9 harg9 arg10 harg10 arg11 harg11 x1 x2 x3 x4 x5 x6 x7 xs0
    = accs c i arg1 harg1 arg2 harg2 arg3 harg3 arg4 harg4 arg5 harg5 arg6 harg6 arg7 harg7 arg8 harg8 arg9 harg9 arg10 harg10 arg11 harg11
      (kernelRun0_B.sl.r_108 c arg3 harg3 arg4 harg4 arg5 harg5 arg7 harg7 arg8 harg8 x2 x3 x4 x6 x7) (kernelRun0_B.sl.r_109 c arg3 harg3 arg4 harg4 arg5 harg5 arg7 harg7 arg8 harg8 x2 x3 x4 x6 x7)
      x5 (harg2.unread x1) (harg10.unread xs0)
      (arg11.view.writes (Elt F) arg11.view.junk (kernelRun0_B.sl.HS1_96 c arg3 harg3 arg4 harg4 arg5 harg5 arg7 harg7 arg8 harg8 x2 x3 x4 x6 x7)) 0 := rfl

theorem odd_B : kernelRun0_B.sl.r_291 c i arg1 harg1 arg2 harg2 arg3 harg3 arg4 harg4 arg5 harg5 arg6 harg6 arg7 harg7 arg8 harg8 arg9 harg9 arg10 harg10 arg11 harg11 x1 x2 x3 x4 x5 x6 x7 xs0
    = accs c i arg1 harg1 arg2 harg2 arg3 harg3 arg4 harg4 arg5 harg5 arg6 harg6 arg7 harg7 arg8 harg8 arg9 harg9 arg10 harg10 arg11 harg11
      (kernelRun0_B.sl.r_108 c arg3 harg3 arg4 harg4 arg5 harg5 arg7 harg7 arg8 harg8 x2 x3 x4 x6 x7) (kernelRun0_B.sl.r_109 c arg3 harg3 arg4 harg4 arg5 harg5 arg7 harg7 arg8 harg8 x2 x3 x4 x6 x7)
      x5 (harg2.unread x1) (harg10.unread xs0)
      (arg11.view.writes (Elt F) arg11.view.junk (kernelRun0_B.sl.HS1_96 c arg3 harg3 arg4 harg4 arg5 harg5 arg7 harg7 arg8 harg8 x2 x3 x4 x6 x7)) 1 := rfl

end

end

end Cert.Unit

end
-- ==== Proof.Xs.lean ====
/- The activations' scratch: the pieces of one trip of the filling loop, and what the scratch holds after it. -/
module

public import proofs.«01_k».proof.Proof.Tile

@[expose] public section

set_option maxRecDepth 65536

noncomputable section

namespace Cert.Unit

open Idealize.ShloMosaic Cert.KernelIdeal Cert.KernelIdeal.Gen

section
variable {F : FTy → Type} [FloatOps F]

/-- Sixteen rows stored as eight pairs. -/
def toPairs (v : FVec F S16x128 .bf16) : Vec F S1x8x2x128 .bf16 :=
  interleaveRows S1x8x2x128
    (shapeCast S1x8x1x128 (shapeCast S1x8x128 (rowsOfParity 0 S8x128 v bitcasts_S16x128_w16_S8x128_w32) shapeCasts_S8x128_S1x8x128) shapeCasts_S1x8x128_S1x8x1x128)
    (shapeCast S1x8x1x128 (shapeCast S1x8x128 (rowsOfParity 1 S8x128 v bitcasts_S16x128_w16_S8x128_w32) shapeCasts_S8x128_S1x8x128) shapeCasts_S1x8x128_S1x8x1x128)
    bitcasts_S1x8x2x128_w16_S1x8x1x128_w32

theorem toPairs_apply (v : FVec F S16x128 .bf16) (j : Fin 8) (e : Fin 2) (l : Fin 128) :
    toPairs v (ix4 0 j e l) = v (ix2 (⟨2 * j.val + e.val, by omega⟩ : Fin 16) l) := by
  have hj := j.isLt
  have key : ∀ (p : Fin 2), shapeCast S1x8x1x128 (shapeCast S1x8x128 (rowsOfParity p S8x128 v bitcasts_S16x128_w16_S8x128_w32) shapeCasts_S8x128_S1x8x128) shapeCasts_S1x8x128_S1x8x1x128
      (ix4 0 j 0 l) = v (ix2 (⟨2 * j.val + p.val, by omega⟩ : Fin 16) l) := by
    intro p
    rw [shapeCast_apply (s := S1x8x128) (t := S1x8x1x128) _ _ _ (ix3 (0 : Fin 1) j l) (by
      rw [Shape.rowMajor_val_three, Shape.rowMajor_val_four]
      show (0 * 8 + j.val) * 128 + l.val = ((0 * 8 + j.val) * 1 + 0) * 128 + l.val; omega),
      shapeCast_apply (s := S8x128) (t := S1x8x128) _ _ _ (ix2 j l) (by
      rw [Shape.rowMajor_val_two, Shape.rowMajor_val_three]
      show j.val * 128 + l.val = (0 * 8 + j.val) * 128 + l.val; omega)]
    show v _ = v _
    congr 1
    funext a
    match a with
    | ⟨0, _⟩ => rfl
    | ⟨1, _⟩ => rfl
  unfold toPairs interleaveRows
  have hrow : S1x8x2x128.row (ix4 0 j e l) = e.val := rfl
  simp only [hrow]
  have ed : ∀ b : S1x8x1x128.Idx, (∀ c : Fin 4, b c = ix4 0 j 0 l c) → b = ix4 0 j 0 l := fun b h => funext h
  have he := e.isLt
  split
  · rename_i h
    refine (congrArg _ (ed _ (fun c => by match c with
      | ⟨0, _⟩ => rfl
      | ⟨1, _⟩ => rfl
      | ⟨2, _⟩ => apply Fin.ext; show e.val / 2 = 0; omega
      | ⟨3, _⟩ => rfl))).trans ((key 0).trans ?_)
    congr 2
    apply Fin.ext
    show 2 * j.val + 0 = 2 * j.val + e.val
    omega
  · rename_i h
    refine (congrArg _ (ed _ (fun c => by match c with
      | ⟨0, _⟩ => rfl
      | ⟨1, _⟩ => rfl
      | ⟨2, _⟩ => apply Fin.ext; show e.val / 2 = 0; omega
      | ⟨3, _⟩ => rfl))).trans ((key 1).trans ?_)
    congr 2
    apply Fin.ext
    show 2 * j.val + 1 = 2 * j.val + e.val
    omega

/-- The lane number. -/
def lane : IVec S16x128 32 := iota .tc S16x128 32 [1] iota_S16x128_d1_w32

/-- Two tiles' lanes gathered into one. -/
def mixLanes (a b : FVec F S16x128 .f32) (pos : IVec S16x128 32) : FVec F S16x128 .bf16 :=
  truncf .bf16 (select (cmpi .slt lane (broadcast S16x128 64#32)) (dynamicGather 1 a pos) (dynamicGather 1 b pos)) bitsLt_bf16_f32

def pos0 : IVec S16x128 32 := select (k0_pay5 lane) (addi (k0_pay4 lane) (broadcast S16x128 128#32)) (k0_pay4 lane)

def rem1 : IVec S16x128 32 :=
  select (andi (xori (k0_pay9 lane) (broadcastTo S16x128 (broadcast S16x128 (Scalar.cmpi .slt 128#32 0#32)) broadcasts_S16x128_S16x128)) (k0_pay8 lane))
    (addi (k0_pay7 lane) (broadcast S16x128 128#32)) (k0_pay7 lane)

def pos1 : IVec S16x128 32 := select (cmpi .slt rem1 (broadcast S16x128 0#32)) (addi rem1 (broadcast S16x128 128#32)) rem1

theorem castCast (x : IVec S16x128 32) : shapeCast S16x128 (shapeCast S16x128x1 x shapeCasts_S16x128_S16x128x1) shapeCasts_S16x128x1_S16x128 = x := by
  funext j
  rw [shapeCast_shapeCast]

theorem pay6_eq (a b : FVec F S16x128 .f32) : k0_pay6 lane a b (k0_pay4 lane) (k0_pay5 lane) 128#32 = toPairs (mixLanes a b pos0) := by
  have h : k0_pay6 lane a b (k0_pay4 lane) (k0_pay5 lane) 128#32
    = toPairs (mixLanes a b (shapeCast S16x128 (shapeCast S16x128x1 pos0 shapeCasts_S16x128_S16x128x1) shapeCasts_S16x128x1_S16x128)) := rfl
  rw [h, castCast]

theorem pay523_eq (a b : FVec F S16x128 .f32) : k0_pay523 a b 128#32 (k0_pay7 lane) (k0_pay8 lane) (k0_pay9 lane) = toPairs (mixLanes a b pos1) := by
  have h : k0_pay523 a b 128#32 (k0_pay7 lane) (k0_pay8 lane) (k0_pay9 lane)
    = toPairs (mixLanes a b (shapeCast S16x128 (shapeCast S16x128x1 pos1 shapeCasts_S16x128_S16x128x1) shapeCasts_S16x128x1_S16x128)) := rfl
  rw [h, castCast]

theorem pos0_eq (i : Fin 16) (l : Fin 128) : (pos0 (ix2 i l)).toNat % 128 = (2 * l.val + 1) % 128 := by
  have h : ∀ l : Fin 128, (pos0 (ix2 (0 : Fin 16) l)).toNat % 128 = (2 * l.val + 1) % 128 := by decide +kernel
  exact h l

theorem pos1_eq (i : Fin 16) (l : Fin 128) : (pos1 (ix2 i l)).toNat % 128 = (2 * l.val) % 128 := by
  have h : ∀ l : Fin 128, (pos1 (ix2 (0 : Fin 16) l)).toNat % 128 = (2 * l.val) % 128 := by decide +kernel
  exact h l

theorem lane_lt (i : Fin 16) (l : Fin 128) : cmpi .slt lane (broadcast S16x128 64#32) (ix2 i l) = if l.val < 64 then 1#1 else 0#1 := by
  have h : ∀ l : Fin 128, cmpi .slt lane (broadcast S16x128 64#32) (ix2 (0 : Fin 16) l) = if l.val < 64 then 1#1 else 0#1 := by decide +kernel
  exact h l

theorem off1_eq : ∀ (k : Fin k0_t1_loop.trips) (h : Fin 2), k0_off1 k (BitVec.ofNat 32 h.val) = ![0, 256 * k.val + 128 * h.val] := by
  decide +kernel
theorem off2_eq : ∀ k : Fin k0_t1_loop.trips, k0_off2 k = ![0, 0, 0, 128 * k.val] := by decide +kernel
theorem off3_eq : ∀ k : Fin k0_t1_loop.trips, k0_off3 k = ![1, 0, 0, 128 * k.val] := by decide +kernel

end

section
variable (𝒱 : Variants) (c : Dev nD) (bd : Option 𝒱.V) (i : grid0.Coords) (arg1 : Memref sig .tc .vmem S16x12032 .bf16) (harg1 : arg1.IsWhole) (arg2 : Memref sig .tc .vmem S512x6016 .i8) (harg2 : arg2.IsWhole) (arg3 : Memref sig .tc .vmem S512x256 .i8) (harg3 : arg3.IsWhole) (arg4 : Memref sig .tc .vmem S8x1x128 .f32) (harg4 : arg4.IsWhole) (arg5 : Memref sig .tc .smem S1 .f32) (harg5 : arg5.IsWhole) (arg6 : Memref sig .tc .vmem S2x32x128 .i8) (harg6 : arg6.IsWhole) (arg7 : Memref sig .tc .vmem S8x128 .i32) (harg7 : arg7.IsWhole) (arg8 : Memref sig .tc .vmem S2x256 .i32) (harg8 : arg8.IsWhole) (arg9 : Memref sig .tc .vmem S16x512 .bf16) (harg9 : arg9.IsWhole) (arg10 : Memref sig .tc .vmem S2x8x2x6016 .bf16) (harg10 : arg10.IsWhole) (arg11 : Memref sig .tc .vmem S2x192x2x256 .bf16) (harg11 : arg11.IsWhole)
  (k0_h1 : k0_cond1 i = 1#1) (X1 : BufTy.Contents (Elt Ideal) arg1.view.ty)

/-- The activations the scratch holds: of nibble `nib`, token `2 j + e`, byte column `l`. -/
def xsOf (x : S16x12032.Idx → EReal) (y : S2x8x2x6016.Idx) : EReal :=
  x (ix2 (⟨2 * (y 1).val + (y 2).val, by have h1 : (y 1).val < 8 := (y 1).isLt; have h2 : (y 2).val < 2 := (y 2).isLt; omega⟩ : Fin 16)
    (⟨2 * (y 3).val + 1 - (y 0).val, by have h3 : (y 3).val < 6016 := (y 3).isLt; omega⟩ : Fin 12032))

theorem load_apply (k : Fin k0_t1_loop.trips) (h : Fin 2) (q : Fin 16) (l : Fin 128) :
    View.readAt (Elt Ideal) arg1.view (Rect.unit (s := S16x12032) (k0_off1 k (BitVec.ofNat 32 h.val)) S16x128.size (k0_off1_inb i k k0_h1 h)).toLoadRect X1 (ix2 q l)
      = arg1.view.read (Elt Ideal) X1 (ix2 q (⟨256 * k.val + 128 * h.val + l.val, by have : k.val < 47 := k.isLt; omega⟩ : Fin 12032)) := by
  rw [View.readAt_eq_ld]
  refine ld_off _ (off1_eq k h) _ _ _ _ ?_
  intro a
  match a with
  | ⟨0, _⟩ => show q.val = 0 + q.val; omega
  | ⟨1, _⟩ => rfl

/-- A mixed tile of trip `k` holds the activations at every other column. -/
theorem mix_apply (k : Fin k0_t1_loop.trips) (nib : Fin 2) (pos : IVec S16x128 32)
    (hpos : ∀ (q : Fin 16) (l : Fin 128), (pos (ix2 q l)).toNat % 128 = (2 * l.val + 1 - nib.val) % 128)
    (a b : FVec Ideal S16x128 .f32)
    (ha : ∀ (q : Fin 16) (l : Fin 128), a (ix2 q l) = arg1.view.read (Elt Ideal) X1 (ix2 q (⟨256 * k.val + l.val, by have : k.val < 47 := k.isLt; omega⟩ : Fin 12032)))
    (hb : ∀ (q : Fin 16) (l : Fin 128), b (ix2 q l) = arg1.view.read (Elt Ideal) X1 (ix2 q (⟨256 * k.val + 128 + l.val, by have : k.val < 47 := k.isLt; omega⟩ : Fin 12032)))
    (q : Fin 16) (l : Fin 128) :
    mixLanes a b pos (ix2 q l) = arg1.view.read (Elt Ideal) X1 (ix2 q (⟨2 * (128 * k.val + l.val) + 1 - nib.val, by have : k.val < 47 := k.isLt; omega⟩ : Fin 12032)) := by
  have hk : k.val < 47 := k.isLt
  have hl := l.isLt
  have hn := nib.isLt
  have hg : ∀ z : FVec Ideal S16x128 .f32, dynamicGather 1 z pos (ix2 q l) = z (ix2 q (⟨(2 * l.val + 1 - nib.val) % 128, Nat.mod_lt _ (by omega)⟩ : Fin 128)) := by
    intro z
    show z _ = z _
    congr 1
    funext b
    match b with
    | ⟨0, _⟩ => rfl
    | ⟨1, _⟩ => exact Fin.ext (hpos q l)
  show (if cmpi .slt lane (broadcast S16x128 64#32) (ix2 q l) = 1#1 then dynamicGather 1 a pos (ix2 q l) else dynamicGather 1 b pos (ix2 q l)) = _
  rw [lane_lt, hg, hg, ha, hb]
  by_cases h : l.val < 64
  · rw [if_pos h, if_pos rfl]
    congr 2
    apply Fin.ext
    show 256 * k.val + (2 * l.val + 1 - nib.val) % 128 = 2 * (128 * k.val + l.val) + 1 - nib.val
    omega
  · rw [if_neg h, if_neg (by decide)]
    congr 2
    apply Fin.ext
    show 256 * k.val + 128 + (2 * l.val + 1 - nib.val) % 128 = 2 * (128 * k.val + l.val) + 1 - nib.val
    omega

theorem tripL_pieces (k : Fin k0_t1_loop.trips) :
    ∀ p ∈ tripL_k0_t1 (F := Ideal) 𝒱 c bd i arg1 harg1 arg2 harg2 arg3 harg3 arg4 harg4 arg5 harg5 arg6 harg6 arg7 harg7 arg8 harg8 arg9 harg9 arg10 harg10 arg11 harg11 k0_h1 lane X1 k,
      ∀ x : p.1.shape.Idx, p.2 x = xsOf (arg1.view.read (Elt Ideal) X1) (p.1.emb x) := by
  have hk : k.val < 47 := k.isLt
  unfold tripL_k0_t1 trip_k0_t1
  dsimp only
  have ha : ∀ (q : Fin 16) (l : Fin 128), trip_k0_t1.sl.r i arg1 k0_h1 X1 k (ix2 q l) = arg1.view.read (Elt Ideal) X1 (ix2 q (⟨256 * k.val + l.val, by have : k.val < 47 := k.isLt; omega⟩ : Fin 12032)) := by
    intro q l
    refine Eq.trans ?_ (load_apply i arg1 k0_h1 X1 k 0 q l)
    exact congrFun (shapeCast_self (s := S16x128) (View.readAt (Elt Ideal) arg1.view (Rect.unit (s := S16x12032) (k0_off1 k (BitVec.ofNat 32 (0 : Fin 2).val)) S16x128.size (k0_off1_inb i k k0_h1 0)).toLoadRect X1) shapeCasts_S16x128_S16x128) (ix2 q l)
  have hb : ∀ (q : Fin 16) (l : Fin 128), trip_k0_t1.sl.r_1 i arg1 k0_h1 X1 k (ix2 q l) = arg1.view.read (Elt Ideal) X1 (ix2 q (⟨256 * k.val + 128 + l.val, by have : k.val < 47 := k.isLt; omega⟩ : Fin 12032)) := by
    intro q l
    refine Eq.trans ?_ (load_apply i arg1 k0_h1 X1 k 1 q l)
    exact congrFun (shapeCast_self (s := S16x128) (View.readAt (Elt Ideal) arg1.view (Rect.unit (s := S16x12032) (k0_off1 k (BitVec.ofNat 32 (1 : Fin 2).val)) S16x128.size (k0_off1_inb i k k0_h1 1)).toLoadRect X1) shapeCasts_S16x128_S16x128) (ix2 q l)
  rw [pay6_eq, pay523_eq]
  have fin : ∀ (nib : Fin 2) (off : Fin 4 → ℕ) (hoff : off = ![nib.val, 0, 0, 128 * k.val]) (inb) (v : FVec Ideal S16x128 .bf16)
      (hv : ∀ (q : Fin 16) (l : Fin 128), v (ix2 q l) = arg1.view.read (Elt Ideal) X1 (ix2 q (⟨2 * (128 * k.val + l.val) + 1 - nib.val, by omega⟩ : Fin 12032)))
      (x : (Rect.unit (s := S2x8x2x6016) off S1x8x2x128.size inb).shape.Idx),
      toPairs v x = xsOf (arg1.view.read (Elt Ideal) X1) ((Rect.unit (s := S2x8x2x6016) off S1x8x2x128.size inb).emb x) := by
    intro nib off hoff inb v hv x
    subst hoff
    have hx : x = ix4 (0 : Fin 1) (x 1) (x 2) (x 3) := by
      funext a
      match a with
      | ⟨0, _⟩ => exact Subsingleton.elim (α := Fin 1) _ _
      | ⟨1, _⟩ => rfl
      | ⟨2, _⟩ => rfl
      | ⟨3, _⟩ => rfl
    have hx0 : (x 0).val = 0 := by rw [hx]; rfl
    conv_lhs => rw [hx]
    refine (toPairs_apply v (x 1) (x 2) (x 3)).trans ((hv _ _).trans ?_)
    unfold xsOf
    congr 1
    have e : ∀ a, (((Rect.unit (s := S2x8x2x6016) ![nib.val, 0, 0, 128 * k.val] S1x8x2x128.size inb).emb x) a).val = (![nib.val, 0, 0, 128 * k.val] : Fin 4 → ℕ) a + (x a).val :=
      fun a => Rect.idx_unit_val _ _ _ x a
    have e0 := e 0
    have e1 := e 1
    have e2 := e 2
    have e3 := e 3
    funext a
    match a with
    | ⟨0, _⟩ =>
      apply Fin.ext
      show 2 * (x 1).val + (x 2).val = 2 * _ + _
      rw [e1, e2]
      show 2 * (x 1).val + (x 2).val = 2 * (0 + (x 1).val) + (0 + (x 2).val)
      omega
    | ⟨1, _⟩ =>
      apply Fin.ext
      show 2 * (128 * k.val + (x 3).val) + 1 - nib.val = 2 * _ + 1 - _
      rw [e0, e3, hx0]
      rfl
  intro p hp
  rcases List.mem_cons.1 hp with rfl | hp
  · exact fin 1 _ (off3_eq k) (k0_off3_inb i k k0_h1) _ (mix_apply arg1 X1 k 1 pos1 pos1_eq _ _ ha hb)
  · rcases List.mem_cons.1 hp with rfl | hp
    · exact fin 0 _ (off2_eq k) (k0_off2_inb i k k0_h1) _ (mix_apply arg1 X1 k 0 pos0 pos0_eq _ _ ha hb)
    · simp at hp

/-- Every piece of the filling loop holds the activations. -/
theorem pb_pieces (n : ℕ) :
    ∀ p ∈ pb_k0_t1 (F := Ideal) 𝒱 c bd i arg1 harg1 arg2 harg2 arg3 harg3 arg4 harg4 arg5 harg5 arg6 harg6 arg7 harg7 arg8 harg8 arg9 harg9 arg10 harg10 arg11 harg11 k0_h1 lane X1 n,
      ∀ x : p.1.shape.Idx, p.2 x = xsOf (arg1.view.read (Elt Ideal) X1) (p.1.emb x) := by
  induction n with
  | zero => intro p hp; simp [pb_k0_t1] at hp
  | succ n ih =>
    intro p hp
    rw [pb_k0_t1.eq_2] at hp
    unfold pb_k0_t1Step at hp
    split at hp
    · rcases List.mem_append.1 hp with hp | hp
      · exact tripL_pieces 𝒱 c bd i arg1 harg1 arg2 harg2 arg3 harg3 arg4 harg4 arg5 harg5 arg6 harg6 arg7 harg7 arg8 harg8 arg9 harg9 arg10 harg10 arg11 harg11 k0_h1 X1 _ p hp
      · exact ih p hp
    · exact ih p hp

end

end Cert.Unit

end
-- ==== Proof.Scale.lean ====
/- The scales' scratch: what each of its pieces holds. -/
module

public import proofs.«01_k».proof.Proof.Tile
public import proofs.«01_k».proof.Proof.RunB
public import Idealize.ShloMosaic.Lib.BitcastPair

@[expose] public section

set_option maxRecDepth 65536

noncomputable section

namespace Cert.Unit

open Idealize.ShloMosaic Cert.KernelIdeal Cert.KernelIdeal.Gen

/-- A group index brought into the 128 lanes. -/
def wrap (idx : IVec S8x128 32) : IVec S8x128 32 :=
  select (cmpi .slt idx (broadcast S8x128 0#32)) (addi idx (broadcast S8x128 128#32)) idx

/-- The lane number. -/
def lane8 : IVec S8x128 32 := iota .tc S8x128 32 [1] iota_S8x128_d1_w32

section
variable {F : FTy → Type} [FloatOps F]

/-- One row of group scales read at the group indices. -/
def gat (idx : IVec S8x128 32) (row : Vec F S1x1x128 .f32) : FVec F S8x128 .f32 :=
  dynamicGather 1 (broadcastTo S8x128 (shapeCast S1x128 (shapeCast S1x128 row shapeCasts_S1x1x128_S1x128) shapeCasts_S1x128_S1x128) broadcasts_S1x128_S8x128)
    (shapeCast S8x128 (shapeCast S8x128x1 (wrap idx) shapeCasts_S8x128_S8x128x1) shapeCasts_S8x128x1_S8x128)

/-- Four gathered rows, thirty-two lanes of each. -/
def spread (g0 g1 g2 g3 : FVec F S8x128 .f32) : FVec F S8x128 .f32 :=
  select (cmpi .sge lane8 (broadcast S8x128 96#32)) g3 (select (cmpi .sge lane8 (broadcast S8x128 64#32)) g2
    (select (cmpi .sge lane8 (broadcast S8x128 32#32)) g1 g0))

/-- The block codes of one row parity, a row of pairs per block. -/
def blockCodes (x : Vec F S512x256 .i8) (r : Fin 2) : FVec F S256x256 .bf16 :=
  rowsOfParity r S256x256 (k0_pay533 (F := F) (k0_pay532 x)) bitcasts_S512x256_w16_S256x256_w32

def rowOf (t : FVec F S8x128 .f32) (q : ℕ) (h : S8x128.Slices ![q, 0] S1x128) : FVec F S8x128 .f32 :=
  broadcastTo S8x128 (shapeCast S1x128 (extractStridedSlice S1x128 ![q, 0] t h) shapeCasts_S1x128_S1x128) broadcasts_S1x128_S8x128

/-- Eight blocks' scales of one row parity and one half of the pairs, each stored twice. -/
def scalePiece (off : Elt F .f32) (codes : FVec F S256x256 .bf16) (s0 s1 : FVec F S8x128 .f32) (thr : IVec S8x128 32) (v c : ℕ)
    (h : S256x256.Slices ![8 * v, 128 * c] S8x128) : Vec F S1x8x2x128 .bf16 :=
  interleaveRows S1x8x2x128
    (shapeCast S1x8x1x128 (shapeCast S1x8x128 (truncf .bf16 (addf (mulf (extf .f32 (extractStridedSlice S8x128 ![8 * v, 128 * c] codes h))
      (select (cmpi .sge (addi (iota .tc S8x128 32 [0] iota_S8x128_d0_w32) (broadcast S8x128 (BitVec.ofNat 32 (8 * v)))) thr) s1 s0)) (broadcast S8x128 off)))
      shapeCasts_S8x128_S1x8x128) shapeCasts_S1x8x128_S1x8x1x128)
    (shapeCast S1x8x1x128 (shapeCast S1x8x128 (truncf .bf16 (addf (mulf (extf .f32 (extractStridedSlice S8x128 ![8 * v, 128 * c] codes h))
      (select (cmpi .sge (addi (iota .tc S8x128 32 [0] iota_S8x128_d0_w32) (broadcast S8x128 (BitVec.ofNat 32 (8 * v)))) thr) s1 s0)) (broadcast S8x128 off)))
      shapeCasts_S8x128_S1x8x128) shapeCasts_S1x8x128_S1x8x1x128)
    bitcasts_S1x8x2x128_w16_S1x8x1x128_w32

/-- A row of thresholds, on eight rows. -/
def thrRow (x : Vec F S1x128 .i32) : IVec S8x128 32 :=
  broadcastTo S8x128 (shapeCast S1x128 x shapeCasts_S1x128_S1x128) broadcasts_S1x128_S8x128

section
variable (arg3 : Memref sig .tc .vmem S512x256 .i8) (harg3 : arg3.IsWhole) (arg4 : Memref sig .tc .vmem S8x1x128 .f32) (harg4 : arg4.IsWhole)
  (arg5 : Memref sig .tc .smem S1 .f32) (harg5 : arg5.IsWhole) (arg7 : Memref sig .tc .vmem S8x128 .i32) (harg7 : arg7.IsWhole)
  (arg8 : Memref sig .tc .vmem S2x256 .i32) (harg8 : arg8.IsWhole)
  (x2 : Vec F S512x256 .i8) (x3 : Vec F S8x1x128 .f32) (x4 : Vec F S1 .f32) (x6 : Vec F S8x128 .i32) (x7 : Vec F S2x256 .i32)

def ldIdx : Vec F S8x128 .i32 := View.readAt (Elt F) arg7.view (Rect.unit ![0, 0] S8x128.size inb_S8x128_S8x128_0_0).toLoadRect (harg7.unread x6)
def ldRow (t : Fin 8) : Vec F S1x1x128 .f32 :=
  View.readAt (Elt F) arg4.view (Rect.unit (s := S8x1x128) ![t.val, 0, 0] S1x1x128.size (by revert t; decide)).toLoadRect (harg4.unread x3)
def ldCodes : Vec F S512x256 .i8 := View.readAt (Elt F) arg3.view (Rect.unit ![0, 0] S512x256.size inb_S512x256_S512x256_0_0).toLoadRect (harg3.unread x2)
def ldThr (r c : Fin 2) : Vec F S1x128 .i32 :=
  View.readAt (Elt F) arg8.view (Rect.unit (s := S2x256) ![r.val, 128 * c.val] S1x128.size (by revert r c; decide)).toLoadRect (harg8.unread x7)
def ldOff : Elt F .f32 := View.readAt (Elt F) arg5.view (Rect.unit ![0] S1.size inb_S1_S1_0).toLoadRect (harg5.unread x4) (Shape.Idx.first (by decide))

/-- The group scales of one half of the pairs: row `q` at the indices of row `q`. -/
def groupTile (c : Fin 2) : FVec F S8x128 .f32 :=
  spread (gat (ldIdx arg7 harg7 x6) (ldRow arg4 harg4 x3 ⟨4 * c.val, by omega⟩)) (gat (ldIdx arg7 harg7 x6) (ldRow arg4 harg4 x3 ⟨4 * c.val + 1, by omega⟩))
    (gat (ldIdx arg7 harg7 x6) (ldRow arg4 harg4 x3 ⟨4 * c.val + 2, by omega⟩)) (gat (ldIdx arg7 harg7 x6) (ldRow arg4 harg4 x3 ⟨4 * c.val + 3, by omega⟩))

def piece (r : Fin 2) (v : Fin 24) (c : Fin 2) : Vec F S1x8x2x128 .bf16 :=
  scalePiece (ldOff arg5 harg5 x4) (blockCodes (ldCodes arg3 harg3 x2) r)
    (rowOf (groupTile arg4 harg4 arg7 harg7 x3 x6 c) r.val (by revert r; decide)) (rowOf (groupTile arg4 harg4 arg7 harg7 x3 x6 c) (2 + r.val) (by revert r; decide))
    (thrRow (ldThr arg8 harg8 x7 r c)) v.val c.val (by revert v c; decide)

variable (cc : Dev nD)

/-- What the scratch holds at an index, when every piece holds what `G` says there. -/
theorem pieces_A (G : S2x192x2x256.Idx → Elt F .bf16)
    (hG : ∀ (r : Fin 2) (v : Fin 24) (c : Fin 2) (inb) (x : (Rect.unit (s := S2x192x2x256) ![r.val, 8 * v.val, 0, 128 * c.val] S1x8x2x128.size inb).shape.Idx),
      piece arg3 harg3 arg4 harg4 arg5 harg5 arg7 harg7 arg8 harg8 x2 x3 x4 x6 x7 r v c x
        = G ((Rect.unit (s := S2x192x2x256) ![r.val, 8 * v.val, 0, 128 * c.val] S1x8x2x128.size inb).emb x)) :
    ∀ p ∈ kernelRun0_A.sl.HS1_96 cc arg3 harg3 arg4 harg4 arg5 harg5 arg7 harg7 arg8 harg8 x2 x3 x4 x6 x7, ∀ x : p.1.shape.Idx, p.2 x = G (p.1.emb x) := by
  unfold kernelRun0_A.sl.HS1_96
  refine List.forall_mem_cons.2 ⟨hG 1 23 1 inb_S2x192x2x256_S1x8x2x128_1_184_0_128, ?_⟩
  refine List.forall_mem_cons.2 ⟨hG 0 23 1 inb_S2x192x2x256_S1x8x2x128_0_184_0_128, ?_⟩
  refine List.forall_mem_cons.2 ⟨hG 1 22 1 inb_S2x192x2x256_S1x8x2x128_1_176_0_128, ?_⟩
  refine List.forall_mem_cons.2 ⟨hG 0 22 1 inb_S2x192x2x256_S1x8x2x128_0_176_0_128, ?_⟩
  refine List.forall_mem_cons.2 ⟨hG 1 21 1 inb_S2x192x2x256_S1x8x2x128_1_168_0_128, ?_⟩
  refine List.forall_mem_cons.2 ⟨hG 0 21 1 inb_S2x192x2x256_S1x8x2x128_0_168_0_128, ?_⟩
  refine List.forall_mem_cons.2 ⟨hG 1 20 1 inb_S2x192x2x256_S1x8x2x128_1_160_0_128, ?_⟩
  refine List.forall_mem_cons.2 ⟨hG 0 20 1 inb_S2x192x2x256_S1x8x2x128_0_160_0_128, ?_⟩
  refine List.forall_mem_cons.2 ⟨hG 1 19 1 inb_S2x192x2x256_S1x8x2x128_1_152_0_128, ?_⟩
  refine List.forall_mem_cons.2 ⟨hG 0 19 1 inb_S2x192x2x256_S1x8x2x128_0_152_0_128, ?_⟩
  refine List.forall_mem_cons.2 ⟨hG 1 18 1 inb_S2x192x2x256_S1x8x2x128_1_144_0_128, ?_⟩
  refine List.forall_mem_cons.2 ⟨hG 0 18 1 inb_S2x192x2x256_S1x8x2x128_0_144_0_128, ?_⟩
  refine List.forall_mem_cons.2 ⟨hG 1 17 1 inb_S2x192x2x256_S1x8x2x128_1_136_0_128, ?_⟩
  refine List.forall_mem_cons.2 ⟨hG 0 17 1 inb_S2x192x2x256_S1x8x2x128_0_136_0_128, ?_⟩
  refine List.forall_mem_cons.2 ⟨hG 1 16 1 inb_S2x192x2x256_S1x8x2x128_1_128_0_128, ?_⟩
  refine List.forall_mem_cons.2 ⟨hG 0 16 1 inb_S2x192x2x256_S1x8x2x128_0_128_0_128, ?_⟩
  refine List.forall_mem_cons.2 ⟨hG 1 15 1 inb_S2x192x2x256_S1x8x2x128_1_120_0_128, ?_⟩
  refine List.forall_mem_cons.2 ⟨hG 0 15 1 inb_S2x192x2x256_S1x8x2x128_0_120_0_128, ?_⟩
  refine List.forall_mem_cons.2 ⟨hG 1 14 1 inb_S2x192x2x256_S1x8x2x128_1_112_0_128, ?_⟩
  refine List.forall_mem_cons.2 ⟨hG 0 14 1 inb_S2x192x2x256_S1x8x2x128_0_112_0_128, ?_⟩
  refine List.forall_mem_cons.2 ⟨hG 1 13 1 inb_S2x192x2x256_S1x8x2x128_1_104_0_128, ?_⟩
  refine List.forall_mem_cons.2 ⟨hG 0 13 1 inb_S2x192x2x256_S1x8x2x128_0_104_0_128, ?_⟩
  refine List.forall_mem_cons.2 ⟨hG 1 12 1 inb_S2x192x2x256_S1x8x2x128_1_96_0_128, ?_⟩
  refine List.forall_mem_cons.2 ⟨hG 0 12 1 inb_S2x192x2x256_S1x8x2x128_0_96_0_128, ?_⟩
  refine List.forall_mem_cons.2 ⟨hG 1 11 1 inb_S2x192x2x256_S1x8x2x128_1_88_0_128, ?_⟩
  refine List.forall_mem_cons.2 ⟨hG 0 11 1 inb_S2x192x2x256_S1x8x2x128_0_88_0_128, ?_⟩
  refine List.forall_mem_cons.2 ⟨hG 1 10 1 inb_S2x192x2x256_S1x8x2x128_1_80_0_128, ?_⟩
  refine List.forall_mem_cons.2 ⟨hG 0 10 1 inb_S2x192x2x256_S1x8x2x128_0_80_0_128, ?_⟩
  refine List.forall_mem_cons.2 ⟨hG 1 9 1 inb_S2x192x2x256_S1x8x2x128_1_72_0_128, ?_⟩
  refine List.forall_mem_cons.2 ⟨hG 0 9 1 inb_S2x192x2x256_S1x8x2x128_0_72_0_128, ?_⟩
  refine List.forall_mem_cons.2 ⟨hG 1 8 1 inb_S2x192x2x256_S1x8x2x128_1_64_0_128, ?_⟩
  refine List.forall_mem_cons.2 ⟨hG 0 8 1 inb_S2x192x2x256_S1x8x2x128_0_64_0_128, ?_⟩
  refine List.forall_mem_cons.2 ⟨hG 1 7 1 inb_S2x192x2x256_S1x8x2x128_1_56_0_128, ?_⟩
  refine List.forall_mem_cons.2 ⟨hG 0 7 1 inb_S2x192x2x256_S1x8x2x128_0_56_0_128, ?_⟩
  refine List.forall_mem_cons.2 ⟨hG 1 6 1 inb_S2x192x2x256_S1x8x2x128_1_48_0_128, ?_⟩
  refine List.forall_mem_cons.2 ⟨hG 0 6 1 inb_S2x192x2x256_S1x8x2x128_0_48_0_128, ?_⟩
  refine List.forall_mem_cons.2 ⟨hG 1 5 1 inb_S2x192x2x256_S1x8x2x128_1_40_0_128, ?_⟩
  refine List.forall_mem_cons.2 ⟨hG 0 5 1 inb_S2x192x2x256_S1x8x2x128_0_40_0_128, ?_⟩
  refine List.forall_mem_cons.2 ⟨hG 1 4 1 inb_S2x192x2x256_S1x8x2x128_1_32_0_128, ?_⟩
  refine List.forall_mem_cons.2 ⟨hG 0 4 1 inb_S2x192x2x256_S1x8x2x128_0_32_0_128, ?_⟩
  refine List.forall_mem_cons.2 ⟨hG 1 3 1 inb_S2x192x2x256_S1x8x2x128_1_24_0_128, ?_⟩
  refine List.forall_mem_cons.2 ⟨hG 0 3 1 inb_S2x192x2x256_S1x8x2x128_0_24_0_128, ?_⟩
  refine List.forall_mem_cons.2 ⟨hG 1 2 1 inb_S2x192x2x256_S1x8x2x128_1_16_0_128, ?_⟩
  refine List.forall_mem_cons.2 ⟨hG 0 2 1 inb_S2x192x2x256_S1x8x2x128_0_16_0_128, ?_⟩
  refine List.forall_mem_cons.2 ⟨hG 1 1 1 inb_S2x192x2x256_S1x8x2x128_1_8_0_128, ?_⟩
  refine List.forall_mem_cons.2 ⟨hG 0 1 1 inb_S2x192x2x256_S1x8x2x128_0_8_0_128, ?_⟩
  refine List.forall_mem_cons.2 ⟨hG 1 0 1 inb_S2x192x2x256_S1x8x2x128_1_0_0_128, ?_⟩
  refine List.forall_mem_cons.2 ⟨hG 0 0 1 inb_S2x192x2x256_S1x8x2x128_0_0_0_128, ?_⟩
  refine List.forall_mem_cons.2 ⟨hG 1 23 0 inb_S2x192x2x256_S1x8x2x128_1_184_0_0, ?_⟩
  refine List.forall_mem_cons.2 ⟨hG 0 23 0 inb_S2x192x2x256_S1x8x2x128_0_184_0_0, ?_⟩
  refine List.forall_mem_cons.2 ⟨hG 1 22 0 inb_S2x192x2x256_S1x8x2x128_1_176_0_0, ?_⟩
  refine List.forall_mem_cons.2 ⟨hG 0 22 0 inb_S2x192x2x256_S1x8x2x128_0_176_0_0, ?_⟩
  refine List.forall_mem_cons.2 ⟨hG 1 21 0 inb_S2x192x2x256_S1x8x2x128_1_168_0_0, ?_⟩
  refine List.forall_mem_cons.2 ⟨hG 0 21 0 inb_S2x192x2x256_S1x8x2x128_0_168_0_0, ?_⟩
  refine List.forall_mem_cons.2 ⟨hG 1 20 0 inb_S2x192x2x256_S1x8x2x128_1_160_0_0, ?_⟩
  refine List.forall_mem_cons.2 ⟨hG 0 20 0 inb_S2x192x2x256_S1x8x2x128_0_160_0_0, ?_⟩
  refine List.forall_mem_cons.2 ⟨hG 1 19 0 inb_S2x192x2x256_S1x8x2x128_1_152_0_0, ?_⟩
  refine List.forall_mem_cons.2 ⟨hG 0 19 0 inb_S2x192x2x256_S1x8x2x128_0_152_0_0, ?_⟩
  refine List.forall_mem_cons.2 ⟨hG 1 18 0 inb_S2x192x2x256_S1x8x2x128_1_144_0_0, ?_⟩
  refine List.forall_mem_cons.2 ⟨hG 0 18 0 inb_S2x192x2x256_S1x8x2x128_0_144_0_0, ?_⟩
  refine List.forall_mem_cons.2 ⟨hG 1 17 0 inb_S2x192x2x256_S1x8x2x128_1_136_0_0, ?_⟩
  refine List.forall_mem_cons.2 ⟨hG 0 17 0 inb_S2x192x2x256_S1x8x2x128_0_136_0_0, ?_⟩
  refine List.forall_mem_cons.2 ⟨hG 1 16 0 inb_S2x192x2x256_S1x8x2x128_1_128_0_0, ?_⟩
  refine List.forall_mem_cons.2 ⟨hG 0 16 0 inb_S2x192x2x256_S1x8x2x128_0_128_0_0, ?_⟩
  refine List.forall_mem_cons.2 ⟨hG 1 15 0 inb_S2x192x2x256_S1x8x2x128_1_120_0_0, ?_⟩
  refine List.forall_mem_cons.2 ⟨hG 0 15 0 inb_S2x192x2x256_S1x8x2x128_0_120_0_0, ?_⟩
  refine List.forall_mem_cons.2 ⟨hG 1 14 0 inb_S2x192x2x256_S1x8x2x128_1_112_0_0, ?_⟩
  refine List.forall_mem_cons.2 ⟨hG 0 14 0 inb_S2x192x2x256_S1x8x2x128_0_112_0_0, ?_⟩
  refine List.forall_mem_cons.2 ⟨hG 1 13 0 inb_S2x192x2x256_S1x8x2x128_1_104_0_0, ?_⟩
  refine List.forall_mem_cons.2 ⟨hG 0 13 0 inb_S2x192x2x256_S1x8x2x128_0_104_0_0, ?_⟩
  refine List.forall_mem_cons.2 ⟨hG 1 12 0 inb_S2x192x2x256_S1x8x2x128_1_96_0_0, ?_⟩
  refine List.forall_mem_cons.2 ⟨hG 0 12 0 inb_S2x192x2x256_S1x8x2x128_0_96_0_0, ?_⟩
  refine List.forall_mem_cons.2 ⟨hG 1 11 0 inb_S2x192x2x256_S1x8x2x128_1_88_0_0, ?_⟩
  refine List.forall_mem_cons.2 ⟨hG 0 11 0 inb_S2x192x2x256_S1x8x2x128_0_88_0_0, ?_⟩
  refine List.forall_mem_cons.2 ⟨hG 1 10 0 inb_S2x192x2x256_S1x8x2x128_1_80_0_0, ?_⟩
  refine List.forall_mem_cons.2 ⟨hG 0 10 0 inb_S2x192x2x256_S1x8x2x128_0_80_0_0, ?_⟩
  refine List.forall_mem_cons.2 ⟨hG 1 9 0 inb_S2x192x2x256_S1x8x2x128_1_72_0_0, ?_⟩
  refine List.forall_mem_cons.2 ⟨hG 0 9 0 inb_S2x192x2x256_S1x8x2x128_0_72_0_0, ?_⟩
  refine List.forall_mem_cons.2 ⟨hG 1 8 0 inb_S2x192x2x256_S1x8x2x128_1_64_0_0, ?_⟩
  refine List.forall_mem_cons.2 ⟨hG 0 8 0 inb_S2x192x2x256_S1x8x2x128_0_64_0_0, ?_⟩
  refine List.forall_mem_cons.2 ⟨hG 1 7 0 inb_S2x192x2x256_S1x8x2x128_1_56_0_0, ?_⟩
  refine List.forall_mem_cons.2 ⟨hG 0 7 0 inb_S2x192x2x256_S1x8x2x128_0_56_0_0, ?_⟩
  refine List.forall_mem_cons.2 ⟨hG 1 6 0 inb_S2x192x2x256_S1x8x2x128_1_48_0_0, ?_⟩
  refine List.forall_mem_cons.2 ⟨hG 0 6 0 inb_S2x192x2x256_S1x8x2x128_0_48_0_0, ?_⟩
  refine List.forall_mem_cons.2 ⟨hG 1 5 0 inb_S2x192x2x256_S1x8x2x128_1_40_0_0, ?_⟩
  refine List.forall_mem_cons.2 ⟨hG 0 5 0 inb_S2x192x2x256_S1x8x2x128_0_40_0_0, ?_⟩
  refine List.forall_mem_cons.2 ⟨hG 1 4 0 inb_S2x192x2x256_S1x8x2x128_1_32_0_0, ?_⟩
  refine List.forall_mem_cons.2 ⟨hG 0 4 0 inb_S2x192x2x256_S1x8x2x128_0_32_0_0, ?_⟩
  refine List.forall_mem_cons.2 ⟨hG 1 3 0 inb_S2x192x2x256_S1x8x2x128_1_24_0_0, ?_⟩
  refine List.forall_mem_cons.2 ⟨hG 0 3 0 inb_S2x192x2x256_S1x8x2x128_0_24_0_0, ?_⟩
  refine List.forall_mem_cons.2 ⟨hG 1 2 0 inb_S2x192x2x256_S1x8x2x128_1_16_0_0, ?_⟩
  refine List.forall_mem_cons.2 ⟨hG 0 2 0 inb_S2x192x2x256_S1x8x2x128_0_16_0_0, ?_⟩
  refine List.forall_mem_cons.2 ⟨hG 1 1 0 inb_S2x192x2x256_S1x8x2x128_1_8_0_0, ?_⟩
  refine List.forall_mem_cons.2 ⟨hG 0 1 0 inb_S2x192x2x256_S1x8x2x128_0_8_0_0, ?_⟩
  refine List.forall_mem_cons.2 ⟨hG 1 0 0 inb_S2x192x2x256_S1x8x2x128_1_0_0_0, ?_⟩
  refine List.forall_mem_cons.2 ⟨hG 0 0 0 inb_S2x192x2x256_S1x8x2x128_0_0_0_0, ?_⟩
  exact fun p hp => absurd hp (List.not_mem_nil)

theorem lists_eq : kernelRun0_B.sl.HS1_96 cc arg3 harg3 arg4 harg4 arg5 harg5 arg7 harg7 arg8 harg8 x2 x3 x4 x6 x7
    = kernelRun0_A.sl.HS1_96 cc arg3 harg3 arg4 harg4 arg5 harg5 arg7 harg7 arg8 harg8 x2 x3 x4 x6 x7 := rfl

end
end
theorem castCast8 (x : IVec S8x128 32) : shapeCast S8x128 (shapeCast S8x128x1 x shapeCasts_S8x128_S8x128x1) shapeCasts_S8x128x1_S8x128 = x :=
  shapeCast_shapeCast x _ _

theorem gat_apply (idx : IVec S8x128 32) (row : Vec Ideal S1x1x128 .f32) (q : Fin 8) (l : Fin 128) :
    gat (F := Ideal) idx row (ix2 q l) = row (ix3 (0 : Fin 1) (0 : Fin 1) (⟨(wrap idx (ix2 q l)).toNat % 128, Nat.mod_lt _ (by omega)⟩ : Fin 128)) := by
  unfold gat
  rw [castCast8, shapeCast_self]
  have hb : ∀ (j : Fin 8) (z : Fin 128), broadcastTo S8x128 (shapeCast S1x128 row shapeCasts_S1x1x128_S1x128) broadcasts_S1x128_S8x128 (ix2 j z)
      = row (ix3 (0 : Fin 1) (0 : Fin 1) z) := by
    intro j z
    show shapeCast S1x128 row shapeCasts_S1x1x128_S1x128 _ = _
    refine (shapeCast_apply (s := S1x1x128) (t := S1x128) _ _ _ (ix3 (0 : Fin 1) (0 : Fin 1) z) ?_)
    rw [Shape.rowMajor_val_three, Shape.rowMajor_val_two]
    rfl
  refine Eq.trans ?_ (hb q _)
  show broadcastTo S8x128 (shapeCast S1x128 row shapeCasts_S1x1x128_S1x128) broadcasts_S1x128_S8x128 _ = _
  congr 1
  funext b
  match b with
  | ⟨0, _⟩ => rfl
  | ⟨1, _⟩ => rfl

theorem sle_ofNat (a b : ℕ) (ha : a < 2 ^ 31) (hb : b < 2 ^ 31) : (BitVec.ofNat 32 a).sle (BitVec.ofNat 32 b) = true ↔ a ≤ b := by
  have e : ∀ n : ℕ, n < 2 ^ 31 → (BitVec.ofNat 32 n).toInt = n := by
    intro n hn
    rw [BitVec.toInt_eq_toNat_of_lt (by rw [BitVec.toNat_ofNat, Nat.mod_eq_of_lt (by omega)]; omega), BitVec.toNat_ofNat, Nat.mod_eq_of_lt (by omega)]
  rw [BitVec.sle_eq_decide, decide_eq_true_iff, e a ha, e b hb]
  omega

theorem lane8_ge (n : ℕ) (hn : n < 128) (q : Fin 8) (l : Fin 128) :
    (cmpi .sge lane8 (broadcast S8x128 (BitVec.ofNat 32 n)) (ix2 q l) = 1#1) ↔ n ≤ l.val := by
  have hl := l.isLt
  have hi : lane8 (ix2 q l) = BitVec.ofNat 32 l.val := by
    show BitVec.ofNat 32 (0 * 128 + l.val) = _
    rw [Nat.zero_mul, Nat.zero_add]
  show BitVec.ofBool ((BitVec.ofNat 32 n).sle (lane8 (ix2 q l))) = 1#1 ↔ _
  rw [hi]
  rw [← sle_ofNat n l.val (by omega) (by omega)]
  cases (BitVec.ofNat 32 n).sle (BitVec.ofNat 32 l.val) <;> simp

theorem spread_apply (g : Fin 4 → FVec Ideal S8x128 .f32) (q : Fin 8) (l : Fin 128) :
    spread (g 0) (g 1) (g 2) (g 3) (ix2 q l) = g (⟨l.val / 32, by omega⟩ : Fin 4) (ix2 q l) := by
  have hl := l.isLt
  have hc : ∀ n, n < 128 → ∀ a b : FVec Ideal S8x128 .f32, select (cmpi .sge lane8 (broadcast S8x128 (BitVec.ofNat 32 n))) a b (ix2 q l)
      = if n ≤ l.val then a (ix2 q l) else b (ix2 q l) := by
    intro n hn a b
    show (if _ = 1#1 then _ else _) = _
    exact if_congr (lane8_ge n hn q l) rfl rfl
  unfold spread
  rw [hc 96 (by omega), hc 64 (by omega), hc 32 (by omega)]
  split
  · congr 2; apply Fin.ext; show 3 = l.val / 32; omega
  · split
    · congr 2; apply Fin.ext; show 2 = l.val / 32; omega
    · split
      · congr 2; apply Fin.ext; show 1 = l.val / 32; omega
      · congr 2; apply Fin.ext; show 0 = l.val / 32; omega

theorem rowOf_apply (t : FVec Ideal S8x128 .f32) (q : Fin 8) (h) (j : Fin 8) (l : Fin 128) : rowOf t q.val h (ix2 j l) = t (ix2 q l) := by
  unfold rowOf
  rw [shapeCast_self]
  show t _ = t _
  congr 1
  funext b
  match b with
  | ⟨0, _⟩ => rfl
  | ⟨1, _⟩ => apply Fin.ext; show 0 + l.val = l.val; omega

theorem thrRow_apply (x : Vec Ideal S1x128 .i32) (j : Fin 8) (l : Fin 128) : thrRow (F := Ideal) x (ix2 j l) = x (ix2 (0 : Fin 1) l) := by
  unfold thrRow
  rw [shapeCast_self]
  show x _ = x _
  congr 1
  funext b
  match b with
  | ⟨0, _⟩ => rfl
  | ⟨1, _⟩ => rfl

/-- A bit of a bit-cast word of a matrix, its columns kept. -/
theorem bitcast_bit {R R' C w w' : ℕ} (x : (⟨2, ![R, C]⟩ : Shape).Idx → BitVec w) (h : Shape.Bitcasts ⟨2, ![R, C]⟩ w ⟨2, ![R', C]⟩ w')
    (i : Fin R') (c : Fin C) (b : ℕ) (hb : b < w') (hw : 0 < w) (p : Fin R) (hp : p.val = (i.val * w' + b) / w) :
    (bitcast ⟨2, ![R', C]⟩ w' x h (ix2 i c)).getLsbD b = (x (ix2 p c)).getLsbD ((i.val * w' + b) % w) := by
  rw [bitcast_getLsbD x _ _ b hb hw]
  have e : Shape.row (⟨2, ![R', C]⟩ : Shape) (ix2 i c) = i.val := rfl
  rw [congrArg (fun z => (z * w' + b) % w) e]
  congr 2
  funext a
  apply Fin.ext
  match a with
  | ⟨0, _⟩ => rw [Shape.Bitcasts.srcIdx_row _ _ _ _ _ rfl, e]; exact hp.symm
  | ⟨1, _⟩ => rw [Shape.Bitcasts.srcIdx_other _ _ _ _ _ (by show ¬ (1 + 2 = 2); decide)]; rfl

theorem blockCodes_apply (x : Vec Ideal S512x256 .i8) (r : Fin 2) (b p : Fin 256) :
    blockCodes (F := Ideal) x r (ix2 b p) = (((x (ix2 (⟨2 * p.val + r.val, by omega⟩ : Fin 512) b) : BitVec 8).toInt : ℝ) : EReal) := by
  have hp := p.isLt
  have hb := b.isLt
  have hr := r.isLt
  unfold blockCodes k0_pay533 k0_pay532
  dsimp only
  show FloatOps.sitofp .bf16 _ = _
  show ((BitVec.toInt (n := 8) _ : ℝ) : EReal) = _
  congr 2
  rw [shapeCast_self]
  have ed : ∀ z : S512x256.Idx, (∀ a : Fin 2, z a = ix2 (⟨2 * b.val + r.val, by omega⟩ : Fin 512) p a) → z = ix2 (⟨2 * b.val + r.val, by omega⟩ : Fin 512) p :=
    fun z h => funext h
  refine congrArg (BitVec.toInt (n := 8)) ((congrArg _ (ed _ (fun a => by match a with
    | ⟨0, _⟩ => rfl
    | ⟨1, _⟩ => rfl))).trans ?_)
  apply BitVec.eq_of_getLsbD_eq
  intro β hβ
  have e0 : (⟨2 * p.val + r.val, by omega⟩ : Fin 512).val = 2 * p.val + r.val := rfl
  refine (bitcast_bit (R := 128) (R' := 512) (C := 256) _ bitcasts_S128x256_w32_S512x256_w8 (⟨2 * b.val + r.val, by omega⟩ : Fin 512) p β hβ (by decide)
    (⟨((2 * b.val + r.val) * 8 + β) / 32, by omega⟩ : Fin 128) rfl).trans ?_
  refine (bitcast_bit (R := 256) (R' := 128) (C := 256) _ bitcasts_S256x256_w16_S128x256_w32 _ p _ (by omega) (by decide) b (by dsimp only; omega)).trans ?_
  rw [transpose_apply _ _ _ _ (ix2 p b) (by
    intro a
    match a with
    | ⟨0, _⟩ => rfl
    | ⟨1, _⟩ => rfl)]
  refine (bitcast_bit (R := 128) (R' := 256) (C := 256) _ bitcasts_S128x256_w32_S256x256_w16 p b _ (by omega) (by decide)
    (⟨(p.val * 16 + (8 * r.val + β)) / 32, by omega⟩ : Fin 128) (by dsimp only; omega)).trans ?_
  refine (bitcast_bit (R := 512) (R' := 128) (C := 256) _ bitcasts_S512x256_w8_S128x256_w32 _ b _ (by omega) (by decide)
    (⟨2 * p.val + r.val, by omega⟩ : Fin 512) (by dsimp only; omega)).trans ?_
  congr 1
  dsimp only
  omega

theorem scalePiece_apply (off : EReal) (codes : FVec Ideal S256x256 .bf16) (s0 s1 : FVec Ideal S8x128 .f32) (thr : IVec S8x128 32)
    (v : Fin 24) (c : Fin 2) (h) (j : Fin 8) (e : Fin 2) (l : Fin 128) :
    scalePiece (F := Ideal) off codes s0 s1 thr v.val c.val h (ix4 0 j e l)
      = (codes (ix2 (⟨8 * v.val + j.val, by omega⟩ : Fin 256) (⟨128 * c.val + l.val, by omega⟩ : Fin 256))
          * (if (thr (ix2 j l)).sle (BitVec.ofNat 32 (8 * v.val + j.val)) then s1 (ix2 j l) else s0 (ix2 j l)) + off : EReal) := by
  have hj := j.isLt
  have hv := v.isLt
  have key : ∀ (w : FVec Ideal S8x128 .bf16), shapeCast S1x8x1x128 (shapeCast S1x8x128 w shapeCasts_S8x128_S1x8x128) shapeCasts_S1x8x128_S1x8x1x128
      (ix4 0 j 0 l) = w (ix2 j l) := by
    intro w
    rw [shapeCast_apply (s := S1x8x128) (t := S1x8x1x128) _ _ _ (ix3 (0 : Fin 1) j l) (by
      rw [Shape.rowMajor_val_three, Shape.rowMajor_val_four]
      show (0 * 8 + j.val) * 128 + l.val = ((0 * 8 + j.val) * 1 + 0) * 128 + l.val; omega),
      shapeCast_apply (s := S8x128) (t := S1x8x128) _ _ _ (ix2 j l) (by
      rw [Shape.rowMajor_val_two, Shape.rowMajor_val_three]
      show j.val * 128 + l.val = (0 * 8 + j.val) * 128 + l.val; omega)]
  have val : truncf (F := Ideal) .bf16 (addf (mulf (extf .f32 (extractStridedSlice S8x128 ![8 * v.val, 128 * c.val] codes h) (by decide))
      (select (cmpi .sge (addi (iota .tc S8x128 32 [0] iota_S8x128_d0_w32) (broadcast S8x128 (BitVec.ofNat 32 (8 * v.val)))) thr) s1 s0)) (broadcast S8x128 off)) (by decide) (ix2 j l)
      = (codes (ix2 (⟨8 * v.val + j.val, by omega⟩ : Fin 256) (⟨128 * c.val + l.val, by omega⟩ : Fin 256))
          * (if (thr (ix2 j l)).sle (BitVec.ofNat 32 (8 * v.val + j.val)) then s1 (ix2 j l) else s0 (ix2 j l)) + off : EReal) := by
    have hi : iota .tc S8x128 32 [0] iota_S8x128_d0_w32 (ix2 j l) = BitVec.ofNat 32 j.val := by
      show BitVec.ofNat 32 (0 * 8 + j.val) = _
      rw [Nat.zero_mul, Nat.zero_add]
    show (codes _ * (if BitVec.ofBool ((thr (ix2 j l)).sle (iota .tc S8x128 32 [0] iota_S8x128_d0_w32 (ix2 j l) + BitVec.ofNat 32 (8 * v.val))) = 1#1 then s1 (ix2 j l) else s0 (ix2 j l)) + off : EReal) = _
    rw [hi, ← BitVec.ofNat_add, Nat.add_comm j.val]
    have hc : ∀ z : Bool, BitVec.ofBool z = 1#1 ↔ z = true := by decide
    rw [if_congr (hc _) rfl rfl]
    congr 3
    funext b
    match b with
    | ⟨0, _⟩ => rfl
    | ⟨1, _⟩ => rfl
  unfold scalePiece interleaveRows
  have hrow : S1x8x2x128.row (ix4 0 j e l) = e.val := rfl
  simp only [hrow]
  have ed : ∀ b : S1x8x1x128.Idx, (∀ c : Fin 4, b c = ix4 0 j 0 l c) → b = ix4 0 j 0 l := fun b h => funext h
  have he := e.isLt
  split <;>
  · refine (congrArg _ (ed _ (fun c => by match c with
      | ⟨0, _⟩ => rfl
      | ⟨1, _⟩ => rfl
      | ⟨2, _⟩ => apply Fin.ext; show e.val / 2 = 0; omega
      | ⟨3, _⟩ => rfl))).trans ((key _).trans val)

/-- The group scale read for pair `p` at row `q` of the index table. -/
def groupAt (x3 : S8x1x128.Idx → EReal) (x6 : IVec S8x128 32) (q : Fin 8) (p : Fin 256) : EReal :=
  x3 (ix3 (⟨p.val / 32, by omega⟩ : Fin 8) (0 : Fin 1) (⟨(wrap x6 (ix2 q (⟨p.val % 128, by omega⟩ : Fin 128))).toNat % 128, Nat.mod_lt _ (by omega)⟩ : Fin 128))

/-- The scale of block `b` of output row `2 p + r` of the tile. -/
def scaleOf (x2 : S512x256.Idx → BitVec 8) (x3 : S8x1x128.Idx → EReal) (x4 : S1.Idx → EReal) (x6 : IVec S8x128 32) (x7 : S2x256.Idx → BitVec 32)
    (r : Fin 2) (b : Fin 192) (p : Fin 256) : EReal :=
  (((x2 (ix2 (⟨2 * p.val + r.val, by omega⟩ : Fin 512) (⟨b.val, by omega⟩ : Fin 256))).toInt : ℝ) : EReal)
    * (if (x7 (ix2 r p)).sle (BitVec.ofNat 32 b.val) then groupAt x3 x6 (⟨2 + r.val, by omega⟩ : Fin 8) p else groupAt x3 x6 (⟨r.val, by omega⟩ : Fin 8) p)
    + x4 (Shape.Idx.first (by decide))

def scaleAt (x2 : S512x256.Idx → BitVec 8) (x3 : S8x1x128.Idx → EReal) (x4 : S1.Idx → EReal) (x6 : IVec S8x128 32) (x7 : S2x256.Idx → BitVec 32)
    (y : S2x192x2x256.Idx) : EReal := scaleOf x2 x3 x4 x6 x7 (y 0) (y 1) (y 3)

section
variable (arg3 : Memref sig .tc .vmem S512x256 .i8) (harg3 : arg3.IsWhole) (arg4 : Memref sig .tc .vmem S8x1x128 .f32) (harg4 : arg4.IsWhole)
  (arg5 : Memref sig .tc .smem S1 .f32) (harg5 : arg5.IsWhole) (arg7 : Memref sig .tc .vmem S8x128 .i32) (harg7 : arg7.IsWhole)
  (arg8 : Memref sig .tc .vmem S2x256 .i32) (harg8 : arg8.IsWhole)
  (x2 : Vec Ideal S512x256 .i8) (x3 : Vec Ideal S8x1x128 .f32) (x4 : Vec Ideal S1 .f32) (x6 : Vec Ideal S8x128 .i32) (x7 : Vec Ideal S2x256 .i32)

theorem ldIdx_eq : ldIdx arg7 harg7 x6 = x6 := by
  funext i
  unfold ldIdx
  rw [View.readAt_eq_ld, harg7.read_unread]
  refine View.ld_unit_apply_of _ _ _ _ _ i ?_
  intro a
  match a with
  | ⟨0, _⟩ => exact (Nat.zero_add _).symm
  | ⟨1, _⟩ => exact (Nat.zero_add _).symm

theorem ldCodes_eq : ldCodes arg3 harg3 x2 = x2 := by
  funext i
  unfold ldCodes
  rw [View.readAt_eq_ld, harg3.read_unread]
  refine View.ld_unit_apply_of _ _ _ _ _ i ?_
  intro a
  match a with
  | ⟨0, _⟩ => exact (Nat.zero_add _).symm
  | ⟨1, _⟩ => exact (Nat.zero_add _).symm

theorem ldRow_apply (t : Fin 8) (l : Fin 128) : ldRow arg4 harg4 x3 t (ix3 (0 : Fin 1) (0 : Fin 1) l) = x3 (ix3 t (0 : Fin 1) l) := by
  unfold ldRow
  rw [View.readAt_eq_ld, harg4.read_unread]
  refine View.ld_unit_apply_of _ _ _ _ _ _ ?_
  intro a
  match a with
  | ⟨0, _⟩ => rfl
  | ⟨1, _⟩ => rfl
  | ⟨2, _⟩ => exact (Nat.zero_add _).symm

theorem ldThr_apply (r c : Fin 2) (l : Fin 128) : ldThr arg8 harg8 x7 r c (ix2 (0 : Fin 1) l) = x7 (ix2 r (⟨128 * c.val + l.val, by omega⟩ : Fin 256)) := by
  unfold ldThr
  rw [View.readAt_eq_ld, harg8.read_unread]
  refine View.ld_unit_apply_of _ _ _ _ _ _ ?_
  intro a
  match a with
  | ⟨0, _⟩ => rfl
  | ⟨1, _⟩ => rfl

theorem ldOff_eq : ldOff arg5 harg5 x4 = x4 (Shape.Idx.first (by decide)) := by
  unfold ldOff
  rw [View.readAt_eq_ld, harg5.read_unread]
  refine View.ld_unit_apply_of _ _ _ _ _ _ ?_
  intro a
  match a with
  | ⟨0, _⟩ => rfl

theorem groupTile_apply (c : Fin 2) (q : Fin 8) (l : Fin 128) (p : Fin 256) (hp : p.val = 128 * c.val + l.val) :
    groupTile arg4 harg4 arg7 harg7 x3 x6 c (ix2 q l) = groupAt x3 x6 q p := by
  have hl := l.isLt
  have hc := c.isLt
  unfold groupTile
  rw [ldIdx_eq]
  refine (spread_apply (fun t => gat x6 (ldRow arg4 harg4 x3 ⟨4 * c.val + t.val, by omega⟩)) q l).trans ?_
  rw [gat_apply, ldRow_apply]
  unfold groupAt
  have e1 : p.val % 128 = l.val := by omega
  have e2 : p.val / 32 = 4 * c.val + l.val / 32 := by omega
  congr 1
  simp only [e1, e2]

/-- A piece of the scratch holds the scales of its blocks and rows. -/
theorem piece_apply (r : Fin 2) (v : Fin 24) (c : Fin 2) (inb)
    (x : (Rect.unit (s := S2x192x2x256) ![r.val, 8 * v.val, 0, 128 * c.val] S1x8x2x128.size inb).shape.Idx) :
    piece arg3 harg3 arg4 harg4 arg5 harg5 arg7 harg7 arg8 harg8 x2 x3 x4 x6 x7 r v c x
      = scaleAt x2 x3 x4 x6 x7 ((Rect.unit (s := S2x192x2x256) ![r.val, 8 * v.val, 0, 128 * c.val] S1x8x2x128.size inb).emb x) := by
  have hv := v.isLt
  have hc := c.isLt
  have hr := r.isLt
  obtain ⟨j, e, l, rfl⟩ : ∃ (j : Fin 8) (e : Fin 2) (l : Fin 128), x = ix4 (0 : Fin 1) j e l := ⟨x 1, x 2, x 3, by
    funext a
    match a with
    | ⟨0, _⟩ => exact Subsingleton.elim (α := Fin 1) _ _
    | ⟨1, _⟩ => rfl
    | ⟨2, _⟩ => rfl
    | ⟨3, _⟩ => rfl⟩
  have hj := j.isLt
  have hl := l.isLt
  have ee : (Rect.unit (s := S2x192x2x256) ![r.val, 8 * v.val, 0, 128 * c.val] S1x8x2x128.size inb).emb (ix4 (0 : Fin 1) j e l)
      = ix4 r (⟨8 * v.val + j.val, by omega⟩ : Fin 192) e (⟨128 * c.val + l.val, by omega⟩ : Fin 256) := by
    funext a
    apply Fin.ext
    refine (Rect.idx_unit_val _ _ _ _ a).trans ?_
    match a with
    | ⟨0, _⟩ => rfl
    | ⟨1, _⟩ => rfl
    | ⟨2, _⟩ => exact Nat.zero_add _
    | ⟨3, _⟩ => rfl
  rw [ee]
  refine (scalePiece_apply _ _ _ _ _ v c _ j e l).trans ?_
  have s0 : ∀ r : Fin 2, S8x128.Slices ![r.val, 0] S1x128 := by decide
  have s1 : ∀ r : Fin 2, S8x128.Slices ![2 + r.val, 0] S1x128 := by decide
  have q0 := rowOf_apply (groupTile arg4 harg4 arg7 harg7 x3 x6 c) (⟨r.val, by omega⟩ : Fin 8) (s0 r) j l
  have q1 := rowOf_apply (groupTile arg4 harg4 arg7 harg7 x3 x6 c) (⟨2 + r.val, by omega⟩ : Fin 8) (s1 r) j l
  rw [groupTile_apply (p := (⟨128 * c.val + l.val, by omega⟩ : Fin 256)) (hp := rfl)] at q0 q1
  rw [q0, q1, thrRow_apply, ldThr_apply, ldOff_eq, blockCodes_apply, ldCodes_eq]
  rfl

variable (cc : Dev nD) (arg11 : Memref sig .tc .vmem S2x192x2x256 .bf16) (f : BufTy.Contents (Elt Ideal) arg11.view.ty)

/-- The scales' scratch after its stores. -/
theorem scales_A (y : S2x192x2x256.Idx) :
    arg11.view.read (Elt Ideal) (arg11.view.writes (Elt Ideal) f (kernelRun0_A.sl.HS1_96 cc arg3 harg3 arg4 harg4 arg5 harg5 arg7 harg7 arg8 harg8 x2 x3 x4 x6 x7)) y
      = scaleAt x2 x3 x4 x6 x7 y :=
  View.read_writes_apply_of_pieces arg11.view f (scaleAt x2 x3 x4 x6 x7) _
    (pieces_A arg3 harg3 arg4 harg4 arg5 harg5 arg7 harg7 arg8 harg8 x2 x3 x4 x6 x7 cc _
      (piece_apply arg3 harg3 arg4 harg4 arg5 harg5 arg7 harg7 arg8 harg8 x2 x3 x4 x6 x7)) y
    (View.cover_of_tiledL (kernelRun0_A.sl.HS1_96 cc arg3 harg3 arg4 harg4 arg5 harg5 arg7 harg7 arg8 harg8 x2 x3 x4 x6 x7) S1x8x2x128.size (by sl_kernel_rfl) y)

theorem scales_B (y : S2x192x2x256.Idx) :
    arg11.view.read (Elt Ideal) (arg11.view.writes (Elt Ideal) f (kernelRun0_B.sl.HS1_96 cc arg3 harg3 arg4 harg4 arg5 harg5 arg7 harg7 arg8 harg8 x2 x3 x4 x6 x7)) y
      = scaleAt x2 x3 x4 x6 x7 y := by
  rw [lists_eq]
  exact scales_A arg3 harg3 arg4 harg4 arg5 harg5 arg7 harg7 arg8 harg8 x2 x3 x4 x6 x7 cc arg11 f y

end

end Cert.Unit
end
-- ==== Proof.Out.lean ====
/- What a point of the grid writes: its output block, and the activations' scratch it leaves. -/
module

public import proofs.«01_k».proof.Proof.Tail
public import proofs.«01_k».proof.Proof.Xs
public import proofs.«01_k».proof.Proof.Scale
public import proofs.«01_k».proof.Proof.Frame

@[expose] public section

set_option maxRecDepth 65536

noncomputable section

namespace Cert.Unit

open Idealize.ShloMosaic Cert.KernelIdeal Cert.KernelIdeal.Gen

section
variable {F : FTy → Type} [FloatOps F]

/-- Half a lane number, from `o` on. -/
def halfLane (o : BitVec 32) : IVec S16x128 32 := addi (shrui lane (broadcast S16x128 1#32)) (broadcast S16x128 o)

def halfWrapped (o : BitVec 32) : IVec S16x128 32 :=
  select (cmpi .slt (halfLane o) (broadcast S16x128 0#32)) (addi (halfLane o) (broadcast S16x128 128#32)) (halfLane o)

/-- One store: the even lanes from one accumulator, the odd lanes from the other. -/
def weave (a b : FVec F S16x128 .f32) (pos : IVec S16x128 32) : FVec F S16x128 .bf16 :=
  truncf .bf16 (select (k0_pay1100 lane) (dynamicGather 1 a pos) (dynamicGather 1 b pos)) bitsLt_bf16_f32

def store (a b : FVec F S16x256 .f32) (off : Fin 2 → ℕ) (h : S16x256.Slices off S16x128) (o : BitVec 32) : FVec F S16x128 .bf16 :=
  weave (extractStridedSlice S16x128 off a h) (extractStridedSlice S16x128 off b h)
    (shapeCast S16x128 (shapeCast S16x128x1 (halfWrapped o) shapeCasts_S16x128_S16x128x1) shapeCasts_S16x128x1_S16x128)

/-- The four stores of a point, the last one first. -/
def stores (a b : FVec F S16x256 .f32) : List (View.Piece (Elt F) S16x512 .bf16) :=
  [⟨Rect.unit ![0, 384] S16x128.size inb_S16x512_S16x128_0_384, store a b ![0, 128] slices_S16x256_o0_128_S16x128 64#32⟩,
   ⟨Rect.unit ![0, 256] S16x128.size inb_S16x512_S16x128_0_256, store a b ![0, 128] slices_S16x256_o0_128_S16x128 0#32⟩,
   ⟨Rect.unit ![0, 128] S16x128.size inb_S16x512_S16x128_0_128, store a b ![0, 0] slices_S16x256_o0_0_S16x128 64#32⟩,
   ⟨Rect.unit ![0, 0] S16x128.size inb_S16x512_S16x128_0_0, store a b ![0, 0] slices_S16x256_o0_0_S16x128 0#32⟩]

theorem halfWrapped0 (i : Fin 16) (l : Fin 128) : (halfWrapped 0#32 (ix2 i l)).toNat % 128 = l.val / 2 := by
  have h : ∀ l : Fin 128, (halfWrapped 0#32 (ix2 (0 : Fin 16) l)).toNat % 128 = l.val / 2 := by decide +kernel
  exact h l

theorem halfWrapped64 (i : Fin 16) (l : Fin 128) : (halfWrapped 64#32 (ix2 i l)).toNat % 128 = 64 + l.val / 2 := by
  have h : ∀ l : Fin 128, (halfWrapped 64#32 (ix2 (0 : Fin 16) l)).toNat % 128 = 64 + l.val / 2 := by decide +kernel
  exact h l

theorem even_lane (i : Fin 16) (l : Fin 128) : k0_pay1100 lane (ix2 i l) = if l.val % 2 = 0 then 1#1 else 0#1 := by
  have h : ∀ l : Fin 128, k0_pay1100 lane (ix2 (0 : Fin 16) l) = if l.val % 2 = 0 then 1#1 else 0#1 := by decide +kernel
  exact h l

end

/-- Two accumulators interleaved: the even columns from the first, the odd ones from the second. -/
def woven (a : Fin 2 → S16x256.Idx → EReal) (y : S16x512.Idx) : EReal :=
  a (⟨(y 1).val % 2, Nat.mod_lt _ (by decide)⟩ : Fin 2) (ix2 (y 0 : Fin 16) (⟨(y 1).val / 2, by have h : (y 1).val < 512 := (y 1).isLt; omega⟩ : Fin 256))

theorem store_apply (a : Fin 2 → FVec Ideal S16x256 .f32) (hf : Fin 2) (off : Fin 2 → ℕ) (hoff : off = ![0, 128 * hf.val]) (h : S16x256.Slices off S16x128) (o : BitVec 32) (d : Fin 2)
    (ho : ∀ (i : Fin 16) (l : Fin 128), (halfWrapped o (ix2 i l)).toNat % 128 = 64 * d.val + l.val / 2) (i : Fin 16) (l : Fin 128) :
    store (a 0) (a 1) off h o (ix2 i l)
      = a (⟨l.val % 2, Nat.mod_lt _ (by decide)⟩ : Fin 2) (ix2 i (⟨128 * hf.val + 64 * d.val + l.val / 2, by omega⟩ : Fin 256)) := by
  subst hoff
  have hg : ∀ z : FVec Ideal S16x256 .f32, dynamicGather 1 (extractStridedSlice S16x128 ![0, 128 * hf.val] z h) (halfWrapped o) (ix2 i l)
      = z (ix2 i (⟨128 * hf.val + 64 * d.val + l.val / 2, by omega⟩ : Fin 256)) := by
    intro z
    show z _ = z _
    congr 1
    funext b
    apply Fin.ext
    match b with
    | ⟨0, _⟩ => show 0 + i.val = i.val; omega
    | ⟨1, _⟩ => show 128 * hf.val + (halfWrapped o (ix2 i l)).toNat % 128 = 128 * hf.val + 64 * d.val + l.val / 2; rw [ho]; omega
  unfold store weave
  rw [castCast]
  show (if k0_pay1100 lane (ix2 i l) = 1#1 then dynamicGather 1 (extractStridedSlice S16x128 ![0, 128 * hf.val] (a 0) h) (halfWrapped o) (ix2 i l)
    else dynamicGather 1 (extractStridedSlice S16x128 ![0, 128 * hf.val] (a 1) h) (halfWrapped o) (ix2 i l)) = _
  rw [even_lane, hg, hg]
  by_cases hl : l.val % 2 = 0
  · rw [if_pos hl, if_pos rfl]
    have e : (0 : Fin 2) = ⟨l.val % 2, Nat.mod_lt _ (by decide)⟩ := Fin.ext hl.symm
    exact congrFun (congrArg a e) _
  · rw [if_neg hl, if_neg (by decide)]
    have e : (1 : Fin 2) = ⟨l.val % 2, Nat.mod_lt _ (by decide)⟩ := Fin.ext (by show 1 = l.val % 2; omega)
    exact congrFun (congrArg a e) _

theorem stores_pieces (a : Fin 2 → FVec Ideal S16x256 .f32) :
    ∀ p ∈ stores (F := Ideal) (a 0) (a 1), ∀ x : p.1.shape.Idx, p.2 x = woven a (p.1.emb x) := by
  have fin : ∀ (hf d : Fin 2) (base : ℕ) (hb : base = 256 * hf.val + 128 * d.val) (off : Fin 2 → ℕ) (hoff : off = ![0, 128 * hf.val]) (h : S16x256.Slices off S16x128) (o : BitVec 32)
      (ho : ∀ (i : Fin 16) (l : Fin 128), (halfWrapped o (ix2 i l)).toNat % 128 = 64 * d.val + l.val / 2) (inb)
      (x : (Rect.unit (s := S16x512) ![0, base] S16x128.size inb).shape.Idx),
      store (a 0) (a 1) off h o x = woven a ((Rect.unit (s := S16x512) ![0, base] S16x128.size inb).emb x) := by
    intro hf d base hb off hoff h o ho inb x
    have hx : x = ix2 (x 0 : Fin 16) (x 1 : Fin 128) := by
      funext b
      match b with
      | ⟨0, _⟩ => rfl
      | ⟨1, _⟩ => rfl
    have hl : (x 1).val < 128 := (x 1).isLt
    have e : ∀ b, (((Rect.unit (s := S16x512) ![0, base] S16x128.size inb).emb x) b).val = (![0, base] : Fin 2 → ℕ) b + (x b).val :=
      fun b => Rect.idx_unit_val _ _ _ x b
    have e0 : (((Rect.unit (s := S16x512) ![0, base] S16x128.size inb).emb x) 0).val = 0 + (x 0).val := e 0
    have e1 : (((Rect.unit (s := S16x512) ![0, base] S16x128.size inb).emb x) 1).val = base + (x 1).val := e 1
    conv_lhs => rw [hx]
    refine (store_apply a hf off hoff h o d ho (x 0) (x 1)).trans ?_
    unfold woven
    congr 1
    · congr 1
      show (x 1).val % 2 = _
      rw [e1]
      omega
    · funext b
      apply Fin.ext
      match b with
      | ⟨0, _⟩ => exact ((e0.trans (Nat.zero_add _))).symm
      | ⟨1, _⟩ =>
        show 128 * hf.val + 64 * d.val + (x 1).val / 2 = (((Rect.unit (s := S16x512) ![0, base] S16x128.size inb).emb x) 1).val / 2
        rw [e1]
        omega
  intro p hp
  rcases List.mem_cons.1 hp with rfl | hp
  · exact fin 1 1 384 rfl _ rfl _ _ halfWrapped64 inb_S16x512_S16x128_0_384
  rcases List.mem_cons.1 hp with rfl | hp
  · exact fin 1 0 256 rfl _ rfl _ _ (fun i l => by rw [halfWrapped0]; show _ = 64 * 0 + _; omega) inb_S16x512_S16x128_0_256
  rcases List.mem_cons.1 hp with rfl | hp
  · exact fin 0 1 128 rfl _ rfl _ _ halfWrapped64 inb_S16x512_S16x128_0_128
  rcases List.mem_cons.1 hp with rfl | hp
  · exact fin 0 0 0 rfl _ rfl _ _ (fun i l => by rw [halfWrapped0]; show _ = 64 * 0 + _; omega) inb_S16x512_S16x128_0_0
  · simp at hp

/-- What a point writes into its output block. -/
def pointOut (x0 : S16x12032.Idx → EReal) (x1 : S512x6016.Idx → BitVec 8) (sc : S2x192x2x256.Idx → EReal) (LV : BitVec 4 → BitVec 16) : S16x512.Idx → EReal :=
  woven fun r y => ∑ κ : Fin 6016, term x0' x1 sc LV 0 r (y 0 : Fin 16) (y 1 : Fin 256) κ.val + ∑ κ : Fin 6016, term x0' x1 sc LV 1 r (y 0 : Fin 16) (y 1 : Fin 256) κ.val
where x0' := xsOf x0

section
variable (c : Dev nD) (i : grid0.Coords) (arg1 : Memref sig .tc .vmem S16x12032 .bf16) (harg1 : arg1.IsWhole) (arg2 : Memref sig .tc .vmem S512x6016 .i8) (harg2 : arg2.IsWhole) (arg3 : Memref sig .tc .vmem S512x256 .i8) (harg3 : arg3.IsWhole) (arg4 : Memref sig .tc .vmem S8x1x128 .f32) (harg4 : arg4.IsWhole) (arg5 : Memref sig .tc .smem S1 .f32) (harg5 : arg5.IsWhole) (arg6 : Memref sig .tc .vmem S2x32x128 .i8) (harg6 : arg6.IsWhole) (arg7 : Memref sig .tc .vmem S8x128 .i32) (harg7 : arg7.IsWhole) (arg8 : Memref sig .tc .vmem S2x256 .i32) (harg8 : arg8.IsWhole) (arg9 : Memref sig .tc .vmem S16x512 .bf16) (harg9 : arg9.IsWhole) (arg10 : Memref sig .tc .vmem S2x8x2x6016 .bf16) (harg10 : arg10.IsWhole) (arg11 : Memref sig .tc .vmem S2x192x2x256 .bf16) (harg11 : arg11.IsWhole)
  (x0 : Vec Ideal S16x12032 .bf16) (x1 : Vec Ideal S512x6016 .i8) (x2 : Vec Ideal S512x256 .i8) (x3 : Vec Ideal S8x1x128 .f32) (x4 : Vec Ideal S1 .f32)
  (x5 : Vec Ideal S2x32x128 .i8) (x6 : Vec Ideal S8x128 .i32) (x7 : Vec Ideal S2x256 .i32) (xs0 : Vec Ideal S2x8x2x6016 .bf16)
  {LV : BitVec 4 → BitVec 16} (hT : Tables (k0_pay801 (table0 arg6 harg6 x5)) (k0_pay802 (table1 arg6 harg6 x5)) LV)

include hT in
/-- The two accumulators of a point whose scratches hold the activations and the scales. -/
theorem woven_accs (lo hi : FVec Ideal S1x8x128 .bf16) (X10 : BufTy.Contents (Elt Ideal) arg10.view.ty) (X11 : BufTy.Contents (Elt Ideal) arg11.view.ty)
    (h10 : arg10.view.read (Elt Ideal) X10 = xsOf x0) (sc : S2x192x2x256.Idx → EReal) (h11 : arg11.view.read (Elt Ideal) X11 = sc) :
    woven (accs c i arg1 harg1 arg2 harg2 arg3 harg3 arg4 harg4 arg5 harg5 arg6 harg6 arg7 harg7 arg8 harg8 arg9 harg9 arg10 harg10 arg11 harg11 lo hi x5 (harg2.unread x1) X10 X11)
      = pointOut x0 x1 sc LV := by
  funext y
  unfold woven pointOut woven
  refine (accs_apply c i arg1 harg1 arg2 harg2 arg3 harg3 arg4 harg4 arg5 harg5 arg6 harg6 arg7 harg7 arg8 harg8 arg9 harg9 arg10 harg10 arg11 harg11 lo hi x5 (harg2.unread x1) X10 X11 hT _ _ _).trans ?_
  rw [h10, h11, harg2.read_unread]
  rfl

theorem xsA_read (hc0 : cond0_0 i) :
    arg10.view.read (Elt Ideal) (xsA c i arg1 harg1 arg2 harg2 arg3 harg3 arg4 harg4 arg5 harg5 arg6 harg6 arg7 harg7 arg8 harg8 arg9 harg9 arg10 harg10 arg11 harg11 hc0 x0) = xsOf x0 := by
  funext y
  unfold xsA
  refine (View.read_writes_apply_of_pieces arg10.view _ (xsOf (arg1.view.read (Elt Ideal) (harg1.unread x0))) _
    (pb_pieces Variants.none c none i arg1 harg1 arg2 harg2 arg3 harg3 arg4 harg4 arg5 harg5 arg6 harg6 arg7 harg7 arg8 harg8 arg9 harg9 arg10 harg10 arg11 harg11 hc0 (harg1.unread x0) _) y
    (View.cover_of_tiledL (pb_k0_t1 Variants.none c none i arg1 harg1 arg2 harg2 arg3 harg3 arg4 harg4 arg5 harg5 arg6 harg6 arg7 harg7 arg8 harg8 arg9 harg9 arg10 harg10 arg11 harg11 hc0
      kernelRun0_A.sl.v2901 (harg1.unread x0) (Scf.trips k0_t1_loop.lb k0_t1_loop.ub k0_t1_loop.st)) S1x8x2x128.size (by sl_kernel_rfl) y)).trans ?_
  rw [harg1.read_unread]

include hT in
theorem out_A (hc0 : cond0_0 i) :
    out0_A_8 c i arg1 harg1 arg2 harg2 arg3 harg3 arg4 harg4 arg5 harg5 arg6 harg6 arg7 harg7 arg8 harg8 arg9 harg9 arg10 harg10 arg11 harg11 hc0 x0 x1 x2 x3 x4 x5 x6 x7
      = pointOut x0 x1 (scaleAt x2 x3 x4 x6 x7) LV := by
  have hL : (kernelRun0_A c i arg1 harg1 arg2 harg2 arg3 harg3 arg4 harg4 arg5 harg5 arg6 harg6 arg7 harg7 arg8 harg8 arg9 harg9 arg10 harg10 arg11 harg11 hc0 x0 x1 x2 x3 x4 x5 x6 x7).1
      = stores (kernelRun0_A.sl.r_290 c i arg1 harg1 arg2 harg2 arg3 harg3 arg4 harg4 arg5 harg5 arg6 harg6 arg7 harg7 arg8 harg8 arg9 harg9 arg10 harg10 arg11 harg11 hc0 x0 x1 x2 x3 x4 x5 x6 x7)
        (kernelRun0_A.sl.r_291 c i arg1 harg1 arg2 harg2 arg3 harg3 arg4 harg4 arg5 harg5 arg6 harg6 arg7 harg7 arg8 harg8 arg9 harg9 arg10 harg10 arg11 harg11 hc0 x0 x1 x2 x3 x4 x5 x6 x7) := rfl
  rw [even_A, odd_A] at hL
  rw [← woven_accs c i arg1 harg1 arg2 harg2 arg3 harg3 arg4 harg4 arg5 harg5 arg6 harg6 arg7 harg7 arg8 harg8 arg9 harg9 arg10 harg10 arg11 harg11 x0 x1 x5 hT
    (kernelRun0_A.sl.r_108 c arg3 harg3 arg4 harg4 arg5 harg5 arg7 harg7 arg8 harg8 x2 x3 x4 x6 x7) (kernelRun0_A.sl.r_109 c arg3 harg3 arg4 harg4 arg5 harg5 arg7 harg7 arg8 harg8 x2 x3 x4 x6 x7)
    _ _ (xsA_read c i arg1 harg1 arg2 harg2 arg3 harg3 arg4 harg4 arg5 harg5 arg6 harg6 arg7 harg7 arg8 harg8 arg9 harg9 arg10 harg10 arg11 harg11 x0 hc0) (scaleAt x2 x3 x4 x6 x7)
    (funext (scales_A arg3 harg3 arg4 harg4 arg5 harg5 arg7 harg7 arg8 harg8 x2 x3 x4 x6 x7 c arg11 arg11.view.junk))]
  funext y
  refine View.read_writes_apply_of_pieces VO0_8 _ _ _ ?_ y (cover0_A_8 c i arg1 harg1 arg2 harg2 arg3 harg3 arg4 harg4 arg5 harg5 arg6 harg6 arg7 harg7 arg8 harg8 arg9 harg9 arg10 harg10 arg11 harg11 hc0 x0 x1 x2 x3 x4 x5 x6 x7 y)
  rw [hL]
  exact stores_pieces (accs c i arg1 harg1 arg2 harg2 arg3 harg3 arg4 harg4 arg5 harg5 arg6 harg6 arg7 harg7 arg8 harg8 arg9 harg9 arg10 harg10 arg11 harg11 _ _ x5 (harg2.unread x1) _ _)

theorem sout_A (hc0 : cond0_0 i) :
    sout0_A_0 c i arg1 harg1 arg2 harg2 arg3 harg3 arg4 harg4 arg5 harg5 arg6 harg6 arg7 harg7 arg8 harg8 arg9 harg9 arg10 harg10 arg11 harg11 hc0 x0 x1 x2 x3 x4 x5 x6 x7 = xsOf x0 := by
  funext y
  unfold sout0_A_0
  refine (View.read_writes_apply_of_pieces _ _ (xsOf (arg1.view.read (Elt Ideal) (harg1.unread x0))) _
    (pb_pieces Variants.none c none i arg1 harg1 arg2 harg2 arg3 harg3 arg4 harg4 arg5 harg5 arg6 harg6 arg7 harg7 arg8 harg8 arg9 harg9 arg10 harg10 arg11 harg11 hc0 (harg1.unread x0) _) y
    (View.cover_of_tiledL (pb_k0_t1 Variants.none c none i arg1 harg1 arg2 harg2 arg3 harg3 arg4 harg4 arg5 harg5 arg6 harg6 arg7 harg7 arg8 harg8 arg9 harg9 arg10 harg10 arg11 harg11 hc0
      kernelRun0_A.sl.v2901 (harg1.unread x0) (Scf.trips k0_t1_loop.lb k0_t1_loop.ub k0_t1_loop.st)) S1x8x2x128.size (by sl_kernel_rfl) y)).trans ?_
  rw [harg1.read_unread]

include hT in
theorem out_B (hc0 : ¬cond0_0 i) (h0 : xs0 = xsOf x0) (y0 : Vec Ideal S16x12032 .bf16) :
    out0_B_8 c i arg1 harg1 arg2 harg2 arg3 harg3 arg4 harg4 arg5 harg5 arg6 harg6 arg7 harg7 arg8 harg8 arg9 harg9 arg10 harg10 arg11 harg11 hc0 y0 x1 x2 x3 x4 x5 x6 x7 xs0
      = pointOut x0 x1 (scaleAt x2 x3 x4 x6 x7) LV := by
  have hL : (kernelRun0_B c i arg1 harg1 arg2 harg2 arg3 harg3 arg4 harg4 arg5 harg5 arg6 harg6 arg7 harg7 arg8 harg8 arg9 harg9 arg10 harg10 arg11 harg11 hc0 y0 x1 x2 x3 x4 x5 x6 x7 xs0).1
      = stores (kernelRun0_B.sl.r_290 c i arg1 harg1 arg2 harg2 arg3 harg3 arg4 harg4 arg5 harg5 arg6 harg6 arg7 harg7 arg8 harg8 arg9 harg9 arg10 harg10 arg11 harg11 x1 x2 x3 x4 x5 x6 x7 xs0)
        (kernelRun0_B.sl.r_291 c i arg1 harg1 arg2 harg2 arg3 harg3 arg4 harg4 arg5 harg5 arg6 harg6 arg7 harg7 arg8 harg8 arg9 harg9 arg10 harg10 arg11 harg11 x1 x2 x3 x4 x5 x6 x7 xs0) := rfl
  rw [even_B, odd_B] at hL
  rw [← woven_accs c i arg1 harg1 arg2 harg2 arg3 harg3 arg4 harg4 arg5 harg5 arg6 harg6 arg7 harg7 arg8 harg8 arg9 harg9 arg10 harg10 arg11 harg11 x0 x1 x5 hT
    (kernelRun0_B.sl.r_108 c arg3 harg3 arg4 harg4 arg5 harg5 arg7 harg7 arg8 harg8 x2 x3 x4 x6 x7) (kernelRun0_B.sl.r_109 c arg3 harg3 arg4 harg4 arg5 harg5 arg7 harg7 arg8 harg8 x2 x3 x4 x6 x7)
    (harg10.unread xs0) _ ((harg10.read_unread xs0).trans h0) (scaleAt x2 x3 x4 x6 x7)
    (funext (scales_B arg3 harg3 arg4 harg4 arg5 harg5 arg7 harg7 arg8 harg8 x2 x3 x4 x6 x7 c arg11 arg11.view.junk))]
  funext y
  refine View.read_writes_apply_of_pieces VO0_8 _ _ _ ?_ y (cover0_B_8 c i arg1 harg1 arg2 harg2 arg3 harg3 arg4 harg4 arg5 harg5 arg6 harg6 arg7 harg7 arg8 harg8 arg9 harg9 arg10 harg10 arg11 harg11 hc0 y0 x1 x2 x3 x4 x5 x6 x7 xs0 y)
  rw [hL]
  exact stores_pieces (accs c i arg1 harg1 arg2 harg2 arg3 harg3 arg4 harg4 arg5 harg5 arg6 harg6 arg7 harg7 arg8 harg8 arg9 harg9 arg10 harg10 arg11 harg11 _ _ x5 (harg2.unread x1) _ _)

end

end Cert.Unit

end
-- ==== Proof.Levels.lean ====
/- The sixteen levels of a code, and the linear layer as sums over the bytes of a weight row. -/
module

public import proofs.«01_k».proof.Proof.Gen.ReferenceIdeal.Run
public import Idealize.ShloMosaic.Lib.Pointwise

@[expose] public section

set_option maxRecDepth 65536

noncomputable section

namespace Cert.Layer

open Idealize.ShloMosaic

/-- The bf16 word of the level that a code stands for. -/
def LV (n : BitVec 4) : BitVec 16 :=
  if n = 14#4 then 0x3F39#16 else if n = 13#4 then 0x3F10#16 else if n = 12#4 then 0x3EE2#16 else if n = 11#4 then 0x3EAD#16
  else if n = 10#4 then 0x3E7C#16 else if n = 9#4 then 0x3E25#16 else if n = 8#4 then 0x3DA3#16 else if n = 7#4 then 0x0000#16
  else if n = 6#4 then 0xBDBA#16 else if n = 5#4 then 0xBE3D#16 else if n = 4#4 then 0xBE92#16 else if n = 3#4 then 0xBECA#16
  else if n = 2#4 then 0xBF06#16 else if n = 1#4 then 0xBF32#16 else if n = 0#4 then 0xBF80#16 else 0x3F80#16

/-- The scale of block `b` of output row `o`: its code times the scale of its group of 256 blocks, plus the offset. -/
def scale (codes : (⟨2, ![30720, 188]⟩ : Shape).Idx → BitVec 8) (am : (⟨1, ![22560]⟩ : Shape).Idx → EReal) (off : (⟨0, ![]⟩ : Shape).Idx → EReal)
    (o : Fin 30720) (b : Fin 188) : EReal :=
  (((codes (ix2 o b)).toInt : ℝ) : EReal) * am (ix1 (⟨(o.val * 188 + b.val) / 256, by omega⟩ : Fin 22560)) + off ix0

/-- Output `o` of token `q`: the even columns' sum (the high codes of the bytes), then the odd columns' (the low ones). -/
def layer (x : (⟨3, ![16, 1, 12032]⟩ : Shape).Idx → EReal) (w : (⟨2, ![30720, 6016]⟩ : Shape).Idx → BitVec 8)
    (codes : (⟨2, ![30720, 188]⟩ : Shape).Idx → BitVec 8) (am : (⟨1, ![22560]⟩ : Shape).Idx → EReal) (off : (⟨0, ![]⟩ : Shape).Idx → EReal)
    (q : Fin 16) (o : Fin 30720) : EReal :=
  ∑ κ : Fin 6016, x (ix3 q (0 : Fin 1) (⟨2 * κ.val, by omega⟩ : Fin 12032))
      * (Ideal.ofBits .bf16 (LV ((w (ix2 o κ)).extractLsb' 4 4)) * scale codes am off o ⟨κ.val / 32, by omega⟩)
    + ∑ κ : Fin 6016, x (ix3 q (0 : Fin 1) (⟨2 * κ.val + 1, by omega⟩ : Fin 12032))
      * (Ideal.ofBits .bf16 (LV ((w (ix2 o κ)).extractLsb' 0 4)) * scale codes am off o ⟨κ.val / 32, by omega⟩)

theorem level_one : Ideal.ofBits .bf16 0x3F80#16 = 1 := by
  pointwise

theorem level_zero : Ideal.ofBits .bf16 0x0000#16 = 0 := by
  pointwise

/-- One comparison of the chain. -/
theorem pick (n v : BitVec 4) {a b : EReal} {L R : BitVec 16} (ha : a = Ideal.ofBits .bf16 L) (hb : b = Ideal.ofBits .bf16 R) :
    Scalar.select (IntOp.cmpi .eq (n.setWidth 32) (v.setWidth 32)) a b = Ideal.ofBits .bf16 (if n = v then L else R) := by
  subst ha hb
  have key : ∀ n v : BitVec 4, IntOp.cmpi .eq (n.setWidth 32) (v.setWidth 32) = if n = v then 1#1 else 0#1 := by decide +kernel
  rw [key]
  split <;> rfl

/-- The chain of comparisons picks the level of the code. -/
theorem lookup (c : BitVec 32) (n : BitVec 4) (h : c = n.setWidth 32) :
    Scalar.select (IntOp.cmpi .eq c 14#32) (Ideal.ofBits .bf16 0x3F39#16)
      (Scalar.select (IntOp.cmpi .eq c 13#32) (Ideal.ofBits .bf16 0x3F10#16)
      (Scalar.select (IntOp.cmpi .eq c 12#32) (Ideal.ofBits .bf16 0x3EE2#16)
      (Scalar.select (IntOp.cmpi .eq c 11#32) (Ideal.ofBits .bf16 0x3EAD#16)
      (Scalar.select (IntOp.cmpi .eq c 10#32) (Ideal.ofBits .bf16 0x3E7C#16)
      (Scalar.select (IntOp.cmpi .eq c 9#32) (Ideal.ofBits .bf16 0x3E25#16)
      (Scalar.select (IntOp.cmpi .eq c 8#32) (Ideal.ofBits .bf16 0x3DA3#16)
      (Scalar.select (IntOp.cmpi .eq c 7#32) 0
      (Scalar.select (IntOp.cmpi .eq c 6#32) (Ideal.ofBits .bf16 0xBDBA#16)
      (Scalar.select (IntOp.cmpi .eq c 5#32) (Ideal.ofBits .bf16 0xBE3D#16)
      (Scalar.select (IntOp.cmpi .eq c 4#32) (Ideal.ofBits .bf16 0xBE92#16)
      (Scalar.select (IntOp.cmpi .eq c 3#32) (Ideal.ofBits .bf16 0xBECA#16)
      (Scalar.select (IntOp.cmpi .eq c 2#32) (Ideal.ofBits .bf16 0xBF06#16)
      (Scalar.select (IntOp.cmpi .eq c 1#32) (Ideal.ofBits .bf16 0xBF32#16)
      (Scalar.select (IntOp.cmpi .eq c 0#32) (Ideal.ofBits .bf16 0xBF80#16)
      (1)))))))))))))))
      = Ideal.ofBits .bf16 (LV n) := by
  subst h
  exact pick n 14#4 rfl (pick n 13#4 rfl (pick n 12#4 rfl (pick n 11#4 rfl (pick n 10#4 rfl (pick n 9#4 rfl (pick n 8#4 rfl (pick n 7#4 level_zero.symm (pick n 6#4 rfl (pick n 5#4 rfl (pick n 4#4 rfl (pick n 3#4 rfl (pick n 2#4 rfl (pick n 1#4 rfl (pick n 0#4 rfl level_one.symm))))))))))))))

theorem high_code (b : BitVec 8) : IntOp.shrsi .host (b.setWidth 32) 4#32 = (b.extractLsb' 4 4).setWidth 32 := by
  revert b
  decide +kernel

theorem low_code (b : BitVec 8) : IntOp.andi (b.setWidth 32) 15#32 = (b.extractLsb' 0 4).setWidth 32 := by
  revert b
  decide +kernel

theorem sitofp_ext (b : BitVec 8) : (FloatOps.sitofp (F := Ideal) .f32 (b.signExtend 32) : EReal) = ((b.toInt : ℝ) : EReal) := by
  show (((b.signExtend 32).toInt : ℝ) : EReal) = _
  rw [BitVec.toInt_signExtend_of_le (by decide)]

open Cert.ReferenceIdeal Cert.ReferenceIdeal.Gen Cert.ReferenceIdeal.Value in
theorem ref_apply (V0 : Valuation τ sig (Elt Ideal)) (q : Fin 16) (o : Fin 30720) :
    truncf .bf16 (res_main_v119 V0) bitsLt_bf16_f32 (ix2 q o)
      = layer (V0 (Proc.devRef .tc main_arg0)) (V0 (Proc.devRef .tc main_arg1)) (V0 (Proc.devRef .tc main_arg2)) (V0 (Proc.devRef .tc main_arg3))
        (V0 (Proc.devRef .tc main_arg4)) q o := by
  pointwise [res_main_v119, res_main_v112, res_main_v64, res_main_v15, res_main_v13, res_main_v12]
  unfold layer scale
  refine congrArg₂ _ (Finset.sum_congr rfl fun κ _ => ?_) (Finset.sum_congr rfl fun κ _ => ?_)
  · refine congrArg₂ _ (congrArg _ ?_) (congrArg₂ _ (lookup _ _ (high_code _)) ?_)
    · exact congrArg (ix3 q (0 : Fin 1)) (Fin.ext (Nat.mul_comm _ _))
    · rw [sitofp_ext]
      refine congrArg₂ _ (congrArg₂ _ ?_ rfl) rfl
      exact congrArg (fun i : Fin 188 => (((V0 (Proc.devRef .tc main_arg2) (ix2 o i)).toInt : ℝ) : EReal)) (Fin.ext (by dsimp only; omega))
  · refine congrArg₂ _ (congrArg _ ?_) (congrArg₂ _ (lookup _ _ (low_code _)) ?_)
    · exact congrArg (ix3 q (0 : Fin 1)) (Fin.ext (congrArg (· + 1) (Nat.mul_comm _ _)))
    · rw [sitofp_ext]
      refine congrArg₂ _ (congrArg₂ _ ?_ rfl) rfl
      exact congrArg (fun i : Fin 188 => (((V0 (Proc.devRef .tc main_arg2) (ix2 o i)).toInt : ℝ) : EReal)) (Fin.ext (by dsimp only; omega))

end Cert.Layer

end
-- ==== Proof.Inputs.lean ====
/- The blocks that a grid point reads, in terms of the arguments. -/
module

public import proofs.«01_k».proof.Proof.Gen.KernelIdeal.Frame.Runs
public import Idealize.ShloMosaic.Lib.Pipeline.ValueKit.Point

@[expose] public section

set_option maxRecDepth 65536

noncomputable section

namespace Cert.Inputs

open Idealize.ShloMosaic Idealize.ShloMosaic.TcCoe Idealize.SL.Sem Cert.KernelIdeal Cert.KernelIdeal.Gen

variable (m : (ℓ : Loc nD τ sig) → Buf (Elt Ideal) ℓ) (c : Dev nD)

/-- The block that each window reads at a point. -/
theorem idx : ∀ t : Fin cfg0.N, win0_0.index t = ![0, 0] ∧ win0_1.index t = ![t.val, 0] ∧ win0_2.index t = ![t.val, 0] ∧ win0_3.index t = ![t.val, 0, 0]
    ∧ win0_4.index t = ![0] ∧ win0_5.index t = ![0, 0, 0] ∧ win0_6.index t = ![0, 0] ∧ win0_7.index t = ![0, 0] :=
  (by decide +kernel : ∀ t : Fin grid0.N, _)

theorem lt60 (t : Fin cfg0.N) : t.val < 60 := lt_of_lt_of_eq t.isLt N_0

/-! ## What the operations before the grid leave in the buffers that the windows read -/

theorem V_main_v3 : V m c main_v3 = shapeCast S16x12032 (m ((c : Thread nD τ).loc main_arg0)) shapeCasts_S16x1x12032_S16x12032 := by
  unfold V
  simp only [List.flatten_cons, List.flatten_nil, List.cons_append, List.nil_append, List.append_nil, StableHlo.after_cons, StableHlo.after_nil]
  after_results_simp
  rfl

theorem V_main_v4 : V m c main_v4 = pad S30720x256 ![0, 0] ![0, 68] ![0, 0] (m ((c : Thread nD τ).loc main_arg2)) (trunci 8 (constantI S_ 32 0#32) natLt_8_32)
    pads_S30720x188_S30720x256_000_0680 h_S_ := by
  unfold V
  simp only [List.flatten_cons, List.flatten_nil, List.cons_append, List.nil_append, List.append_nil, StableHlo.after_cons, StableHlo.after_nil]
  after_results_simp
  rfl

theorem V_main_v2 : V m c main_v2 = shapeCast S480x1x128 (pad S480x128 ![0, 0] ![0, 81] ![0, 0]
    (shapeCast S480x47 (m ((c : Thread nD τ).loc main_arg3)) shapeCasts_S22560_S480x47) (sitofp (F := Ideal) .f32 (constantI S_ 32 0#32))
    pads_S480x47_S480x128_000_0810 h_S_) shapeCasts_S480x128_S480x1x128 := by
  unfold V
  simp only [List.flatten_cons, List.flatten_nil, List.cons_append, List.nil_append, List.append_nil, StableHlo.after_cons, StableHlo.after_nil]
  after_results_simp
  rfl

theorem V_main_v5 : V m c main_v5 = shapeCast S1 (m ((c : Thread nD τ).loc main_arg4)) shapeCasts_S_S1 := by
  unfold V
  simp only [List.flatten_cons, List.flatten_nil, List.cons_append, List.nil_append, List.append_nil, StableHlo.after_cons, StableHlo.after_nil]
  after_results_simp
  rfl

set_option maxHeartbeats 4000000 in
theorem v3_apply (q : Fin 16) (k : Fin 12032) : (V m c main_v3 : S16x12032.Idx → EReal) (ix2 q k) = m ((c : Thread nD τ).loc main_arg0) (ix3 q (0 : Fin 1) k) := by
  rw [V_main_v3]
  pointwise

theorem v4_apply (o : Fin 30720) (b : Fin 188) :
    (V m c main_v4 : S30720x256.Idx → BitVec 8) (ix2 o (⟨b.val, by omega⟩ : Fin 256)) = m ((c : Thread nD τ).loc main_arg2) (ix2 o b) := by
  rw [V_main_v4]
  pointwise
  refine dif_pos fun a => ?_
  match a with
  | ⟨0, _⟩ => exact ⟨Nat.zero_le _, Nat.mod_one _, by show (o.val - 0) / (0 + 1) < 30720; omega⟩
  | ⟨1, _⟩ => exact ⟨Nat.zero_le _, Nat.mod_one _, by show (b.val - 0) / (0 + 1) < 188; omega⟩

theorem v2_apply (g : Fin 480) (l : Fin 47) :
    (V m c main_v2 : S480x1x128.Idx → EReal) (ix3 g (0 : Fin 1) (⟨l.val, by omega⟩ : Fin 128))
      = m ((c : Thread nD τ).loc main_arg3) (ix1 (⟨g.val * 47 + l.val, by omega⟩ : Fin 22560)) := by
  rw [V_main_v2]
  pointwise

theorem v5_apply (y : S1.Idx) : (V m c main_v5 : S1.Idx → EReal) y = m ((c : Thread nD τ).loc main_arg4) ix0 := by
  rw [V_main_v5]
  unfold shapeCast
  exact congrArg (m ((c : Thread nD τ).loc main_arg4)) (funext fun a => a.elim0)

/-! ## The blocks -/

/-- The activations, whole at every point. -/
theorem x_apply (t : Fin cfg0.N) (q : Fin 16) (k : Fin 12032) :
    (iblk m c 0 t : S16x12032.Idx → EReal) (ix2 q k) = m ((c : Thread nD τ).loc main_arg0) (ix3 q (0 : Fin 1) k) := by
  obtain ⟨e, -⟩ := idx t
  refine Eq.trans ?_ (v3_apply m c q k)
  blk_ext! [iblk, e]

/-- The packed weights of the point's rows. -/
theorem w_apply (t : Fin cfg0.N) (j : Fin 512) (k : Fin 6016) :
    (iblk m c 1 t : S512x6016.Idx → BitVec 8) (ix2 j k)
      = m ((c : Thread nD τ).loc main_arg1) (ix2 (⟨512 * t.val + j.val, by have := lt60 t; omega⟩ : Fin 30720) k) := by
  obtain ⟨-, e, -⟩ := idx t
  blk_ext! [iblk, V, e]

/-- The codes of the point's rows. -/
theorem codes_apply (t : Fin cfg0.N) (j : Fin 512) (b : Fin 188) :
    (iblk m c 2 t : S512x256.Idx → BitVec 8) (ix2 j (⟨b.val, by omega⟩ : Fin 256))
      = m ((c : Thread nD τ).loc main_arg2) (ix2 (⟨512 * t.val + j.val, by have := lt60 t; omega⟩ : Fin 30720) b) := by
  obtain ⟨-, -, e, -⟩ := idx t
  refine Eq.trans ?_ (v4_apply m c _ b)
  blk_ext! [iblk, e]

/-- The scales of the groups, eight chunks of 47 a point. -/
theorem groups_apply (t : Fin cfg0.N) (g : Fin 8) (l : Fin 47) :
    (iblk m c 3 t : S8x1x128.Idx → EReal) (ix3 g (0 : Fin 1) (⟨l.val, by omega⟩ : Fin 128))
      = m ((c : Thread nD τ).loc main_arg3) (ix1 (⟨(8 * t.val + g.val) * 47 + l.val, by have := lt60 t; omega⟩ : Fin 22560)) := by
  obtain ⟨-, -, -, e, -⟩ := idx t
  refine Eq.trans ?_ (v2_apply m c (⟨8 * t.val + g.val, by have := lt60 t; omega⟩ : Fin 480) l)
  blk_ext! [iblk, e]

/-- The offset. -/
theorem off_apply (t : Fin cfg0.N) (y : S1.Idx) :
    (iblk m c 4 t : S1.Idx → EReal) y = m ((c : Thread nD τ).loc main_arg4) ix0 := by
  obtain ⟨-, -, -, -, e, -⟩ := idx t
  refine Eq.trans ?_ (v5_apply m c y)
  blk_ext! [iblk, e]

theorem table_eq (t : Fin cfg0.N) : (iblk m c 5 t : S2x32x128.Idx → BitVec 8) = fun i => lit0 (S2x32x128.rowMajor i) := by
  obtain ⟨-, -, -, -, -, e, -⟩ := idx t
  funext y
  blk_simp [iblk]
  entry_read
  blk_ext [e]

theorem first_eq (t : Fin cfg0.N) : (iblk m c 6 t : S8x128.Idx → BitVec 32) = fun i => lit1 (S8x128.rowMajor i) := by
  obtain ⟨-, -, -, -, -, -, e, -⟩ := idx t
  funext y
  blk_simp [iblk]
  entry_read
  blk_ext [e]

theorem bound_eq (t : Fin cfg0.N) : (iblk m c 7 t : S2x256.Idx → BitVec 32) = fun i => lit2 (S2x256.rowMajor i) := by
  obtain ⟨-, -, -, -, -, -, -, e⟩ := idx t
  funext y
  blk_simp [iblk]
  entry_read
  blk_ext [e]

end Cert.Inputs
-- ==== Proof.Tables.lean ====
/- The constant tables: the levels of the codes, and where a row's blocks change group. -/
module

public import proofs.«01_k».proof.Proof.Out
public import proofs.«01_k».proof.Proof.Levels
public import proofs.«01_k».proof.Proof.Inputs

@[expose] public section

set_option maxRecDepth 65536

noncomputable section

namespace Cert.Inputs

open Idealize.ShloMosaic Idealize.ShloMosaic.TcCoe Idealize.SL.Sem Cert.KernelIdeal Cert.KernelIdeal.Gen Cert.Unit Cert.Layer

/-- Row `a` of plane `h` of the table, at lane `l`. -/
theorem table_rowMajor (h : Fin 2) (a : Fin 32) (l : Fin 128) :
    S2x32x128.rowMajor (ix3 h a l) = (⟨(h.val * 32 + a.val) * 128 + l.val, by show _ < S2x32x128.numel; have : S2x32x128.numel = 8192 := rfl; omega⟩ : Fin S2x32x128.numel) := by
  apply Fin.ext
  rw [Shape.rowMajor_val_three]
  rfl

theorem lit0_row (h : Fin 2) (n : Fin 16) (l : Fin 128) :
    lit0 (⟨(h.val * 32 + n.val) * 128 + l.val, by omega⟩ : Fin 8192) = (LV (BitVec.ofFin n)).extractLsb' (8 * h.val) 8 := by
  have key : ∀ (h : Fin 2) (n : Fin 16) (l : Fin 128),
      lit0 (⟨(h.val * 32 + n.val) * 128 + l.val, by omega⟩ : Fin 8192) = (LV (BitVec.ofFin n)).extractLsb' (8 * h.val) 8 := by
    decide +kernel
  exact key h n l

/-- The chunk in which row `p` of a tile's pairs starts, and where its blocks pass into the next: the row's first block is number
    `188 (2 (p mod 32) + r)` of its sixty-four rows. -/
theorem first_lit (r : Fin 2) (l : Fin 128) :
    (wrap (fun i => lit1 (S8x128.rowMajor i)) (ix2 (⟨r.val, by omega⟩ : Fin 8) l)).toNat % 128 = (2 * (l.val % 32) + r.val) * 188 / 256
    ∧ ((wrap (fun i => lit1 (S8x128.rowMajor i)) (ix2 (⟨2 + r.val, by omega⟩ : Fin 8) l)).toNat % 128
        = min ((2 * (l.val % 32) + r.val) * 188 / 256 + 1) 46) := by
  have key : ∀ (r : Fin 2) (l : Fin 128),
    (wrap (fun i => lit1 (S8x128.rowMajor i)) (ix2 (⟨r.val, by omega⟩ : Fin 8) l)).toNat % 128 = (2 * (l.val % 32) + r.val) * 188 / 256
    ∧ ((wrap (fun i => lit1 (S8x128.rowMajor i)) (ix2 (⟨2 + r.val, by omega⟩ : Fin 8) l)).toNat % 128
        = min ((2 * (l.val % 32) + r.val) * 188 / 256 + 1) 46) := by decide +kernel
  exact key r l

theorem bound_lit (r : Fin 2) (p : Fin 256) :
    lit2 (S2x256.rowMajor (ix2 r p)) = BitVec.ofNat 32 (((2 * (p.val % 32) + r.val) * 188 / 256 + 1) * 256 - (2 * (p.val % 32) + r.val) * 188) := by
  have key : ∀ (r : Fin 2) (p : Fin 256),
    lit2 (S2x256.rowMajor (ix2 r p)) = BitVec.ofNat 32 (((2 * (p.val % 32) + r.val) * 188 / 256 + 1) * 256 - (2 * (p.val % 32) + r.val) * 188) := by
    decide +kernel
  exact key r p

/-- Comparing small words as signed ones. -/
theorem sle_small (a b : ℕ) (ha : a ≤ 256) (hb : b ≤ 256) : (BitVec.ofNat 32 a).sle (BitVec.ofNat 32 b) = decide (a ≤ b) := by
  have e : ∀ n : ℕ, n ≤ 256 → (BitVec.ofNat 32 n).toInt = (n : ℤ) := by
    intro n hn
    rw [BitVec.toInt_eq_toNat_of_lt (by rw [BitVec.toNat_ofNat]; omega), BitVec.toNat_ofNat]
    omega
  unfold BitVec.sle
  rw [e a ha, e b hb]
  simp

variable (m : (ℓ : Loc nD τ sig) → Buf (Elt Ideal) ℓ) (c : Dev nD)

/-- The two tables that the kernel reads hold the low and the high bytes of the levels. -/
theorem tables (t : Fin cfg0.N) (arg6 : Memref sig .tc .vmem S2x32x128 .i8) (harg6 : arg6.IsWhole) :
    Tables (k0_pay801 (table0 (F := Ideal) arg6 harg6 (iblk m c 5 t))) (k0_pay802 (table1 (F := Ideal) arg6 harg6 (iblk m c 5 t))) LV := by
  have read : ∀ (h : Fin 2) (inb) (a : Fin 32) (l : Fin 128),
      shapeCast S32x128 (View.readAt (Elt Ideal) arg6.view (Rect.unit (s := S2x32x128) ![h.val, 0, 0] S1x32x128.size inb).toLoadRect (harg6.unread (iblk m c 5 t)))
        shapeCasts_S1x32x128_S32x128 (ix2 a l) = lit0 (S2x32x128.rowMajor (ix3 h a l)) := by
    intro h inb a l
    refine (shapeCast_apply _ _ _ (ix3 (0 : Fin 1) a l) ?_).trans ?_
    · rw [Shape.rowMajor_val_two, Shape.rowMajor_val_three]
      show ((0 : ℕ) * 32 + a.val) * 128 + l.val = a.val * 128 + l.val
      omega
    rw [View.readAt_eq_ld]
    refine (View.ld_unit_apply_of _ _ _ _ _ (ix3 h a l) ?_).trans ?_
    · intro b
      match b with
      | ⟨0, _⟩ => show h.val = h.val + 0; omega
      | ⟨1, _⟩ => show a.val = 0 + a.val; omega
      | ⟨2, _⟩ => show l.val = 0 + l.val; omega
    rw [harg6.read_unread, table_eq]
  constructor
  · intro n a l ha
    refine (read 0 _ a l).trans ?_
    rw [table_rowMajor]
    refine Eq.trans ?_ (lit0_row 0 n.toFin l)
    exact congrArg lit0 (Fin.ext (by show _ = (0 * 32 + n.toNat) * 128 + l.val; rw [← ha]; rfl))
  · intro n a l ha
    refine (read 1 _ a l).trans ?_
    rw [table_rowMajor]
    refine Eq.trans ?_ (lit0_row 1 n.toFin l)
    exact congrArg lit0 (Fin.ext (by show _ = (1 * 32 + n.toNat) * 128 + l.val; rw [← ha]; rfl))

/-- The scale that a point computes for a block of one of its rows is the layer's. -/
theorem scale_eq (t : Fin cfg0.N) (r : Fin 2) (p : Fin 256) (b : Fin 188) :
    scaleOf (iblk m c 2 t) (iblk m c 3 t) (iblk m c 4 t) (iblk m c 6 t) (iblk m c 7 t) r (⟨b.val, by omega⟩ : Fin 192) p
      = scale (m ((c : Thread nD τ).loc main_arg2)) (m ((c : Thread nD τ).loc main_arg3)) (m ((c : Thread nD τ).loc main_arg4))
          (⟨512 * t.val + (2 * p.val + r.val), by have := lt60 t; omega⟩ : Fin 30720) b := by
  have ht := lt60 t
  have hr := r.isLt
  have hb := b.isLt
  have hp := p.isLt
  have hmod : p.val % 128 % 32 = p.val % 32 := by omega
  have group : ∀ (q : Fin 8) (n : ℕ) (hn : n < 47)
      (hq : (wrap (fun i => lit1 (S8x128.rowMajor i)) (ix2 q (⟨p.val % 128, by omega⟩ : Fin 128))).toNat % 128 = n)
      (he : (8 * t.val + p.val / 32) * 47 + n = ((512 * t.val + (2 * p.val + r.val)) * 188 + b.val) / 256),
      groupAt (iblk m c 3 t) (iblk m c 6 t) q p
        = m ((c : Thread nD τ).loc main_arg3) (ix1 (⟨((512 * t.val + (2 * p.val + r.val)) * 188 + b.val) / 256, by omega⟩ : Fin 22560)) := by
    intro q n hn hq he
    unfold groupAt
    rw [first_eq]
    refine Eq.trans ?_ ((groups_apply m c t (⟨p.val / 32, by omega⟩ : Fin 8) (⟨n, hn⟩ : Fin 47)).trans ?_)
    · exact congrArg (fun l : Fin 128 => (iblk m c 3 t : S8x1x128.Idx → EReal) (ix3 (⟨p.val / 32, by omega⟩ : Fin 8) (0 : Fin 1) l)) (Fin.ext hq)
    · exact congrArg (fun l : Fin 22560 => m ((c : Thread nD τ).loc main_arg3) (ix1 l)) (Fin.ext he)
  unfold scaleOf scale
  rw [off_apply]
  refine congrArg₂ _ (congrArg₂ _ ?_ ?_) rfl
  · exact congrArg (fun x : BitVec 8 => ((x.toInt : ℝ) : EReal)) (codes_apply m c t (⟨2 * p.val + r.val, by omega⟩ : Fin 512) b)
  · have hB := (congrFun (bound_eq m c t) (ix2 r p)).trans (bound_lit r p)
    rw [hB, sle_small _ _ (by omega) (by omega)]
    obtain ⟨f0, f1⟩ := first_lit r (⟨p.val % 128, by omega⟩ : Fin 128)
    dsimp only at f0 f1
    rw [hmod] at f0 f1
    by_cases hc : ((2 * (p.val % 32) + r.val) * 188 / 256 + 1) * 256 - (2 * (p.val % 32) + r.val) * 188 ≤ b.val
    · rw [if_pos (decide_eq_true hc)]
      exact group _ _ (by omega) f1 (by omega)
    · rw [if_neg (by simpa using hc)]
      exact group _ _ (by omega) f0 (by omega)

end Cert.Inputs
-- ==== Proof.Value.lean ====
/- The output array of the ideal kernel after its run: what each grid point wrote, block by block, as one fold over the
   points. -/
module

public import proofs.«01_k».proof.Proof.Frame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 8's array: the run's contents for that window after the body (`Gen.outsAt0`: its component 0), read through the window's block. -/
theorem flushed8 (c : Dev nD) (t : Fin cfg0.N) :
    (dats m 0 c).flushed 8 t = (cfg0.win 8).cut (grid0.coords t) ((outsAt0 m c t.val t.isLt).1) := by
  show (cfg0.win 8).cut (grid0.coords t) ((dats m 0 c).after 8 t) = _
  rw [after0_8]

/-- … so at a point where case A runs, what its write-back would write is that case's NAMED TERM for the window (`Gen.out0_A_8`: the pieces
    its run found, read back) at the point's memrefs and input blocks, and for an output the case reads back what the point before left (`Gen.outsAt0` at `t - 1`) — by the frame's rewriting lemma for the case. -/
theorem flushed8_A (c : Dev nD) (t : Fin cfg0.N) (h0 : t.val % 60 = 0) :
    (dats m 0 c).flushed 8 t = (cfg0.win 8).cut (grid0.coords t) (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t)) := by
  simp only [flushed8, outsAt0_A m c t h0]

/-- … so at a point where case B runs, what its write-back would write is that case's NAMED TERM for the window (`Gen.out0_B_8`: the pieces
    its run found, read back) at the point's memrefs and input blocks, and for an output the case reads back what the point before left (`Gen.outsAt0` at `t - 1`) — by the frame's rewriting lemma for the case. -/
theorem flushed8_B (c : Dev nD) (t : Fin cfg0.N) (h0 : ¬t.val % 60 = 0) :
    (dats m 0 c).flushed 8 t = (cfg0.win 8).cut (grid0.coords t) (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2) := by
  simp only [flushed8, outsAt0_B m c t h0]

/-- The index map sends distinct grid points to distinct block indices (decided over the 60 points). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S16x30720.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v6) = (dats m 0 c).arrAt 8 cfg0.N :=
  (h c).1 8

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v6) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post8 m r h c,
      kept_main_arg0 m r h c,
      kept_main_arg1 m r h c,
      kept_main_arg2 m r h c,
      kept_main_arg3 m r h c,
      kept_main_arg4 m r h c⟩)
    (run_main m ρ)

/-! ## Carried scratch 0: what each point leaves in it, and its fold -/

/-- What point `n` leaves in carried scratch 0, over what the point before left in it (`acc`): the case the conditions'
    closed forms select at `n`, the frame's own term for it (`Gen.sout0_κ_0`; anything else the case takes of the point
    before, another carried scratch or an output it reads back, stays `Gen.outsAt0`'s at `n - 1`); a case at the first point
    stores the scratch whole without reading what it held, and `acc` does not enter there (nor where no point meets the
    conditions: `acc`, never read). -/
def scAt0_0 (c : Dev nD) (n : ℕ) (hb : n < cfg0.N) (acc : Vec F S2x8x2x6016 .bf16) : Vec F S2x8x2x6016 .bf16 :=
  if h0 : n % 60 = 0 then
    sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) scM0_1 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N))
  else
    sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) scM0_1 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) acc

/-- WHAT CARRIED SCRATCH 0 HOLDS after point `t`: the fold of its run up to `t`, from the reset at the run's first point
    `60·(t / 60)` (Lib/Pipeline/Value.lean `Pipeline.eq_accAt_of_mod`, by the frame's `outsAt0_κ`; without enumerating the points). -/
theorem soutsAt0_0_eq (c : Dev nD) (t : Fin cfg0.N) :
    (outsAt0 m c t.val t.isLt).2 = Pipeline.accAt (fun n h => scAt0_0 m c n h (VS0_0.read (Elt F) VS0_0.junk)) (scAt0_0 m c) (60 * (t.val / 60)) (t.val % 60)
      (by have h1 := t.isLt; have h2 := Nat.div_add_mod t.val 60; omega) :=
  Pipeline.eq_accAt_of_mod (fun n h => (outsAt0 m c n h).2) 60 (fun n h => scAt0_0 m c n h (VS0_0.read (Elt F) VS0_0.junk)) (scAt0_0 m c)
    (fun n h hn => by
      have hN := lt_of_lt_of_eq h (show cfg0.N = 60 from N_0)
      by_cases h0 : n % 60 = 0
      all_goals first | (exfalso; omega) | (rw [outsAt0_A m c ⟨n, h⟩ h0]; dsimp only; unfold scAt0_0; rw [dif_pos h0] <;> try rfl) | (rw [outsAt0_B m c ⟨n, h⟩ h0]; dsimp only; unfold scAt0_0; rw [dif_neg h0] <;> try rfl))
    (fun n h hn => by
      have hN := lt_of_lt_of_eq h (show cfg0.N = 60 from N_0)
      by_cases h0 : (n + 1) % 60 = 0
      all_goals first | (exfalso; omega) | (rw [outsAt0_A m c ⟨n + 1, h⟩ h0]; dsimp only; unfold scAt0_0; rw [dif_pos h0] <;> try rfl) | (rw [outsAt0_B m c ⟨n + 1, h⟩ h0]; dsimp only; unfold scAt0_0; rw [dif_neg h0] <;> try rfl))
    (by decide) t.val t.isLt _

/-- One run spans the grid (the only reset is at point 0): after point `n` the scratch is the fold from 0 to `n`. -/
theorem soutsAt0_0_sweep (c : Dev nD) (n : ℕ) (hn : n < cfg0.N) :
    (outsAt0 m c n hn).2 = Pipeline.accAt (fun n h => scAt0_0 m c n h (VS0_0.read (Elt F) VS0_0.junk)) (scAt0_0 m c) 0 n (by omega) := by
  have e := soutsAt0_0_eq m c ⟨n, hn⟩
  have hN := lt_of_lt_of_eq hn (show cfg0.N = 60 from N_0)
  have hd : n / 60 = 0 := Nat.div_eq_of_lt hN
  have hm : n % 60 = n := Nat.mod_eq_of_lt hN
  simpa only [hd, hm, Nat.mul_zero] using e

/-! ## The carried state as one fold: the named outputs and the carried scratch, from the first point -/

/-- What the fold starts from: NOTHING NAMED, each named output's and carried scratch's buffer read at junk. No case
    computes from it: the first point's case stores what it names before reading; only an output that case leaves
    idle keeps its junk component. -/
def junk0 : Vec F S16x512 .bf16 × Vec F S2x8x2x6016 .bf16 :=
  ((VO0_8.read (Elt F) VO0_8.junk, VS0_0.read (Elt F) VS0_0.junk) : Vec F S16x512 .bf16 × Vec F S2x8x2x6016 .bf16)

/-- THE STEP: what point `n` leaves in the named outputs and the carried scratch (`Gen.outsAt0`'s tuple), over what the
    point before left (`acc`) — `Gen.outsAt0`'s own successor arm: the case the closed forms select at `n`, its named
    terms at the point's memrefs and input blocks; whatever the case reads back, takes by name or carries idle is read
    off `acc`. An assignment of the conditions no point meets is no case (`False.elim`). -/
def stAt0 (c : Dev nD) (n : ℕ) (hb : n < cfg0.N) (acc : Vec F S16x512 .bf16 × Vec F S2x8x2x6016 .bf16) : Vec F S16x512 .bf16 × Vec F S2x8x2x6016 .bf16 :=
  if h0 : n % 60 = 0 then
    (out0_A_8 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) scM0_1 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)), sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) scM0_1 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)))
  else
    (out0_B_8 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) scM0_1 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) acc.2, sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) scM0_1 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) acc.2)

/-- `stAt0` at a point of case A: that case's contents. -/
theorem stAt0_A (c : Dev nD) (t : Fin cfg0.N) (acc : Vec F S16x512 .bf16 × Vec F S2x8x2x6016 .bf16) (h0 : t.val % 60 = 0) :
    stAt0 m c t.val t.isLt acc = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t)) :=
  (dif_pos h0).trans rfl

/-- `stAt0` at a point of case B: that case's contents, over `acc`. -/
theorem stAt0_B (c : Dev nD) (t : Fin cfg0.N) (acc : Vec F S16x512 .bf16 × Vec F S2x8x2x6016 .bf16) (h0 : ¬t.val % 60 = 0) :
    stAt0 m c t.val t.isLt acc = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) acc.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) acc.2) :=
  (dif_neg h0).trans rfl

/-- The recursion's successor step is `stAt0`, by definition. -/
theorem outsAt0_succ (c : Dev nD) (n : ℕ) (hn : n + 1 < cfg0.N) :
    outsAt0 m c (n + 1) hn = stAt0 m c (n + 1) hn (outsAt0 m c n (Nat.lt_of_succ_lt hn)) := rfl

/-- At the first point the recursion is `stAt0` from `junk0`: its case (case A) reads nothing back. -/
theorem outsAt0_zero (c : Dev nD) (hn : 0 < cfg0.N) : outsAt0 m c 0 hn = stAt0 m c 0 hn junk0 := by
  rw [stAt0_A m c ⟨0, hn⟩ _ (Nat.zero_mod _)]
  rfl

/-- WHAT THE NAMED OUTPUTS AND THE CARRIED SCRATCH HOLD after point `n`: the fold of `stAt0` from the first point,
    started at `junk0` (Lib/Pipeline/Value.lean `Pipeline.accAt`; by `eq_accAt_of_mod` at one run spanning the grid,
    without enumerating the points). -/
theorem outsAt0_sweep (c : Dev nD) (n : ℕ) (hn : n < cfg0.N) :
    outsAt0 m c n hn = Pipeline.accAt (fun n h => stAt0 m c n h junk0) (stAt0 m c) 0 n (by omega) := by
  have hN := lt_of_lt_of_eq hn (show cfg0.N = 60 from N_0)
  have e := Pipeline.eq_accAt_of_mod (fun n h => outsAt0 m c n h) 60 (fun n h => stAt0 m c n h junk0) (stAt0 m c)
    (fun n h _ => by
      have hN := lt_of_lt_of_eq h (show cfg0.N = 60 from N_0)
      obtain rfl : n = 0 := by omega
      exact outsAt0_zero m c h)
    (fun n h _ => outsAt0_succ m c n h)
    (by decide) n hn (by have := Nat.div_add_mod n 60; omega)
  have hd : n / 60 = 0 := Nat.div_eq_of_lt hN
  have hm : n % 60 = n := Nat.mod_eq_of_lt hN
  simpa only [hd, hm, Nat.mul_zero] using e

/-! ## Accumulated: each named output's array, the carried state's fold read at the window's flushing points -/

/-- Two folds from the first point of equal length are one (the bound's proof does not enter). -/
theorem fold0_congr (c : Dev nD) : ∀ (j : ℕ) (h : 0 + j < cfg0.N) (j' : ℕ) (h' : 0 + j' < cfg0.N), j = j' →
    Pipeline.accAt (fun n h => stAt0 m c n h junk0) (stAt0 m c) 0 j h = Pipeline.accAt (fun n h => stAt0 m c n h junk0) (stAt0 m c) 0 j' h' := by
  intro j h j' h' hj; subst hj; rfl

/-! ## Output window 8 -/

/-- The block of the array that holds index `i`, numbered in the order the points write the blocks back (one per point),
    `i`'s place in it, and the point that writes it back. -/
abbrev run8Of (i : S16x30720.Idx) : ℕ := 60 * ((i 0).val / 16 - 0) + 1 * ((i 1).val / 512 - 0)
set_option backward.proofsInPublic true in
abbrev loc8Of (i : S16x30720.Idx) : S16x512.Idx := fun a => match a with
  | ⟨0, _⟩ => ⟨(i 0).val % 16, Nat.mod_lt _ (by decide)⟩
  | ⟨1, _⟩ => ⟨(i 1).val % 512, Nat.mod_lt _ (by decide)⟩
abbrev pt8Of (i : S16x30720.Idx) : ℕ := run8Of i

/-- WHAT THE ARRAY ENDS HOLDING at index `i` inside the box the flushing blocks fill: output 8's component of the carried
    state's fold at the point that writes `i`'s block back, at `i`'s place in the block. `G8` states the array's contents
    only inside the box. -/
def G8 (c : Dev nD) : Buf (Elt F) ((c : Thread nD τ).loc main_v6) := fun i =>
  if h : pt8Of i < cfg0.N then
    (Pipeline.accAt (fun n h => stAt0 m c n h junk0) (stAt0 m c) 0 (pt8Of i) (by omega)).1 (loc8Of i)
  else V m c (Pipeline.arrRef spec0 8) i

/-- The printed index map, decided over the grid: output window 8's block indices stay in the box, and the block number
    read off them is the point's (`t`). -/
theorem idx_facts8 : ∀ t : Fin cfg0.N, 0 ≤ win0_8.index t (0 : Fin 2) ∧ win0_8.index t (0 : Fin 2) ≤ 0
    ∧ 0 ≤ win0_8.index t (1 : Fin 2) ∧ win0_8.index t (1 : Fin 2) ≤ 59
    ∧ 60 * (win0_8.index t (0 : Fin 2) - 0) + 1 * (win0_8.index t (1 : Fin 2) - 0) = t.val :=
  (by decide +kernel : ∀ t : Fin grid0.N, _)

/-- Every block of the box is SOME flushing point's: `onto8Pt`, the point that writes back the block at place `q` of the box. -/
abbrev onto8Pt (q0 : Fin 1) (q1 : Fin 60) : Fin grid0.N :=
  ⟨60 * q0.val + 1 * q1.val, lt_of_lt_of_eq (by omega) N_0.symm⟩
theorem idx_onto8 : ∀ (q0 : Fin 1) (q1 : Fin 60), ∃ t : Fin cfg0.N, (cfg0.win 8).flush t = true ∧ win0_8.index t = ![q0.val + 0, q1.val + 0] :=
  fun q0 q1 => ⟨onto8Pt q0 q1, (by decide +kernel : ∀ (q0 : Fin 1) (q1 : Fin 60), win0_8.flush (onto8Pt q0 q1) = true ∧ win0_8.index (onto8Pt q0 q1) = ![q0.val + 0, q1.val + 0]) q0 q1⟩

/-- WHAT A FLUSHING POINT `t` WRITES BACK is block `t` of `G8`: output 8's component of the fold up to `t`. -/
theorem flushed8_eq (c : Dev nD) (t : Fin cfg0.N) (hf : (cfg0.win 8).flush t = true) :
    (dats m 0 c).flushed 8 t = ((cfg0.win 8).blk t).view.read (Elt F) (G8 m c) := by
  show (cfg0.win 8).cut (grid0.coords t) ((dats m 0 c).after 8 t) = _
  rw [after0_8, outsAt0_sweep]
  obtain ⟨e0, e1, e2⟩ := idx_facts8 t
  funext y
  have hy0 : (y 0).val < 16 := (y 0).isLt
  have hy1 : (y 1).val < 512 := (y 1).isLt
  have hb0 : (((cfg0.win 8).blk t).view.emb y 0).val = win0_8.index t (0 : Fin 2) * 16 + 1 * (y 0).val := rfl
  have hb1 : (((cfg0.win 8).blk t).view.emb y 1).val = win0_8.index t (1 : Fin 2) * 512 + 1 * (y 1).val := rfl
  have hr : run8Of (((cfg0.win 8).blk t).view.emb y) = t.val := by
    show 60 * ((((cfg0.win 8).blk t).view.emb y 0).val / 16 - 0) + 1 * ((((cfg0.win 8).blk t).view.emb y 1).val / 512 - 0) = _
    rw [hb0, hb1]
    rw [show (win0_8.index t (0 : Fin 2) * 16 + 1 * (y 0).val) / 16 = win0_8.index t (0 : Fin 2) from by omega]; rw [show (win0_8.index t (1 : Fin 2) * 512 + 1 * (y 1).val) / 512 = win0_8.index t (1 : Fin 2) from by omega]
    omega
  have hl : loc8Of (((cfg0.win 8).blk t).view.emb y) = (cfg0.win 8).xinj (grid0.coords t) y := by
    funext a; apply Fin.ext
    match a with
    | ⟨0, _⟩ => show (((cfg0.win 8).blk t).view.emb y 0).val % 16 = (y 0).val; rw [hb0]; omega
    | ⟨1, _⟩ => show (((cfg0.win 8).blk t).view.emb y 1).val % 512 = (y 1).val; rw [hb1]; omega
  have hp : pt8Of (((cfg0.win 8).blk t).view.emb y) = t.val := by
    exact hr
  show (Pipeline.accAt (fun n h => stAt0 m c n h junk0) (stAt0 m c) 0 t.val _).1 ((cfg0.win 8).xinj (grid0.coords t) y) = G8 m c (((cfg0.win 8).blk t).view.emb y)
  unfold G8
  rw [dif_pos (by rw [hp]; exact t.isLt), hl, fold0_congr m c _ _ _ _ hp.symm]

/-- An index of the array is in point `t`'s block iff each coordinate is in the block's range on its axis. -/
theorem mem_blk8 (t : Fin cfg0.N) (i : S16x30720.Idx) :
    i ∈ ((cfg0.win 8).blk t).view.set ↔ ∀ a : Fin 2, win0_8.index t a * S16x512.size a ≤ (i a).val ∧ (i a).val < win0_8.index t a * S16x512.size a + S16x512.size a := by
  show i ∈ ((View.whole main_v6).slice (win0_8.rect t)).set ↔ _
  rw [View.set_slice_whole, Rect.mem_set_unit]
  exact Iff.rfl

/-- THE COVERED INDICES: in some flushing point's block iff inside the box those blocks fill. -/
theorem covered_iff8 (i : S16x30720.Idx) :
    (∃ t : Fin cfg0.N, (cfg0.win 8).flush t = true ∧ i ∈ ((cfg0.win 8).blk t).view.set) ↔ 0 ≤ (i 0).val ∧ (i 0).val < 16 ∧ 0 ≤ (i 1).val ∧ (i 1).val < 30720 := by
  constructor
  · rintro ⟨t, -, hi⟩
    rw [mem_blk8] at hi
    have b0 : win0_8.index t (0 : Fin 2) * 16 ≤ (i 0).val ∧ (i 0).val < win0_8.index t (0 : Fin 2) * 16 + 16 := hi 0
    have b1 : win0_8.index t (1 : Fin 2) * 512 ≤ (i 1).val ∧ (i 1).val < win0_8.index t (1 : Fin 2) * 512 + 512 := hi 1
    obtain ⟨e0, e1, e2⟩ := idx_facts8 t
    omega
  · intro h
    have hi0 : (i 0).val < 16 := (i 0).isLt
    have hi1 : (i 1).val < 30720 := (i 1).isLt
    obtain ⟨t, hft, ht⟩ := idx_onto8 ⟨(i 0).val / 16 - 0, by omega⟩ ⟨(i 1).val / 512 - 0, by omega⟩
    have q0 : win0_8.index t (0 : Fin 2) = (i 0).val / 16 - 0 + 0 := congrFun ht 0
    have q1 : win0_8.index t (1 : Fin 2) = (i 1).val / 512 - 0 + 0 := congrFun ht 1
    refine ⟨t, hft, ?_⟩
    rw [mem_blk8]
    intro a
    match a with
    | ⟨0, _⟩ => show win0_8.index t (0 : Fin 2) * 16 ≤ (i 0).val ∧ (i 0).val < win0_8.index t (0 : Fin 2) * 16 + 16; omega
    | ⟨1, _⟩ => show win0_8.index t (1 : Fin 2) * 512 ≤ (i 1).val ∧ (i 1).val < win0_8.index t (1 : Fin 2) * 512 + 512; omega

/-- THE ARRAY after the run: `G8` (the flushing blocks tile it). -/
theorem final8 (c : Dev nD) : (dats m 0 c).arrAt 8 cfg0.N = G8 m c :=
  (dats m 0 c).arrAt_eq_of_cover 8 _ (fun t hf => flushed8_eq m c t hf) (fun i => (covered_iff8 i).2 (by
    have h0 : (i 0).val < 16 := (i 0).isLt; have h1 : (i 1).val < 30720 := (i 1).isLt; omega))

/-! ## The run, read -/

/-- The frame run re-posted: each output array at the fold the runs leave in it, the arguments unchanged. -/
theorem run : θ_run defs (onTc (τ := τ) (main (F := F))) ⟨m, fun _ => 0, ρ⟩ fun r => ∀ c : Dev nD,
      r.2.mem ((c : Thread nD τ).loc main_v6) = G8 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(post8 m r h c).trans (final8 m c),
      kept_main_arg0 m r h c,
      kept_main_arg1 m r h c,
      kept_main_arg2 m r h c,
      kept_main_arg3 m r h c,
      kept_main_arg4 m r h c⟩)
    (run_main m ρ)

end Cert.KernelIdeal.Value

end
-- ==== Proof.Point.lean ====
/- What the ideal kernel leaves, point by point and as a whole: the linear layer. -/
module

public import proofs.«01_k».proof.Proof.Tables
public import proofs.«01_k».proof.Proof.Value

@[expose] public section

set_option maxRecDepth 65536

noncomputable section

namespace Cert.Inputs

open Idealize.ShloMosaic Idealize.ShloMosaic.TcCoe Idealize.SL.Sem Cert.KernelIdeal Cert.KernelIdeal.Gen Cert.KernelIdeal.Value Cert.Unit Cert.Layer

variable (m : (ℓ : Loc nD τ sig) → Buf (Elt Ideal) ℓ) (c : Dev nD)

/-- Every point reads the same activations. -/
theorem x_const (t t' : Fin cfg0.N) : (iblk m c 0 t : S16x12032.Idx → EReal) = (iblk m c 0 t' : S16x12032.Idx → EReal) := by
  funext y
  have hy : y = ix2 (y 0 : Fin 16) (y 1 : Fin 12032) := by
    funext b
    match b with
    | ⟨0, _⟩ => rfl
    | ⟨1, _⟩ => rfl
  rw [hy]
  exact (x_apply m c t _ _).trans (x_apply m c t' _ _).symm

/-- The contents after a point: its output block, and the activations in the carried scratch. -/
theorem outs_eq (n : ℕ) (hn : n < cfg0.N) :
    (outsAt0 m c n hn).1 = pointOut (iblk m c 0 ⟨n, hn⟩) (iblk m c 1 ⟨n, hn⟩)
        (scaleAt (iblk m c 2 ⟨n, hn⟩) (iblk m c 3 ⟨n, hn⟩) (iblk m c 4 ⟨n, hn⟩) (iblk m c 6 ⟨n, hn⟩) (iblk m c 7 ⟨n, hn⟩)) LV
      ∧ (outsAt0 m c n hn).2 = xsOf (iblk m c 0 ⟨n, hn⟩) := by
  induction n with
  | zero =>
    have e := outsAt0_A m c ⟨0, hn⟩ rfl
    refine ⟨(congrArg Prod.fst e).trans ?_, (congrArg Prod.snd e).trans ?_⟩
    · dsimp only
      exact out_A _ _ _ _ _ _ _ _ _ _ _ _ _ _ _ _ _ _ _ _ _ _ _ _ _ _ _ _ _ _ _ _ (tables m c _ _ _) _
    · dsimp only
      exact sout_A _ _ _ _ _ _ _ _ _ _ _ _ _ _ _ _ _ _ _ _ _ _ _ _ _ _ _ _ _ _ _ _ _
  | succ n ih =>
    have h60 := lt60 ⟨n + 1, hn⟩
    have h0 : ¬(n + 1) % 60 = 0 := by
      dsimp only at h60
      omega
    have e := outsAt0_B m c ⟨n + 1, hn⟩ h0
    have hs : (outsAt0 m c n (Nat.lt_of_succ_lt hn)).2 = xsOf (iblk m c 0 ⟨n + 1, hn⟩) :=
      (ih (Nat.lt_of_succ_lt hn)).2.trans (congrArg xsOf (x_const m c _ _))
    refine ⟨(congrArg Prod.fst e).trans ?_, (congrArg Prod.snd e).trans ?_⟩
    · dsimp only
      exact out_B _ _ _ _ _ _ _ _ _ _ _ _ _ _ _ _ _ _ _ _ _ _ _ _ _ _ _ _ _ _ _ _ _ (tables m c _ _ _) _ hs _
    · exact hs

/-- One product of the layer: the column of nibble `nib` of byte `κ`. -/
def product (x : S16x1x12032.Idx → EReal) (w : S30720x6016.Idx → BitVec 8) (codes : S30720x188.Idx → BitVec 8) (am : S22560.Idx → EReal) (off : S_.Idx → EReal)
    (q : Fin 16) (o : Fin 30720) (nib : Fin 2) (κ : Fin 6016) : EReal :=
  x (ix3 q (0 : Fin 1) (⟨2 * κ.val + 1 - nib.val, by omega⟩ : Fin 12032))
    * (Ideal.ofBits .bf16 (LV (byteNib (w (ix2 o κ)) nib.val)) * scale codes am off o (⟨κ.val / 32, by omega⟩ : Fin 188))

/-- A point's output, at row `q` and column `512 t + j`. -/
theorem point_apply (t : Fin cfg0.N) (q : Fin 16) (j : Fin 512) :
    pointOut (iblk m c 0 t) (iblk m c 1 t) (scaleAt (iblk m c 2 t) (iblk m c 3 t) (iblk m c 4 t) (iblk m c 6 t) (iblk m c 7 t)) LV (ix2 q j)
      = layer (m ((c : Thread nD τ).loc main_arg0)) (m ((c : Thread nD τ).loc main_arg1)) (m ((c : Thread nD τ).loc main_arg2))
          (m ((c : Thread nD τ).loc main_arg3)) (m ((c : Thread nD τ).loc main_arg4)) q (⟨512 * t.val + j.val, by have := lt60 t; omega⟩ : Fin 30720) := by
  have ht := lt60 t
  have one : ∀ (nib : Fin 2) (κ : Fin 6016),
      term (xsOf (iblk m c 0 t)) (iblk m c 1 t) (scaleAt (iblk m c 2 t) (iblk m c 3 t) (iblk m c 4 t) (iblk m c 6 t) (iblk m c 7 t)) LV nib
          (⟨j.val % 2, by omega⟩ : Fin 2) q (⟨j.val / 2, by omega⟩ : Fin 256) κ.val
        = product (m ((c : Thread nD τ).loc main_arg0)) (m ((c : Thread nD τ).loc main_arg1)) (m ((c : Thread nD τ).loc main_arg2))
          (m ((c : Thread nD τ).loc main_arg3)) (m ((c : Thread nD τ).loc main_arg4)) q (⟨512 * t.val + j.val, by omega⟩ : Fin 30720) nib κ := by
    intro nib κ
    have hj : (⟨2 * (j.val / 2) + j.val % 2, by omega⟩ : Fin 512) = j := Fin.ext (by dsimp only; omega)
    unfold term product
    rw [dif_pos κ.isLt]
    refine congrArg₂ _ ?_ (congrArg₂ _ ?_ ?_)
    · refine Eq.trans ?_ (x_apply m c t q _)
      exact congrArg (fun i : Fin 16 => (iblk m c 0 t : S16x12032.Idx → EReal) (ix2 i (⟨2 * κ.val + 1 - nib.val, by omega⟩ : Fin 12032)))
        (Fin.ext (by show 2 * (q.val / 2) + q.val % 2 = q.val; omega))
    · refine congrArg (fun b : BitVec 8 => Ideal.ofBits .bf16 (LV (byteNib b nib.val))) ?_
      rw [← w_apply m c t j κ]
      exact congrArg (fun i : Fin 512 => (iblk m c 1 t : S512x6016.Idx → BitVec 8) (ix2 i κ)) hj
    · refine (scale_eq m c t (⟨j.val % 2, by omega⟩ : Fin 2) (⟨j.val / 2, by omega⟩ : Fin 256) (⟨κ.val / 32, by omega⟩ : Fin 188)).trans ?_
      exact congrArg (fun o : Fin 30720 => scale (m ((c : Thread nD τ).loc main_arg2)) (m ((c : Thread nD τ).loc main_arg3)) (m ((c : Thread nD τ).loc main_arg4))
        o (⟨κ.val / 32, by omega⟩ : Fin 188)) (Fin.ext (by show 512 * t.val + (2 * (j.val / 2) + j.val % 2) = 512 * t.val + j.val; omega))
  unfold layer
  refine Eq.trans (congrArg₂ (· + ·) (Finset.sum_congr rfl fun κ _ => one 0 κ) (Finset.sum_congr rfl fun κ _ => one 1 κ)) ?_
  exact add_comm _ _

/-- The result of the ideal kernel is the layer of its arguments. -/
theorem result_apply (q : Fin 16) (o : Fin 30720) :
    (G8 m c : S16x30720.Idx → EReal) (ix2 q o)
      = layer (m ((c : Thread nD τ).loc main_arg0)) (m ((c : Thread nD τ).loc main_arg1)) (m ((c : Thread nD τ).loc main_arg2))
          (m ((c : Thread nD τ).loc main_arg3)) (m ((c : Thread nD τ).loc main_arg4)) q o := by
  have hp : pt8Of (ix2 q o) = o.val / 512 := by
    show 60 * (q.val / 16 - 0) + 1 * (o.val / 512 - 0) = o.val / 512
    omega
  have hN : o.val / 512 < cfg0.N := lt_of_lt_of_eq (by omega) N_0.symm
  have hl : loc8Of (ix2 q o) = ix2 q (⟨o.val % 512, by omega⟩ : Fin 512) := by
    funext b
    match b with
    | ⟨0, _⟩ => exact Fin.ext (Nat.mod_eq_of_lt q.isLt)
    | ⟨1, _⟩ => rfl
  unfold G8
  rw [dif_pos (by rw [hp]; exact hN)]
  rw [fold0_congr m c _ _ (o.val / 512) (by omega) hp, ← outsAt0_sweep m c _ hN, (outs_eq m c _ hN).1, hl]
  refine (point_apply m c ⟨o.val / 512, hN⟩ q _).trans ?_
  exact congrArg (layer _ _ _ _ _ q) (Fin.ext (by show 512 * (o.val / 512) + o.val % 512 = o.val; omega))

end Cert.Inputs
-- ==== Proof.Claims.lean ====
/- The frames of the three programs, the `preserves` claim, and the equation of the ideal kernel with the ideal reference. -/
module

public import proofs.«01_k».proof.Defs
public import proofs.«01_k».proof.Proof.KernelFrame
public import proofs.«01_k».proof.Proof.Frame
public import proofs.«01_k».proof.Proof.Gen.ReferenceIdeal.Run
public import proofs.«01_k».proof.Proof.Point
public import Idealize.ShloMosaic.Lib.Bf16PairInverse
public import Idealize.ShloMosaic.Lib.Quiescent

@[expose] public section

noncomputable section

open Idealize.ShloMosaic Idealize.SL.Sem

namespace Cert.Proof

theorem frame_p : Cert.quiescent_Kernel := fun m ρ _ => Cert.Kernel.Gen.frame m ρ
theorem frame_pi : Cert.quiescent_KernelIdeal := fun m ρ _ => Cert.KernelIdeal.Gen.frame m ρ
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The rewrites read nine distinct ways: the two scratches kept as bf16 pairs, the rows read from and written as words,
    and the packs of two rounded values. -/
theorem preserves : Cert.preserves_Kernel_KernelIdeal :=
  open Cert.KernelIdeal IdealRules.bf16_pair in
  ⟨bufferStatement S2x8x2x6016 S2x8x1x6016, bufferStatement S2x192x2x256 S2x192x1x256, statement S16x128 S8x128,
    statement S1x8x2x128 S1x8x1x128, statement S512x256 S256x256, packStatement S8x128, statement S1x1x2x128 S1x1x1x128,
    statement S1x8x2x256 S1x8x1x256, statement S16x256 S8x256⟩

/-- The ideal kernel and the ideal reference both leave the layer of the arguments. -/
theorem algebraic : Cert.algebraic_KernelIdeal_ReferenceIdeal := by
  intro m g m' g' _ hagree
  refine ⟨fun c => Cert.KernelIdeal.Value.G8 m c, Cert.KernelIdeal.Value.run m g, ?_⟩
  refine (θ_run Cert.ReferenceIdeal.defs _ _).mono (fun r h c => ⟨(h c).1.trans ?_, (h c).2⟩) (Cert.ReferenceIdeal.Value.run (F := Ideal) m' g')
  funext y
  have hy : y = ix2 (y 0 : Fin 16) (y 1 : Fin 30720) := by
    funext b
    match b with
    | ⟨0, _⟩ => rfl
    | ⟨1, _⟩ => rfl
  obtain ⟨a0, a1, a2, a3, a4⟩ := hagree c
  rw [hy]
  refine (Cert.Layer.ref_apply (StableHlo.launchContents m' c) (y 0) (y 1)).trans (Eq.trans ?_ (Cert.Inputs.result_apply m c (y 0) (y 1)).symm)
  show Cert.Layer.layer (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3))
    (m' ((c.tc : Thread Cert.ReferenceIdeal.nD Cert.ReferenceIdeal.τ).loc Cert.ReferenceIdeal.main_arg4)) (y 0) (y 1) = _
  rw [a0, a1, a2, a3, a4]

end Cert.Proof

end
-- ==== Proof.lean ====
/- The proof of the claims: the frames of the three programs, the statement of the rewrites and the equation. -/
module

public import proofs.«01_k».proof.Proof.Claims

@[expose] public section

noncomputable section

namespace Cert.Proof

theorem claim : Cert.Claim :=
  ⟨Cert.Kernel.Gen.facts, Cert.KernelIdeal.Gen.facts, Cert.ReferenceIdeal.Gen.facts, frame_p, frame_pi, frame_ri, preserves, algebraic⟩

end Cert.Proof

end
